-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x64x64x512 : Shape := ⟨4, ![1, 64, 64, 512]⟩
abbrev S_ : Shape := ⟨0, ![]⟩
abbrev S3x3x512x512 : Shape := ⟨4, ![3, 3, 512, 512]⟩
abbrev S512 : Shape := ⟨1, ![512]⟩
abbrev S1x1x512x18 : Shape := ⟨4, ![1, 1, 512, 18]⟩
abbrev S18 : Shape := ⟨1, ![18]⟩
abbrev S1x1x512x36 : Shape := ⟨4, ![1, 1, 512, 36]⟩
abbrev S36 : Shape := ⟨1, ![36]⟩
abbrev S4096x9 : Shape := ⟨2, ![4096, 9]⟩
abbrev S64x64x512 : Shape := ⟨3, ![64, 64, 512]⟩
abbrev S4608x512 : Shape := ⟨2, ![4608, 512]⟩
abbrev S512x18 : Shape := ⟨2, ![512, 18]⟩
abbrev S512x36 : Shape := ⟨2, ![512, 36]⟩
abbrev S512x9 : Shape := ⟨2, ![512, 9]⟩
abbrev S512x54 : Shape := ⟨2, ![512, 54]⟩
abbrev S9 : Shape := ⟨1, ![9]⟩
abbrev S54 : Shape := ⟨1, ![54]⟩
abbrev S1x54 : Shape := ⟨2, ![1, 54]⟩
abbrev S1 : Shape := ⟨1, ![1]⟩
abbrev S1x512 : Shape := ⟨2, ![1, 512]⟩
abbrev S8x64x512 : Shape := ⟨3, ![8, 64, 512]⟩
abbrev S1x64x512 : Shape := ⟨3, ![1, 64, 512]⟩
abbrev S10x64x512 : Shape := ⟨3, ![10, 64, 512]⟩
abbrev S8x1x512 : Shape := ⟨3, ![8, 1, 512]⟩
abbrev S8x63x512 : Shape := ⟨3, ![8, 63, 512]⟩
abbrev S512x512 : Shape := ⟨2, ![512, 512]⟩
abbrev S512x256 : Shape := ⟨2, ![512, 256]⟩
abbrev S256x512 : Shape := ⟨2, ![256, 512]⟩
abbrev S36864 : Shape := ⟨1, ![36864]⟩
abbrev S6000 : Shape := ⟨1, ![6000]⟩
abbrev S144 : Shape := ⟨1, ![144]⟩
abbrev S6144 : Shape := ⟨1, ![6144]⟩
abbrev S6144x1 : Shape := ⟨2, ![6144, 1]⟩
abbrev S48x128 : Shape := ⟨2, ![48, 128]⟩
abbrev S128x128 : Shape := ⟨2, ![128, 128]⟩
abbrev S1x128 : Shape := ⟨2, ![1, 128]⟩
abbrev S128x1 : Shape := ⟨2, ![128, 1]⟩
abbrev S1x1x128 : Shape := ⟨3, ![1, 1, 128]⟩
abbrev S1x1x1 : Shape := ⟨3, ![1, 1, 1]⟩
abbrev S300 : Shape := ⟨1, ![300]⟩
abbrev S300x1 : Shape := ⟨2, ![300, 1]⟩
abbrev S300x4 : Shape := ⟨2, ![300, 4]⟩

abbrev nBuf : Space → Nat
  | .hbm => 152
  | .vmem => 41
  | .smem => 1
  | _ => 0

abbrev hbmTy0_0 (i : Nat) : BufTy := match i % 128 with
  | 0 => ⟨S1x64x64x512, .f32⟩
  | 1 => ⟨S_, .i32⟩
  | 2 => ⟨S3x3x512x512, .f32⟩
  | 3 => ⟨S512, .f32⟩
  | 4 => ⟨S1x1x512x18, .f32⟩
  | 5 => ⟨S18, .f32⟩
  | 6 => ⟨S1x1x512x36, .f32⟩
  | 7 => ⟨S36, .f32⟩
  | 8 => ⟨S4096x9, .f32⟩
  | 9 => ⟨S4096x9, .f32⟩
  | 10 => ⟨S4096x9, .f32⟩
  | 11 => ⟨S4096x9, .f32⟩
  | 12 => ⟨S64x64x512, .f32⟩
  | 13 => ⟨S4608x512, .f32⟩
  | 14 => ⟨S4608x512, .bf16⟩
  | 15 => ⟨S4608x512, .f32⟩
  | 16 => ⟨S512x18, .f32⟩
  | 17 => ⟨S512x36, .f32⟩
  | 18 => ⟨S512x9, .f32⟩
  | 19 => ⟨S512x9, .f32⟩
  | 20 => ⟨S512x9, .f32⟩
  | 21 => ⟨S512x9, .f32⟩
  | 22 => ⟨S512x9, .f32⟩
  | 23 => ⟨S512x9, .f32⟩
  | 24 => ⟨S512x54, .f32⟩
  | 25 => ⟨S512x54, .bf16⟩
  | 26 => ⟨S512x54, .f32⟩
  | 27 => ⟨S9, .f32⟩
  | 28 => ⟨S9, .f32⟩
  | 29 => ⟨S9, .f32⟩
  | 30 => ⟨S9, .f32⟩
  | 31 => ⟨S9, .f32⟩
  | 32 => ⟨S9, .f32⟩
  | 33 => ⟨S54, .f32⟩
  | 34 => ⟨S1x54, .f32⟩
  | 35 => ⟨S_, .f32⟩
  | 36 => ⟨S_, .f32⟩
  | 37 => ⟨S_, .f32⟩
  | 38 => ⟨S1, .f32⟩
  | 39 => ⟨S1x512, .f32⟩
  | 40 => ⟨S4096x9, .f32⟩
  | 41 => ⟨S4096x9, .f32⟩
  | 42 => ⟨S4096x9, .f32⟩
  | 43 => ⟨S4096x9, .f32⟩
  | 44 => ⟨S4096x9, .f32⟩
  | 45 => ⟨S36864, .f32⟩
  | 46 => ⟨S6000, .f32⟩
  | 47 => ⟨S6000, .i32⟩
  | 48 => ⟨S_, .i32⟩
  | 49 => ⟨S144, .i32⟩
  | 50 => ⟨S6144, .i32⟩
  | 51 => ⟨S36864, .f32⟩
  | 52 => ⟨S_, .i32⟩
  | 53 => ⟨S6144, .i32⟩
  | 54 => ⟨S6144, .i1⟩
  | 55 => ⟨S_, .i32⟩
  | 56 => ⟨S6144, .i32⟩
  | 57 => ⟨S6144, .i32⟩
  | 58 => ⟨S6144, .i32⟩
  | 59 => ⟨S6144x1, .i32⟩
  | 60 => ⟨S6144, .f32⟩
  | 61 => ⟨S36864, .f32⟩
  | 62 => ⟨S_, .i32⟩
  | 63 => ⟨S6144, .i32⟩
  | 64 => ⟨S6144, .i1⟩
  | 65 => ⟨S_, .i32⟩
  | 66 => ⟨S6144, .i32⟩
  | 67 => ⟨S6144, .i32⟩
  | 68 => ⟨S6144, .i32⟩
  | 69 => ⟨S6144x1, .i32⟩
  | 70 => ⟨S6144, .f32⟩
  | 71 => ⟨S36864, .f32⟩
  | 72 => ⟨S_, .i32⟩
  | 73 => ⟨S6144, .i32⟩
  | 74 => ⟨S6144, .i1⟩
  | 75 => ⟨S_, .i32⟩
  | 76 => ⟨S6144, .i32⟩
  | 77 => ⟨S6144, .i32⟩
  | 78 => ⟨S6144, .i32⟩
  | 79 => ⟨S6144x1, .i32⟩
  | 80 => ⟨S6144, .f32⟩
  | 81 => ⟨S36864, .f32⟩
  | 82 => ⟨S_, .i32⟩
  | 83 => ⟨S6144, .i32⟩
  | 84 => ⟨S6144, .i1⟩
  | 85 => ⟨S_, .i32⟩
  | 86 => ⟨S6144, .i32⟩
  | 87 => ⟨S6144, .i32⟩
  | 88 => ⟨S6144, .i32⟩
  | 89 => ⟨S6144x1, .i32⟩
  | 90 => ⟨S6144, .f32⟩
  | 91 => ⟨S48x128, .f32⟩
  | 92 => ⟨S48x128, .f32⟩
  | 93 => ⟨S48x128, .f32⟩
  | 94 => ⟨S48x128, .f32⟩
  | 95 => ⟨S6144x1, .f32⟩
  | 96 => ⟨S6144x1, .f32⟩
  | 97 => ⟨S6144x1, .f32⟩
  | 98 => ⟨S6144x1, .f32⟩
  | 99 => ⟨S48x128, .f32⟩
  | 100 => ⟨S6144, .f32⟩
  | 101 => ⟨S6000, .f32⟩
  | 102 => ⟨S_, .f32⟩
  | 103 => ⟨S6000, .f32⟩
  | 104 => ⟨S6000, .i1⟩
  | 105 => ⟨S_, .f32⟩
  | 106 => ⟨S_, .f32⟩
  | 107 => ⟨S6000, .f32⟩
  | 108 => ⟨S6000, .f32⟩
  | 109 => ⟨S300, .f32⟩
  | 110 => ⟨S300, .i32⟩
  | 111 => ⟨S_, .i32⟩
  | 112 => ⟨S300, .i32⟩
  | 113 => ⟨S300, .i1⟩
  | 114 => ⟨S_, .i32⟩
  | 115 => ⟨S300, .i32⟩
  | 116 => ⟨S300, .i32⟩
  | 117 => ⟨S300, .i32⟩
  | 118 => ⟨S300x1, .i32⟩
  | 119 => ⟨S300, .f32⟩
  | 120 => ⟨S_, .i32⟩
  | 121 => ⟨S300, .i32⟩
  | 122 => ⟨S300, .i1⟩
  | 123 => ⟨S_, .i32⟩
  | 124 => ⟨S300, .i32⟩
  | 125 => ⟨S300, .i32⟩
  | 126 => ⟨S300, .i32⟩
  | 127 => ⟨S300x1, .i32⟩
  | _ => ⟨S1x64x64x512, .f32⟩

abbrev hbmTy0_1 (i : Nat) : BufTy := match i % 128 with
  | 0 => ⟨S300, .f32⟩
  | 1 => ⟨S_, .i32⟩
  | 2 => ⟨S300, .i32⟩
  | 3 => ⟨S300, .i1⟩
  | 4 => ⟨S_, .i32⟩
  | 5 => ⟨S300, .i32⟩
  | 6 => ⟨S300, .i32⟩
  | 7 => ⟨S300, .i32⟩
  | 8 => ⟨S300x1, .i32⟩
  | 9 => ⟨S300, .f32⟩
  | 10 => ⟨S_, .i32⟩
  | 11 => ⟨S300, .i32⟩
  | 12 => ⟨S300, .i1⟩
  | 13 => ⟨S_, .i32⟩
  | 14 => ⟨S300, .i32⟩
  | 15 => ⟨S300, .i32⟩
  | 16 => ⟨S300, .i32⟩
  | 17 => ⟨S300x1, .i32⟩
  | 18 => ⟨S300, .f32⟩
  | 19 => ⟨S300x1, .f32⟩
  | 20 => ⟨S300x1, .f32⟩
  | 21 => ⟨S300x1, .f32⟩
  | 22 => ⟨S300x1, .f32⟩
  | 23 => ⟨S300x4, .f32⟩
  | _ => ⟨S1x64x64x512, .f32⟩

abbrev hbmTy (i : Nat) : BufTy := match i / 128 with
  | 0 => hbmTy0_0 i
  | 1 => hbmTy0_1 i
  | _ => ⟨S1x64x64x512, .f32⟩

abbrev bufTy : (tb : Table) → Fin (tcTables nBuf tb) → BufTy
  | .hbm, ⟨i, _⟩ => hbmTy i
  | .local _ .vmem, ⟨0, _⟩ => ⟨S8x64x512, .f32⟩
  | .local _ .vmem, ⟨1, _⟩ => ⟨S8x64x512, .f32⟩
  | .local _ .vmem, ⟨2, _⟩ => ⟨S8x64x512, .f32⟩
  | .local _ .vmem, ⟨3, _⟩ => ⟨S8x64x512, .f32⟩
  | .local _ .vmem, ⟨4, _⟩ => ⟨S8x64x512, .f32⟩
  | .local _ .vmem, ⟨5, _⟩ => ⟨S8x64x512, .f32⟩
  | .local _ .vmem, ⟨6, _⟩ => ⟨S4608x512, .f32⟩
  | .local _ .vmem, ⟨7, _⟩ => ⟨S512x54, .f32⟩
  | .local _ .vmem, ⟨8, _⟩ => ⟨S1x512, .f32⟩
  | .local _ .vmem, ⟨9, _⟩ => ⟨S1x54, .f32⟩
  | .local _ .vmem, ⟨10, _⟩ => ⟨S512x9, .f32⟩
  | .local _ .vmem, ⟨11, _⟩ => ⟨S512x9, .f32⟩
  | .local _ .vmem, ⟨12, _⟩ => ⟨S512x9, .f32⟩
  | .local _ .vmem, ⟨13, _⟩ => ⟨S512x9, .f32⟩
  | .local _ .vmem, ⟨14, _⟩ => ⟨S512x9, .f32⟩
  | .local _ .vmem, ⟨15, _⟩ => ⟨S512x9, .f32⟩
  | .local _ .vmem, ⟨16, _⟩ => ⟨S512x9, .f32⟩
  | .local _ .vmem, ⟨17, _⟩ => ⟨S512x9, .f32⟩
  | .local _ .vmem, ⟨18, _⟩ => ⟨S512x9, .f32⟩
  | .local _ .vmem, ⟨19, _⟩ => ⟨S512x9, .f32⟩
  | .local _ .vmem, ⟨20, _⟩ => ⟨S512x9, .f32⟩
  | .local _ .vmem, ⟨21, _⟩ => ⟨S512x9, .f32⟩
  | .local _ .vmem, ⟨22, _⟩ => ⟨S512x9, .f32⟩
  | .local _ .vmem, ⟨23, _⟩ => ⟨S512x9, .f32⟩
  | .local _ .vmem, ⟨24, _⟩ => ⟨S512x9, .f32⟩
  | .local _ .vmem, ⟨25, _⟩ => ⟨S512x9, .f32⟩
  | .local _ .vmem, ⟨26, _⟩ => ⟨S512x9, .f32⟩
  | .local _ .vmem, ⟨27, _⟩ => ⟨S512x9, .f32⟩
  | .local _ .vmem, ⟨28, _⟩ => ⟨S48x128, .f32⟩
  | .local _ .vmem, ⟨29, _⟩ => ⟨S48x128, .f32⟩
  | .local _ .vmem, ⟨30, _⟩ => ⟨S48x128, .f32⟩
  | .local _ .vmem, ⟨31, _⟩ => ⟨S48x128, .f32⟩
  | .local _ .vmem, ⟨32, _⟩ => ⟨S6144x1, .f32⟩
  | .local _ .vmem, ⟨33, _⟩ => ⟨S6144x1, .f32⟩
  | .local _ .vmem, ⟨34, _⟩ => ⟨S6144x1, .f32⟩
  | .local _ .vmem, ⟨35, _⟩ => ⟨S6144x1, .f32⟩
  | .local _ .vmem, ⟨36, _⟩ => ⟨S48x128, .f32⟩
  | .local _ .vmem, ⟨37, _⟩ => ⟨S48x128, .f32⟩
  | .local _ .vmem, ⟨38, _⟩ => ⟨S128x128, .f32⟩
  | .local _ .vmem, ⟨39, _⟩ => ⟨S48x128, .f32⟩
  | .local _ .vmem, ⟨40, _⟩ => ⟨S6144x1, .f32⟩
  | .local _ .smem, ⟨0, _⟩ => ⟨S1, .f32⟩
  | _, _ => ⟨S1x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .smem, ⟨0, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_cst_2 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v27_2 : Ref sig .tc := ⟨.hbm, 42, rfl⟩
abbrev main_v27_3 : Ref sig .tc := ⟨.hbm, 43, rfl⟩
abbrev main_v27_4 : Ref sig .tc := ⟨.hbm, 44, rfl⟩
abbrev main_v28 : Ref sig .tc := ⟨.hbm, 45, rfl⟩
abbrev main_values : Ref sig .tc := ⟨.hbm, 46, rfl⟩
abbrev main_indices : Ref sig .tc := ⟨.hbm, 47, rfl⟩
abbrev main_c : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_6 : Ref sig .tc := ⟨.hbm, 62, rfl⟩
abbrev main_v40 : Ref sig .tc := ⟨.hbm, 63, rfl⟩
abbrev main_v41 : Ref sig .tc := ⟨.hbm, 64, rfl⟩
abbrev main_c_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_c_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_12 : Ref sig .tc := ⟨.hbm, 102, rfl⟩
abbrev main_v74 : Ref sig .tc := ⟨.hbm, 103, rfl⟩
abbrev main_v75 : Ref sig .tc := ⟨.hbm, 104, rfl⟩
abbrev main_cst_13 : Ref sig .tc := ⟨.hbm, 105, rfl⟩
abbrev main_call0_v0 : Ref sig .tc := ⟨.hbm, 106, rfl⟩
abbrev main_call0_v1 : Ref sig .tc := ⟨.hbm, 107, rfl⟩
abbrev main_v76 : Ref sig .tc := ⟨.hbm, 108, rfl⟩
abbrev main_values_14 : Ref sig .tc := ⟨.hbm, 109, rfl⟩
abbrev main_indices_15 : Ref sig .tc := ⟨.hbm, 110, rfl⟩
abbrev main_c_16 : Ref sig .tc := ⟨.hbm, 111, rfl⟩
abbrev main_v77 : Ref sig .tc := ⟨.hbm, 112, rfl⟩
abbrev main_v78 : Ref sig .tc := ⟨.hbm, 113, rfl⟩
abbrev main_c_17 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_18 : Ref sig .tc := ⟨.hbm, 120, rfl⟩
abbrev main_v84 : Ref sig .tc := ⟨.hbm, 121, rfl⟩
abbrev main_v85 : Ref sig .tc := ⟨.hbm, 122, rfl⟩
abbrev main_c_19 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_20 : Ref sig .tc := ⟨.hbm, 129, rfl⟩
abbrev main_v91 : Ref sig .tc := ⟨.hbm, 130, rfl⟩
abbrev main_v92 : Ref sig .tc := ⟨.hbm, 131, rfl⟩
abbrev main_c_21 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c_22 : Ref sig .tc := ⟨.hbm, 138, rfl⟩
abbrev main_v98 : Ref sig .tc := ⟨.hbm, 139, rfl⟩
abbrev main_v99 : Ref sig .tc := ⟨.hbm, 140, rfl⟩
abbrev main_c_23 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc1_stg0_0 : Ref sig .tc := ⟨.vmem, 28, rfl⟩
abbrev cc1_stg1_0 : Ref sig .tc := ⟨.vmem, 29, rfl⟩
abbrev cc1_stg2_0 : Ref sig .tc := ⟨.vmem, 30, rfl⟩
abbrev cc1_stg3_0 : Ref sig .tc := ⟨.vmem, 31, rfl⟩
abbrev cc1_stg4_0 : Ref sig .tc := ⟨.vmem, 32, rfl⟩
abbrev cc1_stg5_0 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg8_0 : Ref sig .tc := ⟨.vmem, 36, rfl⟩
abbrev cc1_scratch0 : Ref sig .tc := ⟨.vmem, 37, rfl⟩
abbrev cc1_scratch1 : Ref sig .tc := ⟨.vmem, 38, rfl⟩
abbrev cc1_scratch2 : Ref sig .tc := ⟨.vmem, 39, rfl⟩
abbrev cc1_scratch3 : Ref sig .tc := ⟨.vmem, 40, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc1_sem0_0 : DmaSem sig := 29
abbrev cc1_sem1_0 : DmaSem sig := 30
abbrev cc1_sem2_0 : DmaSem sig := 31
abbrev cc1_sem3_0 : DmaSem sig := 32
abbrev cc1_sem4_0 : DmaSem sig := 33
abbrev cc1_sem5_0 : DmaSem sig := 34
abbrev cc1_sem6_0 : DmaSem sig := 35
abbrev cc1_sem7_0 : DmaSem sig := 36
abbrev cc1_sem8_0 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c_m1_i32 : BitVec 32 := 4294967295#32
  let v0 : BitVec 32 := Scalar.addi arg0 c_m1_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  let c0_i32_2 : BitVec 32 := 0#32
  ![v2.toNat, c0_i32_0.toNat, c0_i32_1.toNat]

def cc0_transform_2 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  let c0_i32_3 : BitVec 32 := 0#32
  ![v2.toNat, c0_i32_1.toNat, c0_i32_2.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  let c0_i32_2 : BitVec 32 := 0#32
  ![v2.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4608x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x54 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x54 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x9 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x9 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x9 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x9 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x9 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x9 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x9 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x9 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x9 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := .none

@[reducible] def k1_t1_loop : Scf.Loop 32 :=
  let c0_i32 : BitVec 32 := 0#32
  let c48_i32 : BitVec 32 := 48#32
  let v51 : BitVec 32 := Scalar.addi c0_i32 c48_i32
  let c1_i32 : BitVec 32 := 1#32
  ⟨c0_i32, v51, c1_i32⟩
def k1_off1 (k1_t1 : Fin k1_t1_loop.trips) : Fin 2 → Nat :=
  let c0_i32 : BitVec 32 := 0#32
  let c1_i32 : BitVec 32 := 1#32
  let arg13 : BitVec 32 := Scf.iv c0_i32 c1_i32 k1_t1
  let c128_i32_30 : BitVec 32 := 128#32
  let v56 : BitVec 32 := Scalar.muli arg13 c128_i32_30
  let v57 : Index := Scalar.indexCast v56
  let c0_31 : Index := 0#32
  ![v57.toNat, 0]
def k1_off2 (k1_t1 : Fin k1_t1_loop.trips) : Fin 2 → Nat :=
  let c0_i32 : BitVec 32 := 0#32
  let c1_i32 : BitVec 32 := 1#32
  let arg13 : BitVec 32 := Scf.iv c0_i32 c1_i32 k1_t1
  let v75 : Index := Scalar.indexCast arg13
  let c0_40 : Index := 0#32
  ![v75.toNat, 0]
@[reducible] def k1_t2_loop : Scf.Loop 32 :=
  let c0_i32_55 : BitVec 32 := 0#32
  let c128_i32_56 : BitVec 32 := 128#32
  let v129 : BitVec 32 := Scalar.addi c0_i32_55 c128_i32_56
  let c1_i32_57 : BitVec 32 := 1#32
  ⟨c0_i32_55, v129, c1_i32_57⟩
def k1_off3 (k1_t2 : Fin k1_t2_loop.trips) : Fin 2 → Nat :=
  let c0_i32_55 : BitVec 32 := 0#32
  let c1_i32_57 : BitVec 32 := 1#32
  let arg14 : BitVec 32 := Scf.iv c0_i32_55 c1_i32_57 k1_t2
  let v154 : Index := Scalar.indexCast arg14
  let c0_68 : Index := 0#32
  ![v154.toNat, 0]
@[reducible] def k1_t3_loop (k1_t1 : Fin k1_t1_loop.trips) : Scf.Loop 32 :=
  let c0_i32 : BitVec 32 := 0#32
  let c1_i32 : BitVec 32 := 1#32
  let arg13 : BitVec 32 := Scf.iv c0_i32 c1_i32 k1_t1
  let c1_i32_61 : BitVec 32 := 1#32
  let v137 : BitVec 32 := Scalar.addi arg13 c1_i32_61
  let c48_i32_62 : BitVec 32 := 48#32
  let v138 : BitVec 32 := Scalar.subi c48_i32_62 v137
  let c1_i32_64 : BitVec 32 := 1#32
  let v140 : BitVec 32 := Scalar.divsi v138 c1_i32_64
  let v141 : BitVec 32 := Scalar.muli v140 c1_i32_64
  let v142 : BitVec 32 := Scalar.addi v137 v141
  let c1_i32_65 : BitVec 32 := 1#32
  ⟨v137, v142, c1_i32_65⟩
def k1_off4 (k1_t1 : Fin k1_t1_loop.trips) : Fin 2 → Nat :=
  let c0_i32 : BitVec 32 := 0#32
  let c1_i32 : BitVec 32 := 1#32
  let arg13 : BitVec 32 := Scf.iv c0_i32 c1_i32 k1_t1
  let c128_i32_67 : BitVec 32 := 128#32
  let v145 : BitVec 32 := Scalar.muli arg13 c128_i32_67
  let v146 : Index := Scalar.indexCast v145
  let c0_68 : Index := 0#32
  ![v146.toNat, 0]
def k1_off5 (k1_t1 : Fin k1_t1_loop.trips) (k1_t3 : Fin (k1_t3_loop k1_t1).trips) : Fin 2 → Nat :=
  let c0_i32 : BitVec 32 := 0#32
  let c1_i32 : BitVec 32 := 1#32
  let arg13 : BitVec 32 := Scf.iv c0_i32 c1_i32 k1_t1
  let c1_i32_61 : BitVec 32 := 1#32
  let v137 : BitVec 32 := Scalar.addi arg13 c1_i32_61
  let c1_i32_65 : BitVec 32 := 1#32
  let arg14 : BitVec 32 := Scf.iv v137 c1_i32_65 k1_t3
  let v164 : Index := Scalar.indexCast arg14
  let c0_77 : Index := 0#32
  ![v164.toNat, 0]
@[reducible] def k1_t4_loop (k1_t1 : Fin k1_t1_loop.trips) : Scf.Loop 32 :=
  let c0_i32 : BitVec 32 := 0#32
  let c1_i32 : BitVec 32 := 1#32
  let arg13 : BitVec 32 := Scf.iv c0_i32 c1_i32 k1_t1
  let c1_i32_61 : BitVec 32 := 1#32
  let v137 : BitVec 32 := Scalar.addi arg13 c1_i32_61
  let c48_i32_62 : BitVec 32 := 48#32
  let v138 : BitVec 32 := Scalar.subi c48_i32_62 v137
  let c1_i32_64 : BitVec 32 := 1#32
  let v140 : BitVec 32 := Scalar.divsi v138 c1_i32_64
  let v141 : BitVec 32 := Scalar.muli v140 c1_i32_64
  let v142 : BitVec 32 := Scalar.addi v137 v141
  let v139 : BitVec 32 := Scalar.addi v137 v138
  let c1_i32_66 : BitVec 32 := 1#32
  ⟨v142, v139, c1_i32_66⟩
def k1_off6 (k1_t1 : Fin k1_t1_loop.trips) : Fin 2 → Nat :=
  let c0_i32 : BitVec 32 := 0#32
  let c1_i32 : BitVec 32 := 1#32
  let arg13 : BitVec 32 := Scf.iv c0_i32 c1_i32 k1_t1
  let c128_i32_67 : BitVec 32 := 128#32
  let v145 : BitVec 32 := Scalar.muli arg13 c128_i32_67
  let v146 : Index := Scalar.indexCast v145
  let c0_68 : Index := 0#32
  ![v146.toNat, 0]
def k1_off7 (k1_t1 : Fin k1_t1_loop.trips) (k1_t4 : Fin (k1_t4_loop k1_t1).trips) : Fin 2 → Nat :=
  let c0_i32 : BitVec 32 := 0#32
  let c1_i32 : BitVec 32 := 1#32
  let arg13 : BitVec 32 := Scf.iv c0_i32 c1_i32 k1_t1
  let c1_i32_61 : BitVec 32 := 1#32
  let v137 : BitVec 32 := Scalar.addi arg13 c1_i32_61
  let c48_i32_62 : BitVec 32 := 48#32
  let v138 : BitVec 32 := Scalar.subi c48_i32_62 v137
  let c1_i32_64 : BitVec 32 := 1#32
  let v140 : BitVec 32 := Scalar.divsi v138 c1_i32_64
  let v141 : BitVec 32 := Scalar.muli v140 c1_i32_64
  let v142 : BitVec 32 := Scalar.addi v137 v141
  let c1_i32_66 : BitVec 32 := 1#32
  let arg14 : BitVec 32 := Scf.iv v142 c1_i32_66 k1_t4
  let v164 : Index := Scalar.indexCast arg14
  let c0_77 : Index := 0#32
  ![v164.toNat, 0]
abbrev stage1_0 : Fin 1 → Memref sig .tc .vmem S48x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S48x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S48x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S48x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S6144x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S6144x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S6144x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S6144x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S48x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
-- ==== ReferenceIdeal.lean ====
abbrev S1x64x64x512 : Shape := ⟨4, ![1, 64, 64, 512]⟩
abbrev S_ : Shape := ⟨0, ![]⟩
abbrev S3x3x512x512 : Shape := ⟨4, ![3, 3, 512, 512]⟩
abbrev S512 : Shape := ⟨1, ![512]⟩
abbrev S1x1x512x18 : Shape := ⟨4, ![1, 1, 512, 18]⟩
abbrev S18 : Shape := ⟨1, ![18]⟩
abbrev S1x1x512x36 : Shape := ⟨4, ![1, 1, 512, 36]⟩
abbrev S36 : Shape := ⟨1, ![36]⟩
abbrev S36864x4 : Shape := ⟨2, ![36864, 4]⟩
abbrev S64x64x512 : Shape := ⟨3, ![64, 64, 512]⟩
abbrev S66x66x512 : Shape := ⟨3, ![66, 66, 512]⟩
abbrev S1x1x512x512 : Shape := ⟨4, ![1, 1, 512, 512]⟩
abbrev S512x512 : Shape := ⟨2, ![512, 512]⟩
abbrev S1x1x512 : Shape := ⟨3, ![1, 1, 512]⟩
abbrev S512x18 : Shape := ⟨2, ![512, 18]⟩
abbrev S64x64x18 : Shape := ⟨3, ![64, 64, 18]⟩
abbrev S1x1x18 : Shape := ⟨3, ![1, 1, 18]⟩
abbrev S1x64x64x9x2 : Shape := ⟨5, ![1, 64, 64, 9, 2]⟩
abbrev S1x64x64x9 : Shape := ⟨4, ![1, 64, 64, 9]⟩
abbrev S1x64x64x9x1 : Shape := ⟨5, ![1, 64, 64, 9, 1]⟩
abbrev S512x36 : Shape := ⟨2, ![512, 36]⟩
abbrev S64x64x36 : Shape := ⟨3, ![64, 64, 36]⟩
abbrev S1x1x36 : Shape := ⟨3, ![1, 1, 36]⟩
abbrev S1x64x64x9x4 : Shape := ⟨5, ![1, 64, 64, 9, 4]⟩
abbrev S36864 : Shape := ⟨1, ![36864]⟩
abbrev S36864x1 : Shape := ⟨2, ![36864, 1]⟩
abbrev S6000 : Shape := ⟨1, ![6000]⟩
abbrev S6000x1 : Shape := ⟨2, ![6000, 1]⟩
abbrev S6000x4 : Shape := ⟨2, ![6000, 4]⟩
abbrev S1 : Shape := ⟨1, ![1]⟩
abbrev S300 : Shape := ⟨1, ![300]⟩
abbrev S300x1 : Shape := ⟨2, ![300, 1]⟩
abbrev S300x4 : Shape := ⟨2, ![300, 4]⟩

abbrev nBuf : Space → Nat
  | .hbm => 375
  | .vmem => 0
  | .smem => 0
  | _ => 0

abbrev hbmTy0_0 (i : Nat) : BufTy := match i % 128 with
  | 0 => ⟨S1x64x64x512, .f32⟩
  | 1 => ⟨S_, .i32⟩
  | 2 => ⟨S3x3x512x512, .f32⟩
  | 3 => ⟨S512, .f32⟩
  | 4 => ⟨S1x1x512x18, .f32⟩
  | 5 => ⟨S18, .f32⟩
  | 6 => ⟨S1x1x512x36, .f32⟩
  | 7 => ⟨S36, .f32⟩
  | 8 => ⟨S36864x4, .f32⟩
  | 9 => ⟨S64x64x512, .f32⟩
  | 10 => ⟨S_, .i32⟩
  | 11 => ⟨S_, .f32⟩
  | 12 => ⟨S66x66x512, .f32⟩
  | 13 => ⟨S_, .f32⟩
  | 14 => ⟨S64x64x512, .f32⟩
  | 15 => ⟨S64x64x512, .f32⟩
  | 16 => ⟨S1x1x512x512, .f32⟩
  | 17 => ⟨S512x512, .f32⟩
  | 18 => ⟨S64x64x512, .f32⟩
  | 19 => ⟨S64x64x512, .f32⟩
  | 20 => ⟨S64x64x512, .f32⟩
  | 21 => ⟨S1x1x512x512, .f32⟩
  | 22 => ⟨S512x512, .f32⟩
  | 23 => ⟨S64x64x512, .f32⟩
  | 24 => ⟨S64x64x512, .f32⟩
  | 25 => ⟨S64x64x512, .f32⟩
  | 26 => ⟨S1x1x512x512, .f32⟩
  | 27 => ⟨S512x512, .f32⟩
  | 28 => ⟨S64x64x512, .f32⟩
  | 29 => ⟨S64x64x512, .f32⟩
  | 30 => ⟨S64x64x512, .f32⟩
  | 31 => ⟨S1x1x512x512, .f32⟩
  | 32 => ⟨S512x512, .f32⟩
  | 33 => ⟨S64x64x512, .f32⟩
  | 34 => ⟨S64x64x512, .f32⟩
  | 35 => ⟨S64x64x512, .f32⟩
  | 36 => ⟨S1x1x512x512, .f32⟩
  | 37 => ⟨S512x512, .f32⟩
  | 38 => ⟨S64x64x512, .f32⟩
  | 39 => ⟨S64x64x512, .f32⟩
  | 40 => ⟨S64x64x512, .f32⟩
  | 41 => ⟨S1x1x512x512, .f32⟩
  | 42 => ⟨S512x512, .f32⟩
  | 43 => ⟨S64x64x512, .f32⟩
  | 44 => ⟨S64x64x512, .f32⟩
  | 45 => ⟨S64x64x512, .f32⟩
  | 46 => ⟨S1x1x512x512, .f32⟩
  | 47 => ⟨S512x512, .f32⟩
  | 48 => ⟨S64x64x512, .f32⟩
  | 49 => ⟨S64x64x512, .f32⟩
  | 50 => ⟨S64x64x512, .f32⟩
  | 51 => ⟨S1x1x512x512, .f32⟩
  | 52 => ⟨S512x512, .f32⟩
  | 53 => ⟨S64x64x512, .f32⟩
  | 54 => ⟨S64x64x512, .f32⟩
  | 55 => ⟨S64x64x512, .f32⟩
  | 56 => ⟨S1x1x512x512, .f32⟩
  | 57 => ⟨S512x512, .f32⟩
  | 58 => ⟨S64x64x512, .f32⟩
  | 59 => ⟨S64x64x512, .f32⟩
  | 60 => ⟨S1x1x512, .f32⟩
  | 61 => ⟨S64x64x512, .f32⟩
  | 62 => ⟨S64x64x512, .f32⟩
  | 63 => ⟨S_, .f32⟩
  | 64 => ⟨S64x64x512, .f32⟩
  | 65 => ⟨S64x64x512, .f32⟩
  | 66 => ⟨S512x18, .f32⟩
  | 67 => ⟨S64x64x18, .f32⟩
  | 68 => ⟨S1x1x18, .f32⟩
  | 69 => ⟨S64x64x18, .f32⟩
  | 70 => ⟨S64x64x18, .f32⟩
  | 71 => ⟨S1x64x64x9x2, .f32⟩
  | 72 => ⟨S_, .f32⟩
  | 73 => ⟨S1x64x64x9, .f32⟩
  | 74 => ⟨S_, .f32⟩
  | 75 => ⟨S1x64x64x9, .f32⟩
  | 76 => ⟨S1x64x64x9, .f32⟩
  | 77 => ⟨S1x64x64x9x1, .f32⟩
  | 78 => ⟨S1x64x64x9x2, .f32⟩
  | 79 => ⟨S1x64x64x9x2, .f32⟩
  | 80 => ⟨S1x64x64x9x2, .f32⟩
  | 81 => ⟨S_, .f32⟩
  | 82 => ⟨S1x64x64x9, .f32⟩
  | 83 => ⟨S1x64x64x9x1, .f32⟩
  | 84 => ⟨S1x64x64x9x2, .f32⟩
  | 85 => ⟨S1x64x64x9x2, .f32⟩
  | 86 => ⟨S512x36, .f32⟩
  | 87 => ⟨S64x64x36, .f32⟩
  | 88 => ⟨S1x1x36, .f32⟩
  | 89 => ⟨S64x64x36, .f32⟩
  | 90 => ⟨S64x64x36, .f32⟩
  | 91 => ⟨S1x64x64x9x4, .f32⟩
  | 92 => ⟨S1x64x64x9x1, .f32⟩
  | 93 => ⟨S1x64x64x9, .f32⟩
  | 94 => ⟨S36864, .f32⟩
  | 95 => ⟨S36864x4, .f32⟩
  | 96 => ⟨S36864x1, .f32⟩
  | 97 => ⟨S36864, .f32⟩
  | 98 => ⟨S36864x1, .f32⟩
  | 99 => ⟨S36864, .f32⟩
  | 100 => ⟨S36864, .f32⟩
  | 101 => ⟨S_, .f32⟩
  | 102 => ⟨S36864, .f32⟩
  | 103 => ⟨S36864, .f32⟩
  | 104 => ⟨S36864x1, .f32⟩
  | 105 => ⟨S36864, .f32⟩
  | 106 => ⟨S36864x1, .f32⟩
  | 107 => ⟨S36864, .f32⟩
  | 108 => ⟨S36864, .f32⟩
  | 109 => ⟨S_, .f32⟩
  | 110 => ⟨S36864, .f32⟩
  | 111 => ⟨S36864, .f32⟩
  | 112 => ⟨S36864x1, .f32⟩
  | 113 => ⟨S36864, .f32⟩
  | 114 => ⟨S_, .f32⟩
  | 115 => ⟨S36864, .f32⟩
  | 116 => ⟨S36864, .f32⟩
  | 117 => ⟨S36864, .f32⟩
  | 118 => ⟨S36864x1, .f32⟩
  | 119 => ⟨S36864, .f32⟩
  | 120 => ⟨S_, .f32⟩
  | 121 => ⟨S36864, .f32⟩
  | 122 => ⟨S36864, .f32⟩
  | 123 => ⟨S36864, .f32⟩
  | 124 => ⟨S36864x1, .f32⟩
  | 125 => ⟨S36864, .f32⟩
  | 126 => ⟨S36864x1, .f32⟩
  | 127 => ⟨S36864, .f32⟩
  | _ => ⟨S1x64x64x512, .f32⟩

abbrev hbmTy0_1 (i : Nat) : BufTy := match i % 128 with
  | 0 => ⟨S36864x1, .f32⟩
  | 1 => ⟨S36864, .f32⟩
  | 2 => ⟨S36864x1, .f32⟩
  | 3 => ⟨S36864, .f32⟩
  | 4 => ⟨S36864, .f32⟩
  | 5 => ⟨S36864, .f32⟩
  | 6 => ⟨S36864, .f32⟩
  | 7 => ⟨S36864, .f32⟩
  | 8 => ⟨S36864, .f32⟩
  | 9 => ⟨S36864, .f32⟩
  | 10 => ⟨S36864, .f32⟩
  | 11 => ⟨S36864, .f32⟩
  | 12 => ⟨S_, .f32⟩
  | 13 => ⟨S36864, .f32⟩
  | 14 => ⟨S36864, .f32⟩
  | 15 => ⟨S36864, .f32⟩
  | 16 => ⟨S_, .f32⟩
  | 17 => ⟨S36864, .f32⟩
  | 18 => ⟨S36864, .f32⟩
  | 19 => ⟨S36864, .f32⟩
  | 20 => ⟨S_, .f32⟩
  | 21 => ⟨S36864, .f32⟩
  | 22 => ⟨S36864, .f32⟩
  | 23 => ⟨S36864, .f32⟩
  | 24 => ⟨S_, .f32⟩
  | 25 => ⟨S36864, .f32⟩
  | 26 => ⟨S36864, .f32⟩
  | 27 => ⟨S36864, .f32⟩
  | 28 => ⟨S36864x1, .f32⟩
  | 29 => ⟨S36864x1, .f32⟩
  | 30 => ⟨S36864x1, .f32⟩
  | 31 => ⟨S36864x1, .f32⟩
  | 32 => ⟨S36864x4, .f32⟩
  | 33 => ⟨S36864x1, .f32⟩
  | 34 => ⟨S36864, .f32⟩
  | 35 => ⟨S_, .f32⟩
  | 36 => ⟨S_, .f32⟩
  | 37 => ⟨S_, .f32⟩
  | 38 => ⟨S_, .f32⟩
  | 39 => ⟨S_, .f32⟩
  | 40 => ⟨S36864, .f32⟩
  | 41 => ⟨S36864, .f32⟩
  | 42 => ⟨S_, .f32⟩
  | 43 => ⟨S36864, .f32⟩
  | 44 => ⟨S36864, .f32⟩
  | 45 => ⟨S36864x1, .f32⟩
  | 46 => ⟨S36864, .f32⟩
  | 47 => ⟨S_, .f32⟩
  | 48 => ⟨S_, .f32⟩
  | 49 => ⟨S_, .f32⟩
  | 50 => ⟨S_, .f32⟩
  | 51 => ⟨S_, .f32⟩
  | 52 => ⟨S36864, .f32⟩
  | 53 => ⟨S36864, .f32⟩
  | 54 => ⟨S_, .f32⟩
  | 55 => ⟨S36864, .f32⟩
  | 56 => ⟨S36864, .f32⟩
  | 57 => ⟨S36864x1, .f32⟩
  | 58 => ⟨S36864, .f32⟩
  | 59 => ⟨S_, .f32⟩
  | 60 => ⟨S_, .f32⟩
  | 61 => ⟨S_, .f32⟩
  | 62 => ⟨S_, .f32⟩
  | 63 => ⟨S_, .f32⟩
  | 64 => ⟨S36864, .f32⟩
  | 65 => ⟨S36864, .f32⟩
  | 66 => ⟨S_, .f32⟩
  | 67 => ⟨S36864, .f32⟩
  | 68 => ⟨S36864, .f32⟩
  | 69 => ⟨S36864x1, .f32⟩
  | 70 => ⟨S36864, .f32⟩
  | 71 => ⟨S_, .f32⟩
  | 72 => ⟨S_, .f32⟩
  | 73 => ⟨S_, .f32⟩
  | 74 => ⟨S_, .f32⟩
  | 75 => ⟨S_, .f32⟩
  | 76 => ⟨S36864, .f32⟩
  | 77 => ⟨S36864, .f32⟩
  | 78 => ⟨S_, .f32⟩
  | 79 => ⟨S36864, .f32⟩
  | 80 => ⟨S36864, .f32⟩
  | 81 => ⟨S36864x1, .f32⟩
  | 82 => ⟨S36864x1, .f32⟩
  | 83 => ⟨S36864x1, .f32⟩
  | 84 => ⟨S36864x1, .f32⟩
  | 85 => ⟨S36864x4, .f32⟩
  | 86 => ⟨S6000, .f32⟩
  | 87 => ⟨S6000, .i32⟩
  | 88 => ⟨S_, .i32⟩
  | 89 => ⟨S6000, .i32⟩
  | 90 => ⟨S6000, .i1⟩
  | 91 => ⟨S_, .i32⟩
  | 92 => ⟨S6000, .i32⟩
  | 93 => ⟨S6000, .i32⟩
  | 94 => ⟨S6000, .i32⟩
  | 95 => ⟨S6000x1, .i32⟩
  | 96 => ⟨S6000x4, .f32⟩
  | 97 => ⟨S6000x1, .f32⟩
  | 98 => ⟨S6000, .f32⟩
  | 99 => ⟨S6000x1, .f32⟩
  | 100 => ⟨S6000, .f32⟩
  | 101 => ⟨S6000x1, .f32⟩
  | 102 => ⟨S6000, .f32⟩
  | 103 => ⟨S6000x1, .f32⟩
  | 104 => ⟨S6000, .f32⟩
  | 105 => ⟨S6000, .f32⟩
  | 106 => ⟨S_, .f32⟩
  | 107 => ⟨S6000, .f32⟩
  | 108 => ⟨S6000, .f32⟩
  | 109 => ⟨S6000, .f32⟩
  | 110 => ⟨S_, .f32⟩
  | 111 => ⟨S6000, .f32⟩
  | 112 => ⟨S6000, .f32⟩
  | 113 => ⟨S6000, .f32⟩
  | 114 => ⟨S_, .i1⟩
  | 115 => ⟨S6000, .i1⟩
  | 116 => ⟨S_, .i1⟩
  | 117 => ⟨S6000, .i1⟩
  | 118 => ⟨S_, .i32⟩
  | 119 => ⟨S_, .i32⟩
  | 120 => ⟨S6000, .f32⟩
  | 121 => ⟨S6000, .f32⟩
  | 122 => ⟨S6000, .f32⟩
  | 123 => ⟨S6000, .f32⟩
  | 124 => ⟨S6000, .f32⟩
  | 125 => ⟨S_, .i32⟩
  | 126 => ⟨S_, .i32⟩
  | 127 => ⟨S6000, .i1⟩
  | _ => ⟨S1x64x64x512, .f32⟩

abbrev hbmTy0_2 (i : Nat) : BufTy := match i % 128 with
  | 0 => ⟨S6000, .i1⟩
  | 1 => ⟨S_, .i32⟩
  | 2 => ⟨S_, .i1⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S1, .i1⟩
  | 12 => ⟨S_, .i1⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S1, .f32⟩
  | 20 => ⟨S_, .f32⟩
  | 21 => ⟨S6000, .f32⟩
  | 22 => ⟨S6000, .f32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S1, .f32⟩
  | 30 => ⟨S_, .f32⟩
  | 31 => ⟨S6000, .f32⟩
  | 32 => ⟨S6000, .f32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S1, .f32⟩
  | 40 => ⟨S_, .f32⟩
  | 41 => ⟨S6000, .f32⟩
  | 42 => ⟨S6000, .f32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S1, .f32⟩
  | 50 => ⟨S_, .f32⟩
  | 51 => ⟨S6000, .f32⟩
  | 52 => ⟨S6000, .f32⟩
  | 53 => ⟨S6000, .f32⟩
  | 54 => ⟨S_, .f32⟩
  | 55 => ⟨S6000, .f32⟩
  | 56 => ⟨S6000, .f32⟩
  | 57 => ⟨S_, .f32⟩
  | 58 => ⟨S6000, .f32⟩
  | 59 => ⟨S6000, .f32⟩
  | 60 => ⟨S6000, .f32⟩
  | 61 => ⟨S_, .f32⟩
  | 62 => ⟨S6000, .f32⟩
  | 63 => ⟨S6000, .f32⟩
  | 64 => ⟨S_, .f32⟩
  | 65 => ⟨S6000, .f32⟩
  | 66 => ⟨S6000, .f32⟩
  | 67 => ⟨S6000, .f32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S1, .f32⟩
  | 75 => ⟨S_, .f32⟩
  | 76 => ⟨S6000, .f32⟩
  | 77 => ⟨S6000, .f32⟩
  | 78 => ⟨S6000, .f32⟩
  | 79 => ⟨S6000, .f32⟩
  | 80 => ⟨S_, .i1⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S1, .i32⟩
  | 88 => ⟨S6000, .i1⟩
  | 89 => ⟨S_, .f32⟩
  | 90 => ⟨S6000, .f32⟩
  | 91 => ⟨S6000, .i1⟩
  | 92 => ⟨S6000, .i1⟩
  | 93 => ⟨S6000, .i1⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S1, .i32⟩
  | 101 => ⟨S6000, .i1⟩
  | 102 => ⟨S_, .i32⟩
  | 103 => ⟨S_, .i32⟩
  | 104 => ⟨S_, .f32⟩
  | 105 => ⟨S_, .f32⟩
  | 106 => ⟨S6000, .f32⟩
  | 107 => ⟨S6000, .f32⟩
  | 108 => ⟨S300, .f32⟩
  | 109 => ⟨S300, .i32⟩
  | 110 => ⟨S_, .i32⟩
  | 111 => ⟨S300, .i32⟩
  | 112 => ⟨S300, .i1⟩
  | 113 => ⟨S_, .i32⟩
  | 114 => ⟨S300, .i32⟩
  | 115 => ⟨S300, .i32⟩
  | 116 => ⟨S300, .i32⟩
  | 117 => ⟨S300x1, .i32⟩
  | 118 => ⟨S300x4, .f32⟩
  | _ => ⟨S1x64x64x512, .f32⟩

abbrev hbmTy (i : Nat) : BufTy := match i / 128 with
  | 0 => hbmTy0_0 i
  | 1 => hbmTy0_1 i
  | 2 => hbmTy0_2 i
  | _ => ⟨S1x64x64x512, .f32⟩

abbrev bufTy : (tb : Table) → Fin (tcTables nBuf tb) → BufTy
  | .hbm, ⟨i, _⟩ => hbmTy i
  | _, _ => ⟨S1x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_call1_cst : Ref sig .tc := ⟨.hbm, 63, rfl⟩
abbrev main_call1_v0 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_1 : Ref sig .tc := ⟨.hbm, 72, rfl⟩
abbrev main_v58 : Ref sig .tc := ⟨.hbm, 73, rfl⟩
abbrev main_cst_2 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_3 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_4 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_5 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_cst_6 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_cst_7 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_cst_8 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_cst_9 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_cst_10 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_cst_11 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_cst_12 : Ref sig .tc := ⟨.hbm, 164, rfl⟩
abbrev main_v139 : Ref sig .tc := ⟨.hbm, 165, rfl⟩
abbrev main_cst_13 : Ref sig .tc := ⟨.hbm, 166, rfl⟩
abbrev main_call2_v0 : Ref sig .tc := ⟨.hbm, 167, rfl⟩
abbrev main_call2_v1 : Ref sig .tc := ⟨.hbm, 168, rfl⟩
abbrev main_call2_v2 : Ref sig .tc := ⟨.hbm, 169, rfl⟩
abbrev main_call2_v3 : Ref sig .tc := ⟨.hbm, 170, rfl⟩
abbrev main_call2_v4 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_cst_14 : Ref sig .tc := ⟨.hbm, 176, rfl⟩
abbrev main_v144 : Ref sig .tc := ⟨.hbm, 177, rfl⟩
abbrev main_cst_15 : Ref sig .tc := ⟨.hbm, 178, rfl⟩
abbrev main_call3_v0 : Ref sig .tc := ⟨.hbm, 179, rfl⟩
abbrev main_call3_v1 : Ref sig .tc := ⟨.hbm, 180, rfl⟩
abbrev main_call3_v2 : Ref sig .tc := ⟨.hbm, 181, rfl⟩
abbrev main_call3_v3 : Ref sig .tc := ⟨.hbm, 182, rfl⟩
abbrev main_call3_v4 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_cst_16 : Ref sig .tc := ⟨.hbm, 188, rfl⟩
abbrev main_v149 : Ref sig .tc := ⟨.hbm, 189, rfl⟩
abbrev main_cst_17 : Ref sig .tc := ⟨.hbm, 190, rfl⟩
abbrev main_call4_v0 : Ref sig .tc := ⟨.hbm, 191, rfl⟩
abbrev main_call4_v1 : Ref sig .tc := ⟨.hbm, 192, rfl⟩
abbrev main_call4_v2 : Ref sig .tc := ⟨.hbm, 193, rfl⟩
abbrev main_call4_v3 : Ref sig .tc := ⟨.hbm, 194, rfl⟩
abbrev main_call4_v4 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_cst_18 : Ref sig .tc := ⟨.hbm, 200, rfl⟩
abbrev main_v154 : Ref sig .tc := ⟨.hbm, 201, rfl⟩
abbrev main_cst_19 : Ref sig .tc := ⟨.hbm, 202, rfl⟩
abbrev main_call5_v0 : Ref sig .tc := ⟨.hbm, 203, rfl⟩
abbrev main_call5_v1 : Ref sig .tc := ⟨.hbm, 204, rfl⟩
abbrev main_call5_v2 : Ref sig .tc := ⟨.hbm, 205, rfl⟩
abbrev main_call5_v3 : Ref sig .tc := ⟨.hbm, 206, rfl⟩
abbrev main_call5_v4 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_values : Ref sig .tc := ⟨.hbm, 214, rfl⟩
abbrev main_indices : Ref sig .tc := ⟨.hbm, 215, rfl⟩
abbrev main_c_20 : Ref sig .tc := ⟨.hbm, 216, rfl⟩
abbrev main_v161 : Ref sig .tc := ⟨.hbm, 217, rfl⟩
abbrev main_v162 : Ref sig .tc := ⟨.hbm, 218, rfl⟩
abbrev main_c_21 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_cst_22 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_cst_23 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_c_24 : Ref sig .tc := ⟨.hbm, 242, rfl⟩
abbrev main_v183 : Ref sig .tc := ⟨.hbm, 243, rfl⟩
abbrev main_c_25 : Ref sig .tc := ⟨.hbm, 244, rfl⟩
abbrev main_v184 : Ref sig .tc := ⟨.hbm, 245, rfl⟩
abbrev main_c_26 : Ref sig .tc := ⟨.hbm, 246, rfl⟩
abbrev main_c_27 : Ref sig .tc := ⟨.hbm, 247, rfl⟩
abbrev main_v185_0 : Ref sig .tc := ⟨.hbm, 248, rfl⟩
abbrev main_v185_1 : Ref sig .tc := ⟨.hbm, 249, rfl⟩
abbrev main_v185_2 : Ref sig .tc := ⟨.hbm, 250, rfl⟩
abbrev main_v185_3 : Ref sig .tc := ⟨.hbm, 251, rfl⟩
abbrev main_v185_4 : Ref sig .tc := ⟨.hbm, 252, rfl⟩
abbrev main_v185_5 : Ref sig .tc := ⟨.hbm, 253, rfl⟩
abbrev main_v185_6 : Ref sig .tc := ⟨.hbm, 254, rfl⟩
abbrev main_v185_7 : Ref sig .tc := ⟨.hbm, 255, rfl⟩
abbrev main_v185_8 : Ref sig .tc := ⟨.hbm, 256, rfl⟩
abbrev main_while0c_c_41 : Ref sig .tc := ⟨.hbm, 257, rfl⟩
abbrev main_while0c_v194 : Ref sig .tc := ⟨.hbm, 258, rfl⟩
abbrev main_while0b_c_41 : Ref sig .tc := ⟨.hbm, 259, rfl⟩
abbrev main_while0b_v194 : Ref sig .tc := ⟨.hbm, 260, rfl⟩
abbrev main_while0b_c_42 : Ref sig .tc := ⟨.hbm, 261, rfl⟩
abbrev main_while0b_v195 : Ref sig .tc := ⟨.hbm, 262, rfl⟩
abbrev main_while0b_v196 : Ref sig .tc := ⟨.hbm, 263, rfl⟩
abbrev main_while0b_c_43 : Ref sig .tc := ⟨.hbm, 264, rfl⟩
abbrev main_while0b_v197 : Ref sig .tc := ⟨.hbm, 265, rfl⟩
abbrev main_while0b_v198 : Ref sig .tc := ⟨.hbm, 266, rfl⟩
abbrev main_while0b_v199 : Ref sig .tc := ⟨.hbm, 267, rfl⟩
abbrev main_while0b_v200 : Ref sig .tc := ⟨.hbm, 268, rfl⟩
abbrev main_while0b_c_44 : Ref sig .tc := ⟨.hbm, 269, rfl⟩
abbrev main_while0b_v201 : Ref sig .tc := ⟨.hbm, 270, rfl⟩
abbrev main_while0b_v202 : Ref sig .tc := ⟨.hbm, 271, rfl⟩
abbrev main_while0b_c_45 : Ref sig .tc := ⟨.hbm, 272, rfl⟩
abbrev main_while0b_v203 : Ref sig .tc := ⟨.hbm, 273, rfl⟩
abbrev main_while0b_v204 : Ref sig .tc := ⟨.hbm, 274, rfl⟩
abbrev main_while0b_v205 : Ref sig .tc := ⟨.hbm, 275, rfl⟩
abbrev main_while0b_v206 : Ref sig .tc := ⟨.hbm, 276, rfl⟩
abbrev main_while0b_v207 : Ref sig .tc := ⟨.hbm, 277, rfl⟩
abbrev main_while0b_v208 : Ref sig .tc := ⟨.hbm, 278, rfl⟩
abbrev main_while0b_c_46 : Ref sig .tc := ⟨.hbm, 279, rfl⟩
abbrev main_while0b_v209 : Ref sig .tc := ⟨.hbm, 280, rfl⟩
abbrev main_while0b_v210 : Ref sig .tc := ⟨.hbm, 281, rfl⟩
abbrev main_while0b_c_47 : Ref sig .tc := ⟨.hbm, 282, rfl⟩
abbrev main_while0b_v211 : Ref sig .tc := ⟨.hbm, 283, rfl⟩
abbrev main_while0b_v212 : Ref sig .tc := ⟨.hbm, 284, rfl⟩
abbrev main_while0b_v213 : Ref sig .tc := ⟨.hbm, 285, rfl⟩
abbrev main_while0b_v214 : Ref sig .tc := ⟨.hbm, 286, rfl⟩
abbrev main_while0b_v215 : Ref sig .tc := ⟨.hbm, 287, rfl⟩
abbrev main_while0b_v216 : Ref sig .tc := ⟨.hbm, 288, rfl⟩
abbrev main_while0b_c_48 : Ref sig .tc := ⟨.hbm, 289, rfl⟩
abbrev main_while0b_v217 : Ref sig .tc := ⟨.hbm, 290, rfl⟩
abbrev main_while0b_v218 : Ref sig .tc := ⟨.hbm, 291, rfl⟩
abbrev main_while0b_c_49 : Ref sig .tc := ⟨.hbm, 292, rfl⟩
abbrev main_while0b_v219 : Ref sig .tc := ⟨.hbm, 293, rfl⟩
abbrev main_while0b_v220 : Ref sig .tc := ⟨.hbm, 294, rfl⟩
abbrev main_while0b_v221 : Ref sig .tc := ⟨.hbm, 295, rfl⟩
abbrev main_while0b_v222 : Ref sig .tc := ⟨.hbm, 296, rfl⟩
abbrev main_while0b_v223 : Ref sig .tc := ⟨.hbm, 297, rfl⟩
abbrev main_while0b_v224 : Ref sig .tc := ⟨.hbm, 298, rfl⟩
abbrev main_while0b_c_50 : Ref sig .tc := ⟨.hbm, 299, rfl⟩
abbrev main_while0b_v225 : Ref sig .tc := ⟨.hbm, 300, rfl⟩
abbrev main_while0b_v226 : Ref sig .tc := ⟨.hbm, 301, rfl⟩
abbrev main_while0b_c_51 : Ref sig .tc := ⟨.hbm, 302, rfl⟩
abbrev main_while0b_v227 : Ref sig .tc := ⟨.hbm, 303, rfl⟩
abbrev main_while0b_v228 : Ref sig .tc := ⟨.hbm, 304, rfl⟩
abbrev main_while0b_v229 : Ref sig .tc := ⟨.hbm, 305, rfl⟩
abbrev main_while0b_v230 : Ref sig .tc := ⟨.hbm, 306, rfl⟩
abbrev main_while0b_v231 : Ref sig .tc := ⟨.hbm, 307, rfl⟩
abbrev main_while0b_v232 : Ref sig .tc := ⟨.hbm, 308, rfl⟩
abbrev main_while0b_v233 : Ref sig .tc := ⟨.hbm, 309, rfl⟩
abbrev main_while0b_cst_52 : Ref sig .tc := ⟨.hbm, 310, rfl⟩
abbrev main_while0b_v234 : Ref sig .tc := ⟨.hbm, 311, rfl⟩
abbrev main_while0b_v235 : Ref sig .tc := ⟨.hbm, 312, rfl⟩
abbrev main_while0b_cst_53 : Ref sig .tc := ⟨.hbm, 313, rfl⟩
abbrev main_while0b_v236 : Ref sig .tc := ⟨.hbm, 314, rfl⟩
abbrev main_while0b_v237 : Ref sig .tc := ⟨.hbm, 315, rfl⟩
abbrev main_while0b_v238 : Ref sig .tc := ⟨.hbm, 316, rfl⟩
abbrev main_while0b_cst_54 : Ref sig .tc := ⟨.hbm, 317, rfl⟩
abbrev main_while0b_v239 : Ref sig .tc := ⟨.hbm, 318, rfl⟩
abbrev main_while0b_v240 : Ref sig .tc := ⟨.hbm, 319, rfl⟩
abbrev main_while0b_cst_55 : Ref sig .tc := ⟨.hbm, 320, rfl⟩
abbrev main_while0b_v241 : Ref sig .tc := ⟨.hbm, 321, rfl⟩
abbrev main_while0b_v242 : Ref sig .tc := ⟨.hbm, 322, rfl⟩
abbrev main_while0b_v243 : Ref sig .tc := ⟨.hbm, 323, rfl⟩
abbrev main_while0b_c_56 : Ref sig .tc := ⟨.hbm, 324, rfl⟩
abbrev main_while0b_v244 : Ref sig .tc := ⟨.hbm, 325, rfl⟩
abbrev main_while0b_v245 : Ref sig .tc := ⟨.hbm, 326, rfl⟩
abbrev main_while0b_c_57 : Ref sig .tc := ⟨.hbm, 327, rfl⟩
abbrev main_while0b_v246 : Ref sig .tc := ⟨.hbm, 328, rfl⟩
abbrev main_while0b_v247 : Ref sig .tc := ⟨.hbm, 329, rfl⟩
abbrev main_while0b_v248 : Ref sig .tc := ⟨.hbm, 330, rfl⟩
abbrev main_while0b_v249 : Ref sig .tc := ⟨.hbm, 331, rfl⟩
abbrev main_while0b_v250 : Ref sig .tc := ⟨.hbm, 332, rfl⟩
abbrev main_while0b_v251 : Ref sig .tc := ⟨.hbm, 333, rfl⟩
abbrev main_while0b_v252 : Ref sig .tc := ⟨.hbm, 334, rfl⟩
abbrev main_while0b_v253 : Ref sig .tc := ⟨.hbm, 335, rfl⟩
abbrev main_while0b_v254 : Ref sig .tc := ⟨.hbm, 336, rfl⟩
abbrev main_while0b_c_58 : Ref sig .tc := ⟨.hbm, 337, rfl⟩
abbrev main_while0b_v255 : Ref sig .tc := ⟨.hbm, 338, rfl⟩
abbrev main_while0b_c_59 : Ref sig .tc := ⟨.hbm, 339, rfl⟩
abbrev main_while0b_v256 : Ref sig .tc := ⟨.hbm, 340, rfl⟩
abbrev main_while0b_v257 : Ref sig .tc := ⟨.hbm, 341, rfl⟩
abbrev main_while0b_v258 : Ref sig .tc := ⟨.hbm, 342, rfl⟩
abbrev main_while0b_v259 : Ref sig .tc := ⟨.hbm, 343, rfl⟩
abbrev main_while0b_v260 : Ref sig .tc := ⟨.hbm, 344, rfl⟩
abbrev main_while0b_cst_60 : Ref sig .tc := ⟨.hbm, 345, rfl⟩
abbrev main_while0b_v261 : Ref sig .tc := ⟨.hbm, 346, rfl⟩
abbrev main_while0b_v262 : Ref sig .tc := ⟨.hbm, 347, rfl⟩
abbrev main_while0b_v263 : Ref sig .tc := ⟨.hbm, 348, rfl⟩
abbrev main_while0b_v264 : Ref sig .tc := ⟨.hbm, 349, rfl⟩
abbrev main_while0b_c_61 : Ref sig .tc := ⟨.hbm, 350, rfl⟩
abbrev main_while0b_v265 : Ref sig .tc := ⟨.hbm, 351, rfl⟩
abbrev main_while0b_c_62 : Ref sig .tc := ⟨.hbm, 352, rfl⟩
abbrev main_while0b_v266 : Ref sig .tc := ⟨.hbm, 353, rfl⟩
abbrev main_while0b_v267 : Ref sig .tc := ⟨.hbm, 354, rfl⟩
abbrev main_while0b_v268 : Ref sig .tc := ⟨.hbm, 355, rfl⟩
abbrev main_while0b_v269 : Ref sig .tc := ⟨.hbm, 356, rfl⟩
abbrev main_while0b_v270 : Ref sig .tc := ⟨.hbm, 357, rfl⟩
abbrev main_while0b_c_63 : Ref sig .tc := ⟨.hbm, 358, rfl⟩
abbrev main_while0b_v271 : Ref sig .tc := ⟨.hbm, 359, rfl⟩
abbrev main_cst_28 : Ref sig .tc := ⟨.hbm, 360, rfl⟩
abbrev main_call7_v0 : Ref sig .tc := ⟨.hbm, 361, rfl⟩
abbrev main_call7_v1 : Ref sig .tc := ⟨.hbm, 362, rfl⟩
abbrev main_v186 : Ref sig .tc := ⟨.hbm, 363, rfl⟩
abbrev main_values_29 : Ref sig .tc := ⟨.hbm, 364, rfl⟩
abbrev main_indices_30 : Ref sig .tc := ⟨.hbm, 365, rfl⟩
abbrev main_c_31 : Ref sig .tc := ⟨.hbm, 366, rfl⟩
abbrev main_v187 : Ref sig .tc := ⟨.hbm, 367, rfl⟩
abbrev main_v188 : Ref sig .tc := ⟨.hbm, 368, rfl⟩
abbrev main_c_32 : Ref sig .tc := ⟨.hbm, 369, rfl⟩
abbrev main_v189 : Ref sig .tc := ⟨.hbm, 370, rfl⟩
abbrev main_v190 : Ref sig .tc := ⟨.hbm, 371, rfl⟩
abbrev main_v191 : Ref sig .tc := ⟨.hbm, 372, rfl⟩
abbrev main_v192 : Ref sig .tc := ⟨.hbm, 373, rfl⟩
abbrev main_v193 : Ref sig .tc := ⟨.hbm, 374, rfl⟩

abbrev nD : Nat := 1
abbrev τ : Topo := Topo.v7x

variable {F : FTy → Type} [FloatOps F]

abbrev main_while0_count : Scf.Loop 32 := ⟨0#32, 6000#32, 1#32⟩
-- ==== Proof.KI.Dense.lean ====
/- The first kernel region, `cc0__dense_body`: its body at a generic grid point, and what it leaves. -/
module
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section
set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))
/-! # REGION 0 of @main: custom_call 0, `cc0__dense_body` (pipeline 0), at the entry contents `V` — class R -/
/-! ## The windows' blocks -/
/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-! ## The kernel body on any staging memrefs: a subtype the run finds -/
/-- One staging buffer of output window 12, through which its contents are stated (`View.read_writes_of_cover`: the
    choice does not matter). -/
abbrev VO0_12 : View sig .tc .vmem S512x9 .f32 := (Memref.whole cc0_stg12_0 : Memref sig .tc .vmem S512x9 .f32).view
/-- One staging buffer of output window 13, through which its contents are stated (`View.read_writes_of_cover`: the
    choice does not matter). -/
abbrev VO0_13 : View sig .tc .vmem S512x9 .f32 := (Memref.whole cc0_stg13_0 : Memref sig .tc .vmem S512x9 .f32).view
/-- One staging buffer of output window 14, through which its contents are stated (`View.read_writes_of_cover`: the
    choice does not matter). -/
abbrev VO0_14 : View sig .tc .vmem S512x9 .f32 := (Memref.whole cc0_stg14_0 : Memref sig .tc .vmem S512x9 .f32).view
/-- One staging buffer of output window 15, through which its contents are stated (`View.read_writes_of_cover`: the
    choice does not matter). -/
abbrev VO0_15 : View sig .tc .vmem S512x9 .f32 := (Memref.whole cc0_stg15_0 : Memref sig .tc .vmem S512x9 .f32).view
/-- One staging buffer of output window 16, through which its contents are stated (`View.read_writes_of_cover`: the
    choice does not matter). -/
abbrev VO0_16 : View sig .tc .vmem S512x9 .f32 := (Memref.whole cc0_stg16_0 : Memref sig .tc .vmem S512x9 .f32).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x64x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x64x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x64x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4608x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x54 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x54 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x9 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x9 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x9 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x9 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x9 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x9 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x9 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S512x9 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S512x9 .f32 := win0_16.stage (cfg0.slots t 16)
abbrev hs0_16 (t : Fin cfg0.N) : (ms0_16 t).IsWhole := hstage0_16 ((cfg0.slots t 16).cast nbuf0_16)
-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S1 .f32) (harg1 : arg1.IsWhole) (arg2 : Memref sig .tc .vmem S8x64x512 .f32) (harg2 : arg2.IsWhole) (arg3 : Memref sig .tc .vmem S8x64x512 .f32) (harg3 : arg3.IsWhole) (arg4 : Memref sig .tc .vmem S8x64x512 .f32) (harg4 : arg4.IsWhole) (arg5 : Memref sig .tc .vmem S4608x512 .f32) (harg5 : arg5.IsWhole) (arg6 : Memref sig .tc .vmem S512x54 .f32) (harg6 : arg6.IsWhole) (arg7 : Memref sig .tc .vmem S1x512 .f32) (harg7 : arg7.IsWhole) (arg8 : Memref sig .tc .vmem S1x54 .f32) (harg8 : arg8.IsWhole) (arg9 : Memref sig .tc .vmem S512x9 .f32) (harg9 : arg9.IsWhole) (arg10 : Memref sig .tc .vmem S512x9 .f32) (harg10 : arg10.IsWhole) (arg11 : Memref sig .tc .vmem S512x9 .f32) (harg11 : arg11.IsWhole) (arg12 : Memref sig .tc .vmem S512x9 .f32) (harg12 : arg12.IsWhole) (arg13 : Memref sig .tc .vmem S512x9 .f32) (harg13 : arg13.IsWhole) (arg14 : Memref sig .tc .vmem S512x9 .f32) (harg14 : arg14.IsWhole) (arg15 : Memref sig .tc .vmem S512x9 .f32) (harg15 : arg15.IsWhole) (arg16 : Memref sig .tc .vmem S512x9 .f32) (harg16 : arg16.IsWhole) (arg17 : Memref sig .tc .vmem S512x9 .f32) (harg17 : arg17.IsWhole)
    (x0 : Vec F S1 .f32) (x1 : Vec F S8x64x512 .f32) (x2 : Vec F S8x64x512 .f32) (x3 : Vec F S8x64x512 .f32) (x4 : Vec F S4608x512 .f32) (x5 : Vec F S512x54 .f32) (x6 : Vec F S1x512 .f32) (x7 : Vec F S1x54 .f32) (x8 : Vec F S512x9 .f32) (x9 : Vec F S512x9 .f32) (x10 : Vec F S512x9 .f32) (x11 : Vec F S512x9 .f32) :
    Σ' (L12 : List (View.Piece (Elt F) S512x9 .f32)), Σ' (L13 : List (View.Piece (Elt F) S512x9 .f32)), Σ' (L14 : List (View.Piece (Elt F) S512x9 .f32)), Σ' (L15 : List (View.Piece (Elt F) S512x9 .f32)), { L16 : List (View.Piece (Elt F) S512x9 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc0__dense_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0__dense_body_eq_skeleton]; unfold cc0__dense_body_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [H15]; · iexists _; iexact H15
    iexists _; iexact H16
/-- The run's pieces for output 12 tile its block (1 store of `S512x9`, checked by the kernel's evaluation: Lib/Ring.lean `Piece.tiledL`, linear in the pieces, through a loop's `@[irreducible]` trip theorem too), so they cover it. -/
theorem cover0_A_12 (c : Dev nD) (i : grid0.Coords) (arg1 : Memref sig .tc .smem S1 .f32) (harg1 : arg1.IsWhole) (arg2 : Memref sig .tc .vmem S8x64x512 .f32) (harg2 : arg2.IsWhole) (arg3 : Memref sig .tc .vmem S8x64x512 .f32) (harg3 : arg3.IsWhole) (arg4 : Memref sig .tc .vmem S8x64x512 .f32) (harg4 : arg4.IsWhole) (arg5 : Memref sig .tc .vmem S4608x512 .f32) (harg5 : arg5.IsWhole) (arg6 : Memref sig .tc .vmem S512x54 .f32) (harg6 : arg6.IsWhole) (arg7 : Memref sig .tc .vmem S1x512 .f32) (harg7 : arg7.IsWhole) (arg8 : Memref sig .tc .vmem S1x54 .f32) (harg8 : arg8.IsWhole) (arg9 : Memref sig .tc .vmem S512x9 .f32) (harg9 : arg9.IsWhole) (arg10 : Memref sig .tc .vmem S512x9 .f32) (harg10 : arg10.IsWhole) (arg11 : Memref sig .tc .vmem S512x9 .f32) (harg11 : arg11.IsWhole) (arg12 : Memref sig .tc .vmem S512x9 .f32) (harg12 : arg12.IsWhole) (arg13 : Memref sig .tc .vmem S512x9 .f32) (harg13 : arg13.IsWhole) (arg14 : Memref sig .tc .vmem S512x9 .f32) (harg14 : arg14.IsWhole) (arg15 : Memref sig .tc .vmem S512x9 .f32) (harg15 : arg15.IsWhole) (arg16 : Memref sig .tc .vmem S512x9 .f32) (harg16 : arg16.IsWhole) (arg17 : Memref sig .tc .vmem S512x9 .f32) (harg17 : arg17.IsWhole)
    (x0 : Vec F S1 .f32) (x1 : Vec F S8x64x512 .f32) (x2 : Vec F S8x64x512 .f32) (x3 : Vec F S8x64x512 .f32) (x4 : Vec F S4608x512 .f32) (x5 : Vec F S512x54 .f32) (x6 : Vec F S1x512 .f32) (x7 : Vec F S1x54 .f32) (x8 : Vec F S512x9 .f32) (x9 : Vec F S512x9 .f32) (x10 : Vec F S512x9 .f32) (x11 : Vec F S512x9 .f32) (y : S512x9.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).1 S512x9.size (by sl_kernel_rfl) y
/-- What the run leaves in output 12's staging buffer: its pieces read back over junk. -/
def out0_A_12 (c : Dev nD) (i : grid0.Coords) (arg1 : Memref sig .tc .smem S1 .f32) (harg1 : arg1.IsWhole) (arg2 : Memref sig .tc .vmem S8x64x512 .f32) (harg2 : arg2.IsWhole) (arg3 : Memref sig .tc .vmem S8x64x512 .f32) (harg3 : arg3.IsWhole) (arg4 : Memref sig .tc .vmem S8x64x512 .f32) (harg4 : arg4.IsWhole) (arg5 : Memref sig .tc .vmem S4608x512 .f32) (harg5 : arg5.IsWhole) (arg6 : Memref sig .tc .vmem S512x54 .f32) (harg6 : arg6.IsWhole) (arg7 : Memref sig .tc .vmem S1x512 .f32) (harg7 : arg7.IsWhole) (arg8 : Memref sig .tc .vmem S1x54 .f32) (harg8 : arg8.IsWhole) (arg9 : Memref sig .tc .vmem S512x9 .f32) (harg9 : arg9.IsWhole) (arg10 : Memref sig .tc .vmem S512x9 .f32) (harg10 : arg10.IsWhole) (arg11 : Memref sig .tc .vmem S512x9 .f32) (harg11 : arg11.IsWhole) (arg12 : Memref sig .tc .vmem S512x9 .f32) (harg12 : arg12.IsWhole) (arg13 : Memref sig .tc .vmem S512x9 .f32) (harg13 : arg13.IsWhole) (arg14 : Memref sig .tc .vmem S512x9 .f32) (harg14 : arg14.IsWhole) (arg15 : Memref sig .tc .vmem S512x9 .f32) (harg15 : arg15.IsWhole) (arg16 : Memref sig .tc .vmem S512x9 .f32) (harg16 : arg16.IsWhole) (arg17 : Memref sig .tc .vmem S512x9 .f32) (harg17 : arg17.IsWhole)
    (x0 : Vec F S1 .f32) (x1 : Vec F S8x64x512 .f32) (x2 : Vec F S8x64x512 .f32) (x3 : Vec F S8x64x512 .f32) (x4 : Vec F S4608x512 .f32) (x5 : Vec F S512x54 .f32) (x6 : Vec F S1x512 .f32) (x7 : Vec F S1x54 .f32) (x8 : Vec F S512x9 .f32) (x9 : Vec F S512x9 .f32) (x10 : Vec F S512x9 .f32) (x11 : Vec F S512x9 .f32) : Vec F S512x9 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).1)
/-- The run's pieces for output 13 tile its block (1 store of `S512x9`, checked by the kernel's evaluation: Lib/Ring.lean `Piece.tiledL`, linear in the pieces, through a loop's `@[irreducible]` trip theorem too), so they cover it. -/
theorem cover0_A_13 (c : Dev nD) (i : grid0.Coords) (arg1 : Memref sig .tc .smem S1 .f32) (harg1 : arg1.IsWhole) (arg2 : Memref sig .tc .vmem S8x64x512 .f32) (harg2 : arg2.IsWhole) (arg3 : Memref sig .tc .vmem S8x64x512 .f32) (harg3 : arg3.IsWhole) (arg4 : Memref sig .tc .vmem S8x64x512 .f32) (harg4 : arg4.IsWhole) (arg5 : Memref sig .tc .vmem S4608x512 .f32) (harg5 : arg5.IsWhole) (arg6 : Memref sig .tc .vmem S512x54 .f32) (harg6 : arg6.IsWhole) (arg7 : Memref sig .tc .vmem S1x512 .f32) (harg7 : arg7.IsWhole) (arg8 : Memref sig .tc .vmem S1x54 .f32) (harg8 : arg8.IsWhole) (arg9 : Memref sig .tc .vmem S512x9 .f32) (harg9 : arg9.IsWhole) (arg10 : Memref sig .tc .vmem S512x9 .f32) (harg10 : arg10.IsWhole) (arg11 : Memref sig .tc .vmem S512x9 .f32) (harg11 : arg11.IsWhole) (arg12 : Memref sig .tc .vmem S512x9 .f32) (harg12 : arg12.IsWhole) (arg13 : Memref sig .tc .vmem S512x9 .f32) (harg13 : arg13.IsWhole) (arg14 : Memref sig .tc .vmem S512x9 .f32) (harg14 : arg14.IsWhole) (arg15 : Memref sig .tc .vmem S512x9 .f32) (harg15 : arg15.IsWhole) (arg16 : Memref sig .tc .vmem S512x9 .f32) (harg16 : arg16.IsWhole) (arg17 : Memref sig .tc .vmem S512x9 .f32) (harg17 : arg17.IsWhole)
    (x0 : Vec F S1 .f32) (x1 : Vec F S8x64x512 .f32) (x2 : Vec F S8x64x512 .f32) (x3 : Vec F S8x64x512 .f32) (x4 : Vec F S4608x512 .f32) (x5 : Vec F S512x54 .f32) (x6 : Vec F S1x512 .f32) (x7 : Vec F S1x54 .f32) (x8 : Vec F S512x9 .f32) (x9 : Vec F S512x9 .f32) (x10 : Vec F S512x9 .f32) (x11 : Vec F S512x9 .f32) (y : S512x9.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).2.1 S512x9.size (by sl_kernel_rfl) y
/-- What the run leaves in output 13's staging buffer: its pieces read back over junk. -/
def out0_A_13 (c : Dev nD) (i : grid0.Coords) (arg1 : Memref sig .tc .smem S1 .f32) (harg1 : arg1.IsWhole) (arg2 : Memref sig .tc .vmem S8x64x512 .f32) (harg2 : arg2.IsWhole) (arg3 : Memref sig .tc .vmem S8x64x512 .f32) (harg3 : arg3.IsWhole) (arg4 : Memref sig .tc .vmem S8x64x512 .f32) (harg4 : arg4.IsWhole) (arg5 : Memref sig .tc .vmem S4608x512 .f32) (harg5 : arg5.IsWhole) (arg6 : Memref sig .tc .vmem S512x54 .f32) (harg6 : arg6.IsWhole) (arg7 : Memref sig .tc .vmem S1x512 .f32) (harg7 : arg7.IsWhole) (arg8 : Memref sig .tc .vmem S1x54 .f32) (harg8 : arg8.IsWhole) (arg9 : Memref sig .tc .vmem S512x9 .f32) (harg9 : arg9.IsWhole) (arg10 : Memref sig .tc .vmem S512x9 .f32) (harg10 : arg10.IsWhole) (arg11 : Memref sig .tc .vmem S512x9 .f32) (harg11 : arg11.IsWhole) (arg12 : Memref sig .tc .vmem S512x9 .f32) (harg12 : arg12.IsWhole) (arg13 : Memref sig .tc .vmem S512x9 .f32) (harg13 : arg13.IsWhole) (arg14 : Memref sig .tc .vmem S512x9 .f32) (harg14 : arg14.IsWhole) (arg15 : Memref sig .tc .vmem S512x9 .f32) (harg15 : arg15.IsWhole) (arg16 : Memref sig .tc .vmem S512x9 .f32) (harg16 : arg16.IsWhole) (arg17 : Memref sig .tc .vmem S512x9 .f32) (harg17 : arg17.IsWhole)
    (x0 : Vec F S1 .f32) (x1 : Vec F S8x64x512 .f32) (x2 : Vec F S8x64x512 .f32) (x3 : Vec F S8x64x512 .f32) (x4 : Vec F S4608x512 .f32) (x5 : Vec F S512x54 .f32) (x6 : Vec F S1x512 .f32) (x7 : Vec F S1x54 .f32) (x8 : Vec F S512x9 .f32) (x9 : Vec F S512x9 .f32) (x10 : Vec F S512x9 .f32) (x11 : Vec F S512x9 .f32) : Vec F S512x9 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).2.1)
/-- The run's pieces for output 14 tile its block (1 store of `S512x9`, checked by the kernel's evaluation: Lib/Ring.lean `Piece.tiledL`, linear in the pieces, through a loop's `@[irreducible]` trip theorem too), so they cover it. -/
theorem cover0_A_14 (c : Dev nD) (i : grid0.Coords) (arg1 : Memref sig .tc .smem S1 .f32) (harg1 : arg1.IsWhole) (arg2 : Memref sig .tc .vmem S8x64x512 .f32) (harg2 : arg2.IsWhole) (arg3 : Memref sig .tc .vmem S8x64x512 .f32) (harg3 : arg3.IsWhole) (arg4 : Memref sig .tc .vmem S8x64x512 .f32) (harg4 : arg4.IsWhole) (arg5 : Memref sig .tc .vmem S4608x512 .f32) (harg5 : arg5.IsWhole) (arg6 : Memref sig .tc .vmem S512x54 .f32) (harg6 : arg6.IsWhole) (arg7 : Memref sig .tc .vmem S1x512 .f32) (harg7 : arg7.IsWhole) (arg8 : Memref sig .tc .vmem S1x54 .f32) (harg8 : arg8.IsWhole) (arg9 : Memref sig .tc .vmem S512x9 .f32) (harg9 : arg9.IsWhole) (arg10 : Memref sig .tc .vmem S512x9 .f32) (harg10 : arg10.IsWhole) (arg11 : Memref sig .tc .vmem S512x9 .f32) (harg11 : arg11.IsWhole) (arg12 : Memref sig .tc .vmem S512x9 .f32) (harg12 : arg12.IsWhole) (arg13 : Memref sig .tc .vmem S512x9 .f32) (harg13 : arg13.IsWhole) (arg14 : Memref sig .tc .vmem S512x9 .f32) (harg14 : arg14.IsWhole) (arg15 : Memref sig .tc .vmem S512x9 .f32) (harg15 : arg15.IsWhole) (arg16 : Memref sig .tc .vmem S512x9 .f32) (harg16 : arg16.IsWhole) (arg17 : Memref sig .tc .vmem S512x9 .f32) (harg17 : arg17.IsWhole)
    (x0 : Vec F S1 .f32) (x1 : Vec F S8x64x512 .f32) (x2 : Vec F S8x64x512 .f32) (x3 : Vec F S8x64x512 .f32) (x4 : Vec F S4608x512 .f32) (x5 : Vec F S512x54 .f32) (x6 : Vec F S1x512 .f32) (x7 : Vec F S1x54 .f32) (x8 : Vec F S512x9 .f32) (x9 : Vec F S512x9 .f32) (x10 : Vec F S512x9 .f32) (x11 : Vec F S512x9 .f32) (y : S512x9.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).2.2.1 S512x9.size (by sl_kernel_rfl) y
/-- What the run leaves in output 14's staging buffer: its pieces read back over junk. -/
def out0_A_14 (c : Dev nD) (i : grid0.Coords) (arg1 : Memref sig .tc .smem S1 .f32) (harg1 : arg1.IsWhole) (arg2 : Memref sig .tc .vmem S8x64x512 .f32) (harg2 : arg2.IsWhole) (arg3 : Memref sig .tc .vmem S8x64x512 .f32) (harg3 : arg3.IsWhole) (arg4 : Memref sig .tc .vmem S8x64x512 .f32) (harg4 : arg4.IsWhole) (arg5 : Memref sig .tc .vmem S4608x512 .f32) (harg5 : arg5.IsWhole) (arg6 : Memref sig .tc .vmem S512x54 .f32) (harg6 : arg6.IsWhole) (arg7 : Memref sig .tc .vmem S1x512 .f32) (harg7 : arg7.IsWhole) (arg8 : Memref sig .tc .vmem S1x54 .f32) (harg8 : arg8.IsWhole) (arg9 : Memref sig .tc .vmem S512x9 .f32) (harg9 : arg9.IsWhole) (arg10 : Memref sig .tc .vmem S512x9 .f32) (harg10 : arg10.IsWhole) (arg11 : Memref sig .tc .vmem S512x9 .f32) (harg11 : arg11.IsWhole) (arg12 : Memref sig .tc .vmem S512x9 .f32) (harg12 : arg12.IsWhole) (arg13 : Memref sig .tc .vmem S512x9 .f32) (harg13 : arg13.IsWhole) (arg14 : Memref sig .tc .vmem S512x9 .f32) (harg14 : arg14.IsWhole) (arg15 : Memref sig .tc .vmem S512x9 .f32) (harg15 : arg15.IsWhole) (arg16 : Memref sig .tc .vmem S512x9 .f32) (harg16 : arg16.IsWhole) (arg17 : Memref sig .tc .vmem S512x9 .f32) (harg17 : arg17.IsWhole)
    (x0 : Vec F S1 .f32) (x1 : Vec F S8x64x512 .f32) (x2 : Vec F S8x64x512 .f32) (x3 : Vec F S8x64x512 .f32) (x4 : Vec F S4608x512 .f32) (x5 : Vec F S512x54 .f32) (x6 : Vec F S1x512 .f32) (x7 : Vec F S1x54 .f32) (x8 : Vec F S512x9 .f32) (x9 : Vec F S512x9 .f32) (x10 : Vec F S512x9 .f32) (x11 : Vec F S512x9 .f32) : Vec F S512x9 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).2.2.1)
/-- The run's pieces for output 15 tile its block (1 store of `S512x9`, checked by the kernel's evaluation: Lib/Ring.lean `Piece.tiledL`, linear in the pieces, through a loop's `@[irreducible]` trip theorem too), so they cover it. -/
theorem cover0_A_15 (c : Dev nD) (i : grid0.Coords) (arg1 : Memref sig .tc .smem S1 .f32) (harg1 : arg1.IsWhole) (arg2 : Memref sig .tc .vmem S8x64x512 .f32) (harg2 : arg2.IsWhole) (arg3 : Memref sig .tc .vmem S8x64x512 .f32) (harg3 : arg3.IsWhole) (arg4 : Memref sig .tc .vmem S8x64x512 .f32) (harg4 : arg4.IsWhole) (arg5 : Memref sig .tc .vmem S4608x512 .f32) (harg5 : arg5.IsWhole) (arg6 : Memref sig .tc .vmem S512x54 .f32) (harg6 : arg6.IsWhole) (arg7 : Memref sig .tc .vmem S1x512 .f32) (harg7 : arg7.IsWhole) (arg8 : Memref sig .tc .vmem S1x54 .f32) (harg8 : arg8.IsWhole) (arg9 : Memref sig .tc .vmem S512x9 .f32) (harg9 : arg9.IsWhole) (arg10 : Memref sig .tc .vmem S512x9 .f32) (harg10 : arg10.IsWhole) (arg11 : Memref sig .tc .vmem S512x9 .f32) (harg11 : arg11.IsWhole) (arg12 : Memref sig .tc .vmem S512x9 .f32) (harg12 : arg12.IsWhole) (arg13 : Memref sig .tc .vmem S512x9 .f32) (harg13 : arg13.IsWhole) (arg14 : Memref sig .tc .vmem S512x9 .f32) (harg14 : arg14.IsWhole) (arg15 : Memref sig .tc .vmem S512x9 .f32) (harg15 : arg15.IsWhole) (arg16 : Memref sig .tc .vmem S512x9 .f32) (harg16 : arg16.IsWhole) (arg17 : Memref sig .tc .vmem S512x9 .f32) (harg17 : arg17.IsWhole)
    (x0 : Vec F S1 .f32) (x1 : Vec F S8x64x512 .f32) (x2 : Vec F S8x64x512 .f32) (x3 : Vec F S8x64x512 .f32) (x4 : Vec F S4608x512 .f32) (x5 : Vec F S512x54 .f32) (x6 : Vec F S1x512 .f32) (x7 : Vec F S1x54 .f32) (x8 : Vec F S512x9 .f32) (x9 : Vec F S512x9 .f32) (x10 : Vec F S512x9 .f32) (x11 : Vec F S512x9 .f32) (y : S512x9.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).2.2.2.1 S512x9.size (by sl_kernel_rfl) y
/-- What the run leaves in output 15's staging buffer: its pieces read back over junk. -/
def out0_A_15 (c : Dev nD) (i : grid0.Coords) (arg1 : Memref sig .tc .smem S1 .f32) (harg1 : arg1.IsWhole) (arg2 : Memref sig .tc .vmem S8x64x512 .f32) (harg2 : arg2.IsWhole) (arg3 : Memref sig .tc .vmem S8x64x512 .f32) (harg3 : arg3.IsWhole) (arg4 : Memref sig .tc .vmem S8x64x512 .f32) (harg4 : arg4.IsWhole) (arg5 : Memref sig .tc .vmem S4608x512 .f32) (harg5 : arg5.IsWhole) (arg6 : Memref sig .tc .vmem S512x54 .f32) (harg6 : arg6.IsWhole) (arg7 : Memref sig .tc .vmem S1x512 .f32) (harg7 : arg7.IsWhole) (arg8 : Memref sig .tc .vmem S1x54 .f32) (harg8 : arg8.IsWhole) (arg9 : Memref sig .tc .vmem S512x9 .f32) (harg9 : arg9.IsWhole) (arg10 : Memref sig .tc .vmem S512x9 .f32) (harg10 : arg10.IsWhole) (arg11 : Memref sig .tc .vmem S512x9 .f32) (harg11 : arg11.IsWhole) (arg12 : Memref sig .tc .vmem S512x9 .f32) (harg12 : arg12.IsWhole) (arg13 : Memref sig .tc .vmem S512x9 .f32) (harg13 : arg13.IsWhole) (arg14 : Memref sig .tc .vmem S512x9 .f32) (harg14 : arg14.IsWhole) (arg15 : Memref sig .tc .vmem S512x9 .f32) (harg15 : arg15.IsWhole) (arg16 : Memref sig .tc .vmem S512x9 .f32) (harg16 : arg16.IsWhole) (arg17 : Memref sig .tc .vmem S512x9 .f32) (harg17 : arg17.IsWhole)
    (x0 : Vec F S1 .f32) (x1 : Vec F S8x64x512 .f32) (x2 : Vec F S8x64x512 .f32) (x3 : Vec F S8x64x512 .f32) (x4 : Vec F S4608x512 .f32) (x5 : Vec F S512x54 .f32) (x6 : Vec F S1x512 .f32) (x7 : Vec F S1x54 .f32) (x8 : Vec F S512x9 .f32) (x9 : Vec F S512x9 .f32) (x10 : Vec F S512x9 .f32) (x11 : Vec F S512x9 .f32) : Vec F S512x9 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).2.2.2.1)
/-- The run's pieces for output 16 tile its block (1 store of `S512x9`, checked by the kernel's evaluation: Lib/Ring.lean `Piece.tiledL`, linear in the pieces, through a loop's `@[irreducible]` trip theorem too), so they cover it. -/
theorem cover0_A_16 (c : Dev nD) (i : grid0.Coords) (arg1 : Memref sig .tc .smem S1 .f32) (harg1 : arg1.IsWhole) (arg2 : Memref sig .tc .vmem S8x64x512 .f32) (harg2 : arg2.IsWhole) (arg3 : Memref sig .tc .vmem S8x64x512 .f32) (harg3 : arg3.IsWhole) (arg4 : Memref sig .tc .vmem S8x64x512 .f32) (harg4 : arg4.IsWhole) (arg5 : Memref sig .tc .vmem S4608x512 .f32) (harg5 : arg5.IsWhole) (arg6 : Memref sig .tc .vmem S512x54 .f32) (harg6 : arg6.IsWhole) (arg7 : Memref sig .tc .vmem S1x512 .f32) (harg7 : arg7.IsWhole) (arg8 : Memref sig .tc .vmem S1x54 .f32) (harg8 : arg8.IsWhole) (arg9 : Memref sig .tc .vmem S512x9 .f32) (harg9 : arg9.IsWhole) (arg10 : Memref sig .tc .vmem S512x9 .f32) (harg10 : arg10.IsWhole) (arg11 : Memref sig .tc .vmem S512x9 .f32) (harg11 : arg11.IsWhole) (arg12 : Memref sig .tc .vmem S512x9 .f32) (harg12 : arg12.IsWhole) (arg13 : Memref sig .tc .vmem S512x9 .f32) (harg13 : arg13.IsWhole) (arg14 : Memref sig .tc .vmem S512x9 .f32) (harg14 : arg14.IsWhole) (arg15 : Memref sig .tc .vmem S512x9 .f32) (harg15 : arg15.IsWhole) (arg16 : Memref sig .tc .vmem S512x9 .f32) (harg16 : arg16.IsWhole) (arg17 : Memref sig .tc .vmem S512x9 .f32) (harg17 : arg17.IsWhole)
    (x0 : Vec F S1 .f32) (x1 : Vec F S8x64x512 .f32) (x2 : Vec F S8x64x512 .f32) (x3 : Vec F S8x64x512 .f32) (x4 : Vec F S4608x512 .f32) (x5 : Vec F S512x54 .f32) (x6 : Vec F S1x512 .f32) (x7 : Vec F S1x54 .f32) (x8 : Vec F S512x9 .f32) (x9 : Vec F S512x9 .f32) (x10 : Vec F S512x9 .f32) (x11 : Vec F S512x9 .f32) (y : S512x9.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).2.2.2.2.1 S512x9.size (by sl_kernel_rfl) y
/-- What the run leaves in output 16's staging buffer: its pieces read back over junk. -/
def out0_A_16 (c : Dev nD) (i : grid0.Coords) (arg1 : Memref sig .tc .smem S1 .f32) (harg1 : arg1.IsWhole) (arg2 : Memref sig .tc .vmem S8x64x512 .f32) (harg2 : arg2.IsWhole) (arg3 : Memref sig .tc .vmem S8x64x512 .f32) (harg3 : arg3.IsWhole) (arg4 : Memref sig .tc .vmem S8x64x512 .f32) (harg4 : arg4.IsWhole) (arg5 : Memref sig .tc .vmem S4608x512 .f32) (harg5 : arg5.IsWhole) (arg6 : Memref sig .tc .vmem S512x54 .f32) (harg6 : arg6.IsWhole) (arg7 : Memref sig .tc .vmem S1x512 .f32) (harg7 : arg7.IsWhole) (arg8 : Memref sig .tc .vmem S1x54 .f32) (harg8 : arg8.IsWhole) (arg9 : Memref sig .tc .vmem S512x9 .f32) (harg9 : arg9.IsWhole) (arg10 : Memref sig .tc .vmem S512x9 .f32) (harg10 : arg10.IsWhole) (arg11 : Memref sig .tc .vmem S512x9 .f32) (harg11 : arg11.IsWhole) (arg12 : Memref sig .tc .vmem S512x9 .f32) (harg12 : arg12.IsWhole) (arg13 : Memref sig .tc .vmem S512x9 .f32) (harg13 : arg13.IsWhole) (arg14 : Memref sig .tc .vmem S512x9 .f32) (harg14 : arg14.IsWhole) (arg15 : Memref sig .tc .vmem S512x9 .f32) (harg15 : arg15.IsWhole) (arg16 : Memref sig .tc .vmem S512x9 .f32) (harg16 : arg16.IsWhole) (arg17 : Memref sig .tc .vmem S512x9 .f32) (harg17 : arg17.IsWhole)
    (x0 : Vec F S1 .f32) (x1 : Vec F S8x64x512 .f32) (x2 : Vec F S8x64x512 .f32) (x3 : Vec F S8x64x512 .f32) (x4 : Vec F S4608x512 .f32) (x5 : Vec F S512x54 .f32) (x6 : Vec F S1x512 .f32) (x7 : Vec F S1x54 .f32) (x8 : Vec F S512x9 .f32) (x9 : Vec F S512x9 .f32) (x10 : Vec F S512x9 .f32) (x11 : Vec F S512x9 .f32) : Vec F S512x9 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).2.2.2.2.1)
/-! ## What the outputs hold after each point -/
/-- What the outputs' staging buffers hold after the body at point `t` (as a tuple, in window order): the run's contents at
    the point's memrefs and input blocks. -/
def outsAt0 (c : Dev nD) (t : Fin cfg0.N) : Vec F S512x9 .f32 × Vec F S512x9 .f32 × Vec F S512x9 .f32 × Vec F S512x9 .f32 × Vec F S512x9 .f32 :=
  (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t))
/-! ## The pipeline's proof data -/
/-- The proof data of pipeline 0 on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => (outsAt0 V c t).1
    | ⟨13, _⟩ => (outsAt0 V c t).2.1
    | ⟨14, _⟩ => (outsAt0 V c t).2.2.1
    | ⟨15, _⟩ => (outsAt0 V c t).2.2.2.1
    | ⟨16, _⟩ => (outsAt0 V c t).2.2.2.2
    | ⟨_ + 17, h⟩ => absurd h (Nat.not_lt.2 (Nat.le_add_left _ _))
  Φ _ := Pipeline.ΦA spec0 c
  q w := Pipeline.shareOf spec0 w
  owed _ := 0
/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]
/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = (outsAt0 V c t).1 := by dsimp only [dat0]
theorem after0_13 (c : Dev nD) (t : Fin cfg0.N) : (dat0 V c).after 13 t = (outsAt0 V c t).2.1 := by dsimp only [dat0]
theorem after0_14 (c : Dev nD) (t : Fin cfg0.N) : (dat0 V c).after 14 t = (outsAt0 V c t).2.2.1 := by dsimp only [dat0]
theorem after0_15 (c : Dev nD) (t : Fin cfg0.N) : (dat0 V c).after 15 t = (outsAt0 V c t).2.2.2.1 := by dsimp only [dat0]
theorem after0_16 (c : Dev nD) (t : Fin cfg0.N) : (dat0 V c).after 16 t = (outsAt0 V c t).2.2.2.2 := by dsimp only [dat0]
/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
/-! ## The body obligation, at a generic point -/
/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d))
    ∗ (∃ d, owns (c : Thread nD τ) (ms0_16 t) fullShare ((dat0 V c).before 16 t d)))
/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t)
    ∗ owns (c : Thread nD τ) (ms0_14 t) fullShare ((dat0 V c).after 14 t)
    ∗ owns (c : Thread nD τ) (ms0_15 t) fullShare ((dat0 V c).after 15 t)
    ∗ owns (c : Thread nD τ) (ms0_16 t) fullShare ((dat0 V c).after 16 t))
set_option maxHeartbeats 1600000 in
/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16]
  unfold outsAt0
  unfold out0_A_12 out0_A_13 out0_A_14 out0_A_15 out0_A_16; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelRun0_A c (grid0.coords t) _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  iintro ⟨H0, H1, H2, H3, H4, H5, H6, H7, H8, H9, H10, H11, ⟨%e12, H12⟩, ⟨%e13, H13⟩, ⟨%e14, H14⟩, ⟨%e15, H15⟩, ⟨%e16, H16⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _)
  unfold owns; iexists _; isplitr
  swap; · iexact H16
  ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _)
/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]
/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl
end Regions
end Cert.Proof.KernelIdeal
end
-- ==== Proof.KI.Nms.lean ====
/- The second kernel region, `cc1__nms_body`: what its counted loops leave, as functions of the boxes' corners, and the body's triple. -/
module

public import proofs.«01_k».proof.Proof.Gen.KernelIdeal.Skeleton
public import Idealize.ShloMosaic.Lib.Exec
public import Idealize.ShloMosaic.Lib.Tactic
public import Idealize.ShloMosaic.Lib.VecWindow
public import Idealize.ShloMosaic.Lib.Pipeline.Kit
public import Idealize.ShloMosaic.Lib.Pipeline.FrameBody

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ## Trip counts -/

theorem trips1 : k1_t1_loop.trips = 48 := by decide
theorem trips2 : k1_t2_loop.trips = 128 := by decide
theorem trips4 : ∀ k : Fin k1_t1_loop.trips, (k1_t4_loop k).trips = 0 := by decide +kernel

/-! ## What the loops compute, as functions of the contents they find -/

/-- A row of 128 entries of a 48-row plane. -/
abbrev rowOf (x : Vec F S48x128 .f32) (off : Fin 2 → ℕ) (h : ∀ a, off a + S1x128.size a ≤ S48x128.size a) : Vec F S1x128 .f32 :=
  View.ld x (Rect.unit (s := S48x128) off S1x128.size h)
/-- A stretch of 128 entries of the column of 6144. -/
abbrev colOf (x : Vec F S6144x1 .f32) (off : Fin 2 → ℕ) (h : ∀ a, off a + S128x1.size a ≤ S6144x1.size a) : Vec F S128x1 .f32 :=
  View.ld x (Rect.unit (s := S6144x1) off S128x1.size h)

/-- The corner planes and the areas, each laid out in rows and in a column. -/
structure Boxes (F : FTy → Type) where
  r0 : Vec F S48x128 .f32
  r1 : Vec F S48x128 .f32
  r2 : Vec F S48x128 .f32
  r3 : Vec F S48x128 .f32
  c0 : Vec F S6144x1 .f32
  c1 : Vec F S6144x1 .f32
  c2 : Vec F S6144x1 .f32
  c3 : Vec F S6144x1 .f32
  ar : Vec F S48x128 .f32
  ac : Vec F S6144x1 .f32

variable (B : Boxes F)

/-- The new row of flags of a later block, from what block `k` keeps (`kept`). -/
def crossRow (k : Fin k1_t1_loop.trips) (kept : Vec F S1x128 .f32) (t : Fin (k1_t3_loop k).trips) (sup : Vec F S48x128 .f32) : Vec F S1x128 .f32 :=
  k1_pay3 kept (colOf B.ac (k1_off4 k) (k1_off4_inb k)) (rowOf B.ar (k1_off5 k t) (k1_off5_inb k t))
    (k1_pay6 (colOf B.c0 (k1_off4 k) (k1_off4_inb k)) (rowOf B.r0 (k1_off5 k t) (k1_off5_inb k t)))
    (k1_pay7 (colOf B.c1 (k1_off4 k) (k1_off4_inb k)) (rowOf B.r1 (k1_off5 k t) (k1_off5_inb k t)))
    (k1_pay8 (colOf B.c2 (k1_off4 k) (k1_off4_inb k)) (rowOf B.r2 (k1_off5 k t) (k1_off5_inb k t)))
    (k1_pay9 (colOf B.c3 (k1_off4 k) (k1_off4_inb k))) (k1_pay10 (rowOf B.r3 (k1_off5 k t) (k1_off5_inb k t)))
    (rowOf sup (k1_off5 k t) (k1_off5_inb k t))

/-- One later block's flags updated. -/
def crossStep (k : Fin k1_t1_loop.trips) (kept : Vec F S1x128 .f32) (t : Fin (k1_t3_loop k).trips) (sup : Vec F S48x128 .f32) : Vec F S48x128 .f32 :=
  VecWindow.put sup (k1_off5 k t) S1x128.size (crossRow B k kept t sup)

/-- The flags after the first `n` later blocks. -/
def crossFold (k : Fin k1_t1_loop.trips) (kept : Vec F S1x128 .f32) (sup : Vec F S48x128 .f32) : ℕ → Vec F S48x128 .f32
  | 0 => sup
  | n + 1 => if h : n < (k1_t3_loop k).trips then crossStep B k kept ⟨n, h⟩ (crossFold k kept sup n) else crossFold k kept sup n

theorem crossFold_succ (k : Fin k1_t1_loop.trips) (kept : Vec F S1x128 .f32) (sup : Vec F S48x128 .f32) (t : Fin (k1_t3_loop k).trips) :
    crossFold B k kept sup (t.val + 1) = crossStep B k kept t (crossFold B k kept sup t.val) := by
  rw [crossFold.eq_2]; exact dif_pos t.isLt

/-- Lane numbers of a row, and row and lane numbers of a square block. -/
abbrev lanes : IVec S1x128 32 := iota .tc S1x128 32 [1] iota_S1x128_d1_w32
abbrev sqRows : IVec S128x128 32 := iota .tc S128x128 32 [0] iota_S128x128_d0_w32
abbrev sqCols : IVec S128x128 32 := iota .tc S128x128 32 [1] iota_S128x128_d1_w32

/-- The square of flags between the boxes of block `k`. -/
def diagSq (v49 v50 : IVec S128x128 32) (k : Fin k1_t1_loop.trips) : Vec F S128x128 .f32 :=
  k1_pay21 v49 v50 (colOf B.ac (k1_off1 k) (k1_off1_inb k)) (rowOf B.ar (k1_off2 k) (k1_off2_inb k))
    (k1_pay16 (colOf B.c0 (k1_off1 k) (k1_off1_inb k)) (rowOf B.r0 (k1_off2 k) (k1_off2_inb k)))
    (k1_pay17 (colOf B.c1 (k1_off1 k) (k1_off1_inb k)) (rowOf B.r1 (k1_off2 k) (k1_off2_inb k)))
    (k1_pay18 (colOf B.c2 (k1_off1 k) (k1_off1_inb k)) (rowOf B.r2 (k1_off2 k) (k1_off2_inb k)))
    (k1_pay19 (colOf B.c3 (k1_off1 k) (k1_off1_inb k))) (k1_pay20 (rowOf B.r3 (k1_off2 k) (k1_off2_inb k)))

/-- One box of the block settled. -/
def innerStep (v48 : IVec S1x128 32) (m : Vec F S128x128 .f32) (t : Fin k1_t2_loop.trips) (acc : Vec F S1x128 .f32) : Vec F S1x128 .f32 :=
  k1_pay22 v48 t acc (View.ld m (Rect.unit (s := S128x128) (k1_off3 t) S1x128.size (k1_off3_inb t)))

/-- The block's flags after its first `n` boxes. -/
def innerFold (v48 : IVec S1x128 32) (m : Vec F S128x128 .f32) (init : Vec F S1x128 .f32) : ℕ → Vec F S1x128 .f32
  | 0 => init
  | n + 1 => if h : n < k1_t2_loop.trips then innerStep v48 m ⟨n, h⟩ (innerFold v48 m init n) else innerFold v48 m init n

theorem innerFold_succ (v48 : IVec S1x128 32) (m : Vec F S128x128 .f32) (init : Vec F S1x128 .f32) (t : Fin k1_t2_loop.trips) :
    innerFold v48 m init (t.val + 1) = innerStep v48 m t (innerFold v48 m init t.val) := by
  rw [innerFold.eq_2]; exact dif_pos t.isLt

/-- Block `k`'s own flags once settled. -/
def blockRow (v48 : IVec S1x128 32) (v49 v50 : IVec S128x128 32) (k : Fin k1_t1_loop.trips) (sup : Vec F S48x128 .f32) : Vec F S1x128 .f32 :=
  innerFold v48 (diagSq B v49 v50 k) (rowOf sup (k1_off2 k) (k1_off2_inb k)) k1_t2_loop.trips

/-- One block: its own flags settled, then every later block's updated. -/
def blockStep (v48 : IVec S1x128 32) (v49 v50 : IVec S128x128 32) (k : Fin k1_t1_loop.trips) (sup : Vec F S48x128 .f32) : Vec F S48x128 .f32 :=
  crossFold B k (k1_pay24 (blockRow B v48 v49 v50 k sup))
    (VecWindow.put sup (k1_off2 k) S1x128.size (k1_pay23 (blockRow B v48 v49 v50 k sup))) (k1_t3_loop k).trips

/-- The flags after the first `n` blocks. -/
def blockFold (v48 : IVec S1x128 32) (v49 v50 : IVec S128x128 32) (sup : Vec F S48x128 .f32) : ℕ → Vec F S48x128 .f32
  | 0 => sup
  | n + 1 => if h : n < k1_t1_loop.trips then blockStep B v48 v49 v50 ⟨n, h⟩ (blockFold v48 v49 v50 sup n) else blockFold v48 v49 v50 sup n

theorem blockFold_succ (v48 : IVec S1x128 32) (v49 v50 : IVec S128x128 32) (sup : Vec F S48x128 .f32) (t : Fin k1_t1_loop.trips) :
    blockFold B v48 v49 v50 sup (t.val + 1) = blockStep B v48 v49 v50 t (blockFold B v48 v49 v50 sup t.val) := by
  rw [blockFold.eq_2]; exact dif_pos t.isLt

/-- The boxes whose corners and areas are what the memrefs read. -/
abbrev boxesOf (arg0 : Memref sig .tc .vmem S48x128 .f32) (arg1 : Memref sig .tc .vmem S48x128 .f32) (arg2 : Memref sig .tc .vmem S48x128 .f32) (arg3 : Memref sig .tc .vmem S48x128 .f32)
    (arg4 : Memref sig .tc .vmem S6144x1 .f32) (arg5 : Memref sig .tc .vmem S6144x1 .f32) (arg6 : Memref sig .tc .vmem S6144x1 .f32) (arg7 : Memref sig .tc .vmem S6144x1 .f32)
    (arg11 : Memref sig .tc .vmem S48x128 .f32) (arg12 : Memref sig .tc .vmem S6144x1 .f32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) : Boxes F :=
  ⟨arg0.view.read (Elt F) X0, arg1.view.read (Elt F) X1, arg2.view.read (Elt F) X2, arg3.view.read (Elt F) X3,
    arg4.view.read (Elt F) X4, arg5.view.read (Elt F) X5, arg6.view.read (Elt F) X6, arg7.view.read (Elt F) X7,
    arg11.view.read (Elt F) X11, arg12.view.read (Elt F) X12⟩

/-! ## The loops by their invariants -/

section Cross

variable (𝒱 : Variants) (c : Dev nD) (bd : Option 𝒱.V) (E : Set ℕ) (arg0 : Memref sig .tc .vmem S48x128 .f32) (harg0 : arg0.IsWhole) (arg1 : Memref sig .tc .vmem S48x128 .f32) (harg1 : arg1.IsWhole) (arg2 : Memref sig .tc .vmem S48x128 .f32) (harg2 : arg2.IsWhole) (arg3 : Memref sig .tc .vmem S48x128 .f32) (harg3 : arg3.IsWhole) (arg4 : Memref sig .tc .vmem S6144x1 .f32) (harg4 : arg4.IsWhole) (arg5 : Memref sig .tc .vmem S6144x1 .f32) (harg5 : arg5.IsWhole) (arg6 : Memref sig .tc .vmem S6144x1 .f32) (harg6 : arg6.IsWhole) (arg7 : Memref sig .tc .vmem S6144x1 .f32) (harg7 : arg7.IsWhole) (arg8 : Memref sig .tc .vmem S48x128 .f32) (harg8 : arg8.IsWhole) (arg9 : Memref sig .tc .vmem S48x128 .f32) (harg9 : arg9.IsWhole) (arg10 : Memref sig .tc .vmem S128x128 .f32) (harg10 : arg10.IsWhole) (arg11 : Memref sig .tc .vmem S48x128 .f32) (harg11 : arg11.IsWhole) (arg12 : Memref sig .tc .vmem S6144x1 .f32) (harg12 : arg12.IsWhole)
  (k1_t1 : Fin k1_t1_loop.trips) (arg13 : BitVec 32) (kept : FVec F S1x128 .f32) (v137 : BitVec 32)
  (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (G : BufTy.Contents (Elt F) arg9.view.ty)

/-- The cross loop before trip `n`: the planes as they are, the flags read as `crossFold … n`. -/
abbrev inv3 (n : ℕ) (acc : BitVec 32) : sProp 𝕄G :=
  iprop((arg0.view.loc (c : Thread nD τ) ↦[arg0.view.set]{fullShare} X0)
    ∗ (arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg11.view.loc (c : Thread nD τ) ↦[arg11.view.set]{fullShare} X11)
    ∗ (arg12.view.loc (c : Thread nD τ) ↦[arg12.view.set]{fullShare} X12)
    ∗ (∃ f : BufTy.Contents (Elt F) arg9.view.ty, (arg9.view.loc (c : Thread nD τ) ↦[arg9.view.set]{fullShare} f)
        ∗ ⌜arg9.view.read (Elt F) f = crossFold (boxesOf arg0 arg1 arg2 arg3 arg4 arg5 arg6 arg7 arg11 arg12 X0 X1 X2 X3 X4 X5 X6 X7 X11 X12) k1_t1 kept (arg9.view.read (Elt F) G) n⌝))

theorem step3 (k : Fin (k1_t3_loop k1_t1).trips) (acc : BitVec 32) :
    inv3 c arg0 arg1 arg2 arg3 arg4 arg5 arg6 arg7 arg9 arg11 arg12 k1_t1 kept X0 X1 X2 X3 X4 X5 X6 X7 X11 X12 G k.val acc ⊢
      wp Idealize.ShloMosaic.frame (wpE (defs₀ (F := F)) 𝒱 (c : Thread nD τ) bd) E
        (k1_t3_body (F := F) arg0 harg0 arg1 harg1 arg2 harg2 arg3 harg3 arg4 harg4 arg5 harg5 arg6 harg6 arg7 harg7 arg8 harg8 arg9 harg9 arg10 harg10 arg11 harg11 arg12 harg12 k1_t1 arg13 kept v137 k acc) (inv3 c arg0 arg1 arg2 arg3 arg4 arg5 arg6 arg7 arg9 arg11 arg12 k1_t1 kept X0 X1 X2 X3 X4 X5 X6 X7 X11 X12 G (k.val + 1)) := by
  unfold k1_t3_body
  simp only [k1_part1_eq_skeleton]
  iintro ⟨H0, H1, H2, H3, H4, H5, H6, H7, H11, H12, %f, H9, %hf⟩
  sl_exec
  sl_step
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H11]; · iexact H11
  isplitl [H12]; · iexact H12
  iexists _
  isplitl [H9]; · iexact H9
  ipureintro
  rw [View.read_writes_cons_put _ _ _ _ _ rfl, crossFold_succ, ← hf]
  rfl

/-- The cross loop by its invariant. -/
@[sl_loop, reducible] def crossInv (init : BitVec 32) :
    Idealize.ShloMosaic.LoopInv (M := 𝕄G) Idealize.ShloMosaic.frame (wpE (defs₀ (F := F)) 𝒱 (c : Thread nD τ) bd) E
      (k1_t3_loop k1_t1).lb (k1_t3_loop k1_t1).ub (k1_t3_loop k1_t1).st (k1_t3_ok k1_t1) init
      (k1_t3_body (F := F) arg0 harg0 arg1 harg1 arg2 harg2 arg3 harg3 arg4 harg4 arg5 harg5 arg6 harg6 arg7 harg7 arg8 harg8 arg9 harg9 arg10 harg10 arg11 harg11 arg12 harg12 k1_t1 arg13 kept v137) where
  inv := inv3 c arg0 arg1 arg2 arg3 arg4 arg5 arg6 arg7 arg9 arg11 arg12 k1_t1 kept X0 X1 X2 X3 X4 X5 X6 X7 X11 X12 G
  step := step3 𝒱 c bd E arg0 harg0 arg1 harg1 arg2 harg2 arg3 harg3 arg4 harg4 arg5 harg5 arg6 harg6 arg7 harg7 arg8 harg8 arg9 harg9 arg10 harg10 arg11 harg11 arg12 harg12 k1_t1 arg13 kept v137 X0 X1 X2 X3 X4 X5 X6 X7 X11 X12 G

end Cross

section Inner

variable (𝒱 : Variants) (c : Dev nD) (bd : Option 𝒱.V) (E : Set ℕ) (arg0 : Memref sig .tc .vmem S48x128 .f32) (harg0 : arg0.IsWhole) (arg1 : Memref sig .tc .vmem S48x128 .f32) (harg1 : arg1.IsWhole) (arg2 : Memref sig .tc .vmem S48x128 .f32) (harg2 : arg2.IsWhole) (arg3 : Memref sig .tc .vmem S48x128 .f32) (harg3 : arg3.IsWhole) (arg4 : Memref sig .tc .vmem S6144x1 .f32) (harg4 : arg4.IsWhole) (arg5 : Memref sig .tc .vmem S6144x1 .f32) (harg5 : arg5.IsWhole) (arg6 : Memref sig .tc .vmem S6144x1 .f32) (harg6 : arg6.IsWhole) (arg7 : Memref sig .tc .vmem S6144x1 .f32) (harg7 : arg7.IsWhole) (arg8 : Memref sig .tc .vmem S48x128 .f32) (harg8 : arg8.IsWhole) (arg9 : Memref sig .tc .vmem S48x128 .f32) (harg9 : arg9.IsWhole) (arg10 : Memref sig .tc .vmem S128x128 .f32) (harg10 : arg10.IsWhole) (arg11 : Memref sig .tc .vmem S48x128 .f32) (harg11 : arg11.IsWhole) (arg12 : Memref sig .tc .vmem S6144x1 .f32) (harg12 : arg12.IsWhole)
  (v48 : IVec S1x128 32) (v49 v50 : IVec S128x128 32)
  (k1_t1 : Fin k1_t1_loop.trips) (arg13 : BitVec 32) (w74 : FVec F S128x1 .f32) (w88 : FVec F S1x128 .f32)
  (w91 w94 w97 w98 w99 : FVec F S128x128 .f32)
  (X10 : BufTy.Contents (Elt F) arg10.view.ty) (init : FVec F S1x128 .f32)

/-- The inner loop before trip `n`: the square as it is, the carried row at `innerFold … n`. -/
abbrev inv2 (n : ℕ) (acc : FVec F S1x128 .f32) : sProp 𝕄G :=
  iprop((arg10.view.loc (c : Thread nD τ) ↦[arg10.view.set]{fullShare} X10)
    ∗ ⌜acc = innerFold v48 (arg10.view.read (Elt F) X10) init n⌝)

theorem step2 (k : Fin k1_t2_loop.trips) (acc : FVec F S1x128 .f32) :
    inv2 c arg10 v48 X10 init k.val acc ⊢
      wp Idealize.ShloMosaic.frame (wpE (defs₀ (F := F)) 𝒱 (c : Thread nD τ) bd) E
        (k1_t2_body (F := F) arg0 harg0 arg1 harg1 arg2 harg2 arg3 harg3 arg4 harg4 arg5 harg5 arg6 harg6 arg7 harg7 arg8 harg8 arg9 harg9 arg10 harg10 arg11 harg11 arg12 harg12 v48 v49 v50 k1_t1 arg13 w74 w88 w91 w94 w97 w98 w99 k acc) (inv2 c arg10 v48 X10 init (k.val + 1)) := by
  unfold k1_t2_body
  iintro ⟨H10, %ha⟩
  sl_exec
  sl_step
  isplitl [H10]; · iexact H10
  ipureintro
  rw [innerFold_succ, ← ha]
  rfl

/-- The inner loop by its invariant. -/
@[sl_loop, reducible] def innerInv :
    Idealize.ShloMosaic.LoopInv (M := 𝕄G) Idealize.ShloMosaic.frame (wpE (defs₀ (F := F)) 𝒱 (c : Thread nD τ) bd) E
      k1_t2_loop.lb k1_t2_loop.ub k1_t2_loop.st k1_t2_ok init
      (k1_t2_body (F := F) arg0 harg0 arg1 harg1 arg2 harg2 arg3 harg3 arg4 harg4 arg5 harg5 arg6 harg6 arg7 harg7 arg8 harg8 arg9 harg9 arg10 harg10 arg11 harg11 arg12 harg12 v48 v49 v50 k1_t1 arg13 w74 w88 w91 w94 w97 w98 w99) where
  inv := inv2 c arg10 v48 X10 init
  step := step2 𝒱 c bd E arg0 harg0 arg1 harg1 arg2 harg2 arg3 harg3 arg4 harg4 arg5 harg5 arg6 harg6 arg7 harg7 arg8 harg8 arg9 harg9 arg10 harg10 arg11 harg11 arg12 harg12 v48 v49 v50 k1_t1 arg13 w74 w88 w91 w94 w97 w98 w99 X10 init

end Inner

section Outer

variable (𝒱 : Variants) (c : Dev nD) (bd : Option 𝒱.V) (E : Set ℕ) (arg0 : Memref sig .tc .vmem S48x128 .f32) (harg0 : arg0.IsWhole) (arg1 : Memref sig .tc .vmem S48x128 .f32) (harg1 : arg1.IsWhole) (arg2 : Memref sig .tc .vmem S48x128 .f32) (harg2 : arg2.IsWhole) (arg3 : Memref sig .tc .vmem S48x128 .f32) (harg3 : arg3.IsWhole) (arg4 : Memref sig .tc .vmem S6144x1 .f32) (harg4 : arg4.IsWhole) (arg5 : Memref sig .tc .vmem S6144x1 .f32) (harg5 : arg5.IsWhole) (arg6 : Memref sig .tc .vmem S6144x1 .f32) (harg6 : arg6.IsWhole) (arg7 : Memref sig .tc .vmem S6144x1 .f32) (harg7 : arg7.IsWhole) (arg8 : Memref sig .tc .vmem S48x128 .f32) (harg8 : arg8.IsWhole) (arg9 : Memref sig .tc .vmem S48x128 .f32) (harg9 : arg9.IsWhole) (arg10 : Memref sig .tc .vmem S128x128 .f32) (harg10 : arg10.IsWhole) (arg11 : Memref sig .tc .vmem S48x128 .f32) (harg11 : arg11.IsWhole) (arg12 : Memref sig .tc .vmem S6144x1 .f32) (harg12 : arg12.IsWhole)
  (v48 : IVec S1x128 32) (v49 v50 : IVec S128x128 32)
  (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X11 : BufTy.Contents (Elt F) arg11.view.ty) (X12 : BufTy.Contents (Elt F) arg12.view.ty) (G : BufTy.Contents (Elt F) arg9.view.ty)

/-- The block loop before trip `n`: the planes as they are, the flags read as `blockFold … n`, the square scratch anything. -/
abbrev inv1 (n : ℕ) (acc : PUnit) : sProp 𝕄G :=
  iprop((arg0.view.loc (c : Thread nD τ) ↦[arg0.view.set]{fullShare} X0)
    ∗ (arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg11.view.loc (c : Thread nD τ) ↦[arg11.view.set]{fullShare} X11)
    ∗ (arg12.view.loc (c : Thread nD τ) ↦[arg12.view.set]{fullShare} X12)
    ∗ (∃ f : BufTy.Contents (Elt F) arg9.view.ty, (arg9.view.loc (c : Thread nD τ) ↦[arg9.view.set]{fullShare} f)
        ∗ ⌜arg9.view.read (Elt F) f = blockFold (boxesOf arg0 arg1 arg2 arg3 arg4 arg5 arg6 arg7 arg11 arg12 X0 X1 X2 X3 X4 X5 X6 X7 X11 X12) v48 v49 v50 (arg9.view.read (Elt F) G) n⌝)
    ∗ (∃ f : BufTy.Contents (Elt F) arg10.view.ty, arg10.view.loc (c : Thread nD τ) ↦[arg10.view.set]{fullShare} f))

theorem step1 (k : Fin k1_t1_loop.trips) (acc : PUnit) :
    inv1 c arg0 arg1 arg2 arg3 arg4 arg5 arg6 arg7 arg9 arg10 arg11 arg12 v48 v49 v50 X0 X1 X2 X3 X4 X5 X6 X7 X11 X12 G k.val acc ⊢
      wp Idealize.ShloMosaic.frame (wpE (defs₀ (F := F)) 𝒱 (c : Thread nD τ) bd) E
        (k1_t1_body (F := F) arg0 harg0 arg1 harg1 arg2 harg2 arg3 harg3 arg4 harg4 arg5 harg5 arg6 harg6 arg7 harg7 arg8 harg8 arg9 harg9 arg10 harg10 arg11 harg11 arg12 harg12 v48 v49 v50 k acc) (inv1 c arg0 arg1 arg2 arg3 arg4 arg5 arg6 arg7 arg9 arg10 arg11 arg12 v48 v49 v50 X0 X1 X2 X3 X4 X5 X6 X7 X11 X12 G (k.val + 1)) := by
  unfold k1_t1_body
  simp only [k1_part3_eq_skeleton, k1_part4_eq_skeleton]
  iintro ⟨H0, H1, H2, H3, H4, H5, H6, H7, H11, H12, ⟨%f, H9, %hf⟩, %g, H10⟩
  have htr : (k1_t4_loop k).trips = 0 := trips4 k
  sl_exec
  sl_step
  have hsq : arg10.view.read (Elt F) (arg10.view.writes (Elt F) arg10.view.junk
      (step1.sl.H10_1 arg0 arg1 arg2 arg3 arg4 arg5 arg6 arg7 arg11 arg12 v49 v50 X0 X1 X2 X3 X4 X5 X6 X7 X11 X12 k))
      = diagSq (boxesOf arg0 arg1 arg2 arg3 arg4 arg5 arg6 arg7 arg11 arg12 X0 X1 X2 X3 X4 X5 X6 X7 X11 X12) v49 v50 k := View.read_writes_full _ _ _ _ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H11]; · iexact H11
  isplitl [H12]; · iexact H12
  isplitl [H9]
  · iexists _
    isplitl [H9]; · iexact H9
    ipureintro
    unfold step1.sl.r_7 at hL13
    rw [hL13, View.read_writes_cons_put _ _ _ _ _ rfl, blockFold_succ, ← hf, hsq]
    rfl
  · iexists _
    iexact H10

/-- The block loop by its invariant. -/
@[sl_loop, reducible] def blockInv :
    Idealize.ShloMosaic.LoopInv (M := 𝕄G) Idealize.ShloMosaic.frame (wpE (defs₀ (F := F)) 𝒱 (c : Thread nD τ) bd) E
      k1_t1_loop.lb k1_t1_loop.ub k1_t1_loop.st k1_t1_ok ⟨⟩
      (k1_t1_body (F := F) arg0 harg0 arg1 harg1 arg2 harg2 arg3 harg3 arg4 harg4 arg5 harg5 arg6 harg6 arg7 harg7 arg8 harg8 arg9 harg9 arg10 harg10 arg11 harg11 arg12 harg12 v48 v49 v50) where
  inv := inv1 c arg0 arg1 arg2 arg3 arg4 arg5 arg6 arg7 arg9 arg10 arg11 arg12 v48 v49 v50 X0 X1 X2 X3 X4 X5 X6 X7 X11 X12 G
  step := step1 𝒱 c bd E arg0 harg0 arg1 harg1 arg2 harg2 arg3 harg3 arg4 harg4 arg5 harg5 arg6 harg6 arg7 harg7 arg8 harg8 arg9 harg9 arg10 harg10 arg11 harg11 arg12 harg12 v48 v49 v50 X0 X1 X2 X3 X4 X5 X6 X7 X11 X12 G

end Outer

/-! ## The region's body -/

/-- The boxes the region finds in its eight input blocks, with the areas it computes of them. -/
def boxesIn (x0 x1 x2 x3 : Vec F S48x128 .f32) (x4 x5 x6 x7 : Vec F S6144x1 .f32) : Boxes F :=
  ⟨x0, x1, x2, x3, x4, x5, x6, x7, k1_pay25 x2 x0 x3 x1, k1_pay1 (k1_pay26 x6 x4 x7 x5)⟩

/-- What the region leaves in its output: one minus the flags after all blocks, of the flags it starts from. -/
def keepOut (B : Boxes F) : Vec F S48x128 .f32 :=
  k1_pay5 (blockFold B lanes sqRows sqCols (k1_pay2 (F := F)) k1_t1_loop.trips)

theorem readAt_rows (m : Memref sig .tc .vmem S48x128 .f32) (f : BufTy.Contents (Elt F) m.view.ty) :
    View.readAt (Elt F) m.view (Rect.unit (s := S48x128) ![0, 0] ![48, 128] inb_S48x128_S48x128_0_0).toLoadRect f = m.view.read (Elt F) f :=
  View.readAt_full _ _ _
theorem readAt_col (m : Memref sig .tc .vmem S6144x1 .f32) (f : BufTy.Contents (Elt F) m.view.ty) :
    View.readAt (Elt F) m.view (Rect.unit (s := S6144x1) ![0, 0] ![6144, 1] inb_S6144x1_S6144x1_0_0).toLoadRect f = m.view.read (Elt F) f :=
  View.readAt_full _ _ _

/-- The region's body: from the eight input blocks, whatever is in the output and the four scratch buffers, it leaves the inputs
as they were and the output at `keepOut` of the boxes. -/
theorem sound_kernel1 (c : Dev nD) (E : Set ℕ) (arg0 : Memref sig .tc .vmem S48x128 .f32) (harg0 : arg0.IsWhole) (arg1 : Memref sig .tc .vmem S48x128 .f32) (harg1 : arg1.IsWhole) (arg2 : Memref sig .tc .vmem S48x128 .f32) (harg2 : arg2.IsWhole) (arg3 : Memref sig .tc .vmem S48x128 .f32) (harg3 : arg3.IsWhole) (arg4 : Memref sig .tc .vmem S6144x1 .f32) (harg4 : arg4.IsWhole) (arg5 : Memref sig .tc .vmem S6144x1 .f32) (harg5 : arg5.IsWhole) (arg6 : Memref sig .tc .vmem S6144x1 .f32) (harg6 : arg6.IsWhole) (arg7 : Memref sig .tc .vmem S6144x1 .f32) (harg7 : arg7.IsWhole) (arg8 : Memref sig .tc .vmem S48x128 .f32) (harg8 : arg8.IsWhole) (arg9 : Memref sig .tc .vmem S48x128 .f32) (harg9 : arg9.IsWhole) (arg10 : Memref sig .tc .vmem S128x128 .f32) (harg10 : arg10.IsWhole) (arg11 : Memref sig .tc .vmem S48x128 .f32) (harg11 : arg11.IsWhole) (arg12 : Memref sig .tc .vmem S6144x1 .f32) (harg12 : arg12.IsWhole)
    (x0 x1 x2 x3 : Vec F S48x128 .f32) (x4 x5 x6 x7 : Vec F S6144x1 .f32) (K : PUnit → sProp 𝕄G) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare x6 ∗ owns (c : Thread nD τ) arg7 fullShare x7
        ∗ (∃ d, owns (c : Thread nD τ) arg8 fullShare d)
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (keepOut (boxesIn x0 x1 x2 x3 x4 x5 x6 x7))
            ∗ (∃ d, owns (c : Thread nD τ) arg9 fullShare d) ∗ (∃ d, owns (c : Thread nD τ) arg10 fullShare d)
            ∗ (∃ d, owns (c : Thread nD τ) arg11 fullShare d) ∗ (∃ d, owns (c : Thread nD τ) arg12 fullShare d)) -∗ K ⟨⟩))
      ⊢ wp Idealize.ShloMosaic.frame (wpE (defs₀ (F := F)) Variants.none (c : Thread nD τ) none) E (cc1__nms_body (F := F) arg0 harg0 arg1 harg1 arg2 harg2 arg3 harg3 arg4 harg4 arg5 harg5 arg6 harg6 arg7 harg7 arg8 harg8 arg9 harg9 arg10 harg10 arg11 harg11 arg12 harg12) K := by
  simp only [cc1__nms_body_eq_skeleton]
  unfold cc1__nms_body_skel
  simp only [k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7
  sl_exec
  sl_step
  have h11 : arg11.view.read (Elt F) (arg11.view.writes (Elt F) arg11.view.junk (sound_kernel1.sl.H11_1 c arg0 arg1 arg2 arg3 f0 f1 f2 f3))
      = k1_pay25 (arg2.view.read (Elt F) f2) (arg0.view.read (Elt F) f0) (arg3.view.read (Elt F) f3) (arg1.view.read (Elt F) f1) := by
    unfold sound_kernel1.sl.H11_1
    simp only [readAt_rows]
    exact View.read_writes_full (s := S48x128) _ _ inb_S48x128_S48x128_0_0 _ _
  have h12 : arg12.view.read (Elt F) (arg12.view.writes (Elt F) arg12.view.junk (sound_kernel1.sl.H12_1 c arg4 arg5 arg6 arg7 f4 f5 f6 f7))
      = k1_pay1 (k1_pay26 (arg6.view.read (Elt F) f6) (arg4.view.read (Elt F) f4) (arg7.view.read (Elt F) f7) (arg5.view.read (Elt F) f5)) := by
    unfold sound_kernel1.sl.H12_1 sound_kernel1.sl.r
    simp only [readAt_col]
    exact View.read_writes_full (s := S6144x1) _ _ inb_S6144x1_S6144x1_0_0 _ _
  have h9 : arg9.view.read (Elt F) (arg9.view.writes (Elt F) arg9.view.junk (sound_kernel1.sl.H9_1 (F := F))) = k1_pay2 (F := F) := by
    unfold sound_kernel1.sl.H9_1
    exact View.read_writes_full _ _ _ _ _
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro
    refine (View.read_writes_full _ _ _ _ _).trans ?_
    refine congrArg k1_pay5 ?_
    refine (View.readAt_full _ _ _).trans ?_
    rw [hL11, h9]
    unfold boxesOf boxesIn
    rw [h11, h12]
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  iexists _; iexists _; isplitr
  swap; · iexact H12
  ipureintro; rfl

end Cert.Proof.KernelIdeal
end
-- ==== Proof.KI.Region1.lean ====
/- The second kernel region over its staging buffers and scratch: its proof data and its obligation. -/
module
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KI.Nms

@[expose] public section
set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))
/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- What the region leaves in its output window's buffer, from its input windows' blocks. -/
def out1_8 (c : Dev nD) (t : Fin cfg1.N) : Vec F S48x128 .f32 :=
  keepOut (boxesIn (iblk1 V c 0 t) (iblk1 V c 1 t) (iblk1 V c 2 t) (iblk1 V c 3 t) (iblk1 V c 4 t) (iblk1 V c 5 t) (iblk1 V c 6 t) (iblk1 V c 7 t))

/-- The region's proof data: inputs left in place, the output at `out1_8`; scratch at anything. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- A scratch buffer held whole, read as a memref; and back. -/
theorem scratch_in (b : Ref sig .tc) (c : Dev nD) :
    (iprop(∃ f : Buf (Elt F) ((c : Thread nD τ).loc b), ((c : Thread nD τ).loc b) ↦{fullShare} f) : sProp 𝕄)
      ⊢ iprop(∃ d, owns (c : Thread nD τ) (Memref.whole b) fullShare d) := by
  unfold owns
  iintro ⟨%f, H⟩
  iexists f; iexists f
  isplitr
  · ipureintro; rfl
  rw [show (Memref.whole b : Memref sig .tc _ _ _).view.set = Finset.univ from View.set_whole b]
  iexact H
theorem scratch_out (b : Ref sig .tc) (c : Dev nD) :
    (iprop(∃ d, owns (c : Thread nD τ) (Memref.whole b) fullShare d) : sProp 𝕄)
      ⊢ iprop(∃ f : Buf (Elt F) ((c : Thread nD τ).loc b), ((c : Thread nD τ).loc b) ↦{fullShare} f) := by
  unfold owns
  iintro ⟨%d, %f, -, H⟩
  iexists f
  rw [show (Memref.whole b : Memref sig .tc _ _ _).view.set = Finset.univ from View.set_whole b]
  iexact H

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))
/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem sound_body1 (c : Dev nD) (t : Fin cfg1.N) :
    bodyPre1 V c t ⊢ wp Idealize.ShloMosaic.frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  rw [show (dat1 V c).Φ t.castSucc = Pipeline.ΦA spec1 c from rfl]
  unfold Pipeline.ΦA
  rw [scopedRest1_split]
  iintro ⟨⟨⟨⟨S0, S1, S2, S3⟩, HR⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [S0]; · iapply (scratch_in cc1_scratch0 c); iexact S0
  isplitl [S1]; · iapply (scratch_in cc1_scratch1 c); iexact S1
  isplitl [S2]; · iapply (scratch_in cc1_scratch2 c); iexact S2
  isplitl [S3]; · iapply (scratch_in cc1_scratch3 c); iexact S3
  iintro ⟨H0, H1, H2, H3, H4, H5, H6, H7, H8, S0, S1, S2, S3⟩
  isplitl [S0 S1 S2 S3 HR HP]
  · isplitl [S0 S1 S2 S3 HR]
    · isplitl [S0 S1 S2 S3]
      · isplitl [S0]; · iapply (scratch_out cc1_scratch0 c); iexact S0
        isplitl [S1]; · iapply (scratch_out cc1_scratch1 c); iexact S1
        isplitl [S2]; · iapply (scratch_out cc1_scratch2 c); iexact S2
        iapply (scratch_out cc1_scratch3 c); iexact S3
      iexact HR
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]
/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl
end Regions

end Cert.Proof.KernelIdeal
end
-- ==== Proof.KI.Run.lean ====
/- @main from launch to return: the buffers at every boundary, the regions as segments, and the run. -/
module
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.KI.Dense
public import proofs.«01_k».proof.Proof.KI.Region1

@[expose] public section
set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
/-! # THE RUN: @main's segments from the launch to the return (Lib/Pipeline/Regions.lean `θ_run_regions_kit`) -/
/-- @main's argument arrays, as TensorCore references: what the frame claim reads back. -/
abbrev argRefs : List (Ref sig .tc) := [main_arg0, main_arg1, main_arg2, main_arg3, main_arg4, main_arg5, main_arg6, main_arg7]
/-! ## The host stretches: none allocates a buffer, and each lists the references its operations write, in order,
    so that a reference absent from the list keeps its contents across the stretch (Lib/StableHlo/Run.lean
    `after_of_writes_sub`) -/
/-- `hostOps0` writes none of the argument arrays (checked: each argument against each reference it writes). -/
theorem hostOps0_args : ∀ a ∈ argRefs, a ∉ hostOps0_W := ListAll.forall_mem_of_all_decide (by decide +kernel)
/-- `hostOps1` writes none of the argument arrays (checked: each argument against each reference it writes). -/
theorem hostOps1_args : ∀ a ∈ argRefs, a ∉ hostOps1_W := ListAll.forall_mem_of_all_decide (by decide +kernel)
/-- `hostOps2` writes none of the argument arrays (checked: each argument against each reference it writes). -/
theorem hostOps2_args : ∀ a ∈ argRefs, a ∉ hostOps2_W := ListAll.forall_mem_of_all_decide (by decide +kernel)
/-- `hostOps2_1` writes none of the argument arrays (checked: each argument against each reference it writes). -/
theorem hostOps2_1_args : ∀ a ∈ argRefs, a ∉ hostOps2_1_W := ListAll.forall_mem_of_all_decide (by decide +kernel)
/-- `hostOps2_2` writes none of the argument arrays (checked: each argument against each reference it writes). -/
theorem hostOps2_2_args : ∀ a ∈ argRefs, a ∉ hostOps2_2_W := ListAll.forall_mem_of_all_decide (by decide +kernel)
/-! ## The buffer contents at each segment boundary: a fold through @main, and what each item leaves unchanged -/
/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays_shared`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- After `hostOps2_1`. -/
abbrev W6 : Dev nD → Valuation τ sig (Elt F) := fun c => StableHlo.after hostOps2_1 (W5 m ρ c)
/-- A reference `hostOps2_1` does not write keeps its contents across it. -/
theorem W6_of (c : Dev nD) (r : Ref sig .tc) (h : r ∉ hostOps2_1_W) : W6 m ρ c (Proc.devRef .tc r) = W5 m ρ c (Proc.devRef .tc r) :=
  StableHlo.after_of_writes_sub hostOps2_1 _ hostOps2_1_writes h
theorem W6_args (c : Dev nD) : ∀ a ∈ argRefs, W6 m ρ c (Proc.devRef .tc a) = m ((c : Thread nD τ).loc a) :=
  fun a ha => (W6_of m ρ c a (hostOps2_1_args a ha)).trans (W5_args m ρ c a ha)
/-- After `hostOps2_2`. -/
abbrev W7 : Dev nD → Valuation τ sig (Elt F) := fun c => StableHlo.after hostOps2_2 (W6 m ρ c)
/-- A reference `hostOps2_2` does not write keeps its contents across it. -/
theorem W7_of (c : Dev nD) (r : Ref sig .tc) (h : r ∉ hostOps2_2_W) : W7 m ρ c (Proc.devRef .tc r) = W6 m ρ c (Proc.devRef .tc r) :=
  StableHlo.after_of_writes_sub hostOps2_2 _ hostOps2_2_writes h
theorem W7_args (c : Dev nD) : ∀ a ∈ argRefs, W7 m ρ c (Proc.devRef .tc a) = m ((c : Thread nD τ).loc a) :=
  fun a ha => (W7_of m ρ c a (hostOps2_2_args a ha)).trans (W6_args m ρ c a ha)
/-! ### The arguments end as launched: no host stretch writes one and no region may change one (a region reads it
    through an input window or bypasses it) -/
theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)
theorem W7_main_arg6 (c : Dev nD) : W7 m ρ c (Proc.devRef .tc main_arg6) = m ((c : Thread nD τ).loc main_arg6) :=
  W7_args m ρ c main_arg6 (by decide)
theorem W7_main_arg7 (c : Dev nD) : W7 m ρ c (Proc.devRef .tc main_arg7) = m ((c : Thread nD τ).loc main_arg7) :=
  W7_args m ρ c main_arg7 (by decide)
/-! ## The proof data family and the thread state -/
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)
/-! ## The regions as segments -/
-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs_shared`) and put back at the exit contents (`unscopedBufs_of_arrays_shared`; its input windows on one array (`launch₀0.sharedIn`) each dealt their share of it, `Pipeline.shareOf`, by the proof data); the generator register into the
    class invariant `ΦA` and out; nothing owed; no semaphore of the kernel's own. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-! ## @main as segments, and the launch -/
/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)
-- `θ_run_regions_kit_sems`'s implicit arguments are found by unifying its conclusion with this one, which takes unfolding
-- plain definitions in a metavariable's type
set_option backward.isDefEq.respectTransparency.types false in
/-- From any memory with zero counters @main terminates, and every final state holds every unscoped buffer at the last boundary's
contents and every semaphore counter at zero. -/
theorem run_all : θ_run defs (onTc (τ := τ) (main (F := F))) ⟨m, fun _ => 0, ρ⟩ (fun r => (∀ c : Dev nD, ∀ b ∈ Pipeline.ucRefs τ sig,
      r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (regions_no_unscoped g.2))⟩)

/-- The frame: the argument arrays end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ hh => ⟨fun c =>
    ⟨(hh.1 c _ (mem_uc main_arg0 (by decide))).trans (W7_main_arg0 m ρ c),
     (hh.1 c _ (mem_uc main_arg1 (by decide))).trans (W7_main_arg1 m ρ c),
     (hh.1 c _ (mem_uc main_arg2 (by decide))).trans (W7_main_arg2 m ρ c),
     (hh.1 c _ (mem_uc main_arg3 (by decide))).trans (W7_main_arg3 m ρ c),
     (hh.1 c _ (mem_uc main_arg4 (by decide))).trans (W7_main_arg4 m ρ c),
     (hh.1 c _ (mem_uc main_arg5 (by decide))).trans (W7_main_arg5 m ρ c),
     (hh.1 c _ (mem_uc main_arg6 (by decide))).trans (W7_main_arg6 m ρ c),
     (hh.1 c _ (mem_uc main_arg7 (by decide))).trans (W7_main_arg7 m ρ c)⟩, hh.2⟩) (run_all m ρ)

/-- The run's value: the result array ends at the last boundary's contents. -/
theorem run : θ_run defs (onTc (τ := τ) (main (F := F))) ⟨m, fun _ => 0, ρ⟩ (fun r => ∀ c : Dev nD,
      r.2.mem ((c.tc : Thread nD τ).loc main_v109) = W7 m ρ c (Proc.devRef .tc main_v109)) :=
  (θ_run defs _ _).mono (fun _ hh c => hh.1 c _ (mem_uc main_v109 (by decide))) (run_all m ρ)
end Cert.Proof.KernelIdeal
end
-- ==== Proof.RI.Frame.lean ====
/- The reference's run from launch to return: the arguments are never written, so it ends with them as launched. -/
module
public import proofs.«01_k».proof.Proof.Gen.ReferenceIdeal.Run

@[expose] public section
set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo
open Idealize.SL.Sem
variable {F : FTy → Type} [FloatOps F]
variable (m : (ℓ : Loc nD τ sig) → Buf (Elt F) ℓ) (ρ : Dev nD → PrngReg)

/-- The arguments of @main. -/
abbrev argRefs : List (Ref sig .tc) := [main_arg0, main_arg1, main_arg2, main_arg3, main_arg4, main_arg5, main_arg6, main_arg7]

/-- The entry of the loop keeps a reference none of the stretches before it writes. -/
theorem entry_keep (c : Dev nD) (a : Ref sig .tc) (h : a ∉ hostOps0_W ∧ a ∉ hostOps0_1_W ∧ a ∉ hostOps0_2_W ∧ a ∉ hostOps0_3_W ∧ a ∉ hostOps0_4_W ∧ a ∉ hostOps0_5_W ∧ a ∉ hostOps0_6_W ∧ a ∉ hostOps0_7_W ∧ a ∉ hostOps0_8_W ∧ a ∉ hostOps0_9_W ∧ a ∉ hostOps0_10_W ∧ a ∉ hostOps0_11_W ∧ a ∉ hostOps0_12_W) :
    entryContents preI m c (Proc.devRef .tc a) = launchContents m c (Proc.devRef .tc a) := by
  simp only [entryContents, preI, afterL_cons, afterL_nil]
  obtain ⟨h0, h1, h2, h3, h4, h5, h6, h7, h8, h9, h10, h11, h12⟩ := h
  rw [after_of_writes_sub hostOps0_12 _ hostOps0_12_writes h12,
    after_of_writes_sub hostOps0_11 _ hostOps0_11_writes h11,
    after_of_writes_sub hostOps0_10 _ hostOps0_10_writes h10,
    after_of_writes_sub hostOps0_9 _ hostOps0_9_writes h9,
    after_of_writes_sub hostOps0_8 _ hostOps0_8_writes h8,
    after_of_writes_sub hostOps0_7 _ hostOps0_7_writes h7,
    after_of_writes_sub hostOps0_6 _ hostOps0_6_writes h6,
    after_of_writes_sub hostOps0_5 _ hostOps0_5_writes h5,
    after_of_writes_sub hostOps0_4 _ hostOps0_4_writes h4,
    after_of_writes_sub hostOps0_3 _ hostOps0_3_writes h3,
    after_of_writes_sub hostOps0_2 _ hostOps0_2_writes h2,
    after_of_writes_sub hostOps0_1 _ hostOps0_1_writes h1,
    after_of_writes_sub hostOps0 _ hostOps0_writes h0]

/-- The loop keeps a reference neither its condition nor its body writes. -/
theorem loop_keep (W₀ : Dev nD → Valuation τ sig (Elt F)) (c : Dev nD) (a : Ref sig .tc) (h : a ∉ condOps_W ∧ a ∉ while0Ops0_W ∧ a ∉ while0Ops0_1_W ∧ a ∉ while0Ops0_2_W) :
    ∀ k, atTrip condOps bodyI W₀ k c (Proc.devRef .tc a) = W₀ c (Proc.devRef .tc a)
  | 0 => rfl
  | k + 1 => by
    rw [atTrip_succ]
    simp only [bodyI, afterL_cons, afterL_nil]
    obtain ⟨h1, h2, h3, h4⟩ := h
    rw [after_of_writes_sub while0Ops0_2 _ while0Ops0_2_writes h4, after_of_writes_sub while0Ops0_1 _ while0Ops0_1_writes h3,
      after_of_writes_sub while0Ops0 _ while0Ops0_writes h2, after_of_writes_sub condOps _ condOps_writes h1]
    exact loop_keep W₀ c a ⟨h1, h2, h3, h4⟩ k

/-- What the three stretches after the loop write. -/
abbrev hostOps0_13_W : List (Ref sig .tc) := [main_cst_28]
abbrev hostOps0_14_W : List (Ref sig .tc) := [main_call7_v0, main_call7_v1, main_v186]
abbrev hostOps0_15_W : List (Ref sig .tc) := [main_values_29, main_indices_30, main_c_31, main_v187, main_v188, main_c_32, main_v189, main_v190, main_v191, main_v192, main_v193]
theorem hostOps0_13_writes : (hostOps0_13 : List (HloOp τ sig (Elt F))).Forall fun op => op.writes ⊆ (hostOps0_13_W.map (Proc.devRef (τ := τ) .tc)).toFinset :=
  forall_writes_sub_of_map rfl
theorem hostOps0_14_writes : (hostOps0_14 : List (HloOp τ sig (Elt F))).Forall fun op => op.writes ⊆ (hostOps0_14_W.map (Proc.devRef (τ := τ) .tc)).toFinset :=
  forall_writes_sub_of_map rfl
theorem hostOps0_15_writes : (hostOps0_15 : List (HloOp τ sig (Elt F))).Forall fun op => op.writes ⊆ (hostOps0_15_W.map (Proc.devRef (τ := τ) .tc)).toFinset :=
  forall_writes_sub_of_map rfl

/-- Every reference that holds a value computed before the loop and is not written later ends as at the loop's entry. -/
theorem final_keep (c : Dev nD) (a : Ref sig .tc) (h : a ∉ condOps_W ∧ a ∉ while0Ops0_W ∧ a ∉ while0Ops0_1_W ∧ a ∉ while0Ops0_2_W)
    (h' : a ∉ hostOps0_13_W ∧ a ∉ hostOps0_14_W ∧ a ∉ hostOps0_15_W) :
    finalContents condOps preI bodyI postI 6000 m c (Proc.devRef .tc a) = entryContents preI m c (Proc.devRef .tc a) := by
  unfold finalContents
  simp only [postI, afterL_cons, afterL_nil]
  rw [after_of_writes_sub hostOps0_15 _ hostOps0_15_writes h'.2.2, after_of_writes_sub hostOps0_14 _ hostOps0_14_writes h'.2.1,
    after_of_writes_sub hostOps0_13 _ hostOps0_13_writes h'.1, after_of_writes_sub condOps _ condOps_writes h.1]
  exact loop_keep _ c a h 6000

theorem args_entry : ∀ a ∈ argRefs, a ∉ hostOps0_W ∧ a ∉ hostOps0_1_W ∧ a ∉ hostOps0_2_W ∧ a ∉ hostOps0_3_W ∧ a ∉ hostOps0_4_W ∧ a ∉ hostOps0_5_W ∧ a ∉ hostOps0_6_W ∧ a ∉ hostOps0_7_W ∧ a ∉ hostOps0_8_W ∧ a ∉ hostOps0_9_W ∧ a ∉ hostOps0_10_W ∧ a ∉ hostOps0_11_W ∧ a ∉ hostOps0_12_W := ListAll.forall_mem_of_all_decide (by decide +kernel)
theorem args_loop : ∀ a ∈ argRefs, a ∉ condOps_W ∧ a ∉ while0Ops0_W ∧ a ∉ while0Ops0_1_W ∧ a ∉ while0Ops0_2_W := ListAll.forall_mem_of_all_decide (by decide +kernel)
theorem args_post : ∀ a ∈ argRefs, a ∉ hostOps0_13_W ∧ a ∉ hostOps0_14_W ∧ a ∉ hostOps0_15_W := ListAll.forall_mem_of_all_decide (by decide +kernel)

theorem final_arg (c : Dev nD) : ∀ a ∈ argRefs, finalContents condOps preI bodyI postI 6000 m c (Proc.devRef .tc a) = m ((c.tc : Thread nD τ).loc a) :=
  fun a ha => (final_keep m c a (args_loop a ha) (args_post a ha)).trans (entry_keep m c a (args_entry a ha))

theorem noSems (st : GSem nD τ sig → Int) : st = fun _ => 0 := by
  funext g
  obtain ⟨t, s⟩ := g
  cases s with
  | reg s => exact s.elim0
  | dma s => exact s.elim0

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ hh => ⟨fun c =>
    ⟨(hh c main_arg0 (by decide)).trans (final_arg m c main_arg0 (by decide)),
     (hh c main_arg1 (by decide)).trans (final_arg m c main_arg1 (by decide)),
     (hh c main_arg2 (by decide)).trans (final_arg m c main_arg2 (by decide)),
     (hh c main_arg3 (by decide)).trans (final_arg m c main_arg3 (by decide)),
     (hh c main_arg4 (by decide)).trans (final_arg m c main_arg4 (by decide)),
     (hh c main_arg5 (by decide)).trans (final_arg m c main_arg5 (by decide)),
     (hh c main_arg6 (by decide)).trans (final_arg m c main_arg6 (by decide)),
     (hh c main_arg7 (by decide)).trans (final_arg m c main_arg7 (by decide))⟩, noSems _⟩) (run_fold m ρ)

/-- The run's value: the result array ends at the last contents. -/
theorem run : θ_run defs (onTc (τ := τ) (main (F := F))) ⟨m, fun _ => 0, ρ⟩ (fun r => ∀ c : Dev nD,
      r.2.mem ((c.tc : Thread nD τ).loc main_v193) = finalContents condOps preI bodyI postI 6000 m c (Proc.devRef .tc main_v193)) :=
  (θ_run defs _ _).mono (fun _ hh c => hh c _ (by decide)) (run_fold m ρ)
end Cert.Proof.ReferenceIdeal
end
-- ==== Proof.Val.NmsCells.lean ====
/- Which boxes suppress which, and which boxes are kept: the rule both programs follow, and the kernel's blockwise computation of it. -/
module

public import proofs.«01_k».proof.Proof.KI.Nms
public import Idealize.ShloMosaic.Lib.Pointwise

@[expose] public section

set_option maxRecDepth 16384

noncomputable section

namespace Cert.Proof.Val

open Cert.KernelIdeal Cert.KernelIdeal.Gen Cert.Proof.KernelIdeal
open Idealize.ShloMosaic Idealize.ShloMosaic.TcCoe

/-! ## The rule -/

/-- The corners of a box. -/
structure Corners where
  x1 : EReal
  y1 : EReal
  x2 : EReal
  y2 : EReal

/-- The area of a box, its sides counted inclusively. -/
def area (a : Corners) : EReal := (a.x2 - a.x1 + 1) * (a.y2 - a.y1 + 1)

/-- The area two boxes share. -/
def inter (a b : Corners) : EReal :=
  max 0 (min a.x2 b.x2 - max a.x1 b.x1 + 1) * max 0 (min a.y2 b.y2 - max a.y1 b.y1 + 1)

/-- The two boxes overlap by more than the threshold. -/
def Hit (a b : Corners) : Prop :=
  Ideal.ofBits .f32 0x3F333333#32 < Ideal.div (inter a b) (area a + area b - inter a b)

instance (a b : Corners) : Decidable (Hit a b) := inferInstanceAs (Decidable (_ < _))

/-- A box is kept when it is a true one and no kept box before it overlaps it. -/
def Kept (G : ℕ → Corners) (n : ℕ) : Prop :=
  n < 6000 ∧ ∀ i : Fin n, Kept G i.val → ¬ Hit (G i.val) (G n)
termination_by n
decreasing_by exact i.isLt

theorem kept_iff (G : ℕ → Corners) (n : ℕ) : Kept G n ↔ n < 6000 ∧ ∀ i, i < n → Kept G i → ¬ Hit (G i) (G n) := by
  rw [Kept]
  exact and_congr_right fun _ => ⟨fun h i hi => h ⟨i, hi⟩, fun h i => h i.val i.isLt⟩

/-- Only the first boxes matter. -/
theorem kept_congr (G G' : ℕ → Corners) (N : ℕ) (h : ∀ n, n < N → G n = G' n) (n : ℕ) (hn : n < N) : Kept G n ↔ Kept G' n := by
  induction n using Nat.strong_induction_on with
  | _ n ih =>
    rw [kept_iff, kept_iff]
    refine and_congr_right fun _ => forall_congr' fun i => forall_congr' fun hi => ?_
    rw [ih i hi (hi.trans hn), h i (hi.trans hn), h n hn]

/-- One where the statement holds, zero where it does not. -/
def ind (p : Prop) : EReal := open Classical in if p then 1 else 0

theorem ind_pos {p : Prop} (h : p) : ind p = 1 := if_pos h
theorem ind_neg {p : Prop} (h : ¬p) : ind p = 0 := if_neg h
theorem ind_congr {p q : Prop} (h : p ↔ q) : ind p = ind q := by
  unfold ind; by_cases hp : p
  · rw [if_pos hp, if_pos (h.1 hp)]
  · rw [if_neg hp, if_neg fun hq => hp (h.2 hq)]

theorem ite_eq_ind (p : Prop) [Decidable p] : (if p then (1 : EReal) else 0) = ind p := by
  unfold ind; split_ifs <;> rfl

theorem max_ind (p q : Prop) : max (ind p) (ind q) = ind (p ∨ q) := by
  unfold ind; by_cases hp : p <;> by_cases hq : q <;> simp [hp, hq]

theorem mul_ind (p q : Prop) : ind p * ind q = ind (p ∧ q) := by
  unfold ind; by_cases hp : p <;> by_cases hq : q <;> simp [hp, hq]

theorem one_sub_ind (p : Prop) : 1 - ind p = ind (¬ p) := by
  unfold ind
  by_cases hp : p
  · simp only [hp, if_true, not_true_eq_false, if_false]
    exact EReal.sub_self (EReal.coe_ne_top 1) (EReal.coe_ne_bot 1)
  · simp [hp]

theorem half_eq : Ideal.ofBits .f32 0x3F000000#32 = (((1 : ℝ) / 2 : ℝ) : EReal) := by
  simp [Ideal.ofBits, Ideal.ieee]
  rw [← EReal.coe_mul]
  norm_num

theorem half_pos' : (0 : EReal) < Ideal.ofBits .f32 0x3F000000#32 := by
  rw [half_eq]; exact_mod_cast (by norm_num : (0 : ℝ) < 1 / 2)
theorem half_lt_one : Ideal.ofBits .f32 0x3F000000#32 < 1 := by
  rw [half_eq]; exact_mod_cast (by norm_num : (1 / 2 : ℝ) < 1)

theorem ind_nonneg (p : Prop) : 0 ≤ ind p := by
  unfold ind; split_ifs
  · exact zero_le_one
  · exact le_rfl

/-- A count of zeros and ones exceeds a half exactly when there is a one. -/
theorem half_lt_sum {n : ℕ} (p : Fin n → Prop) : Ideal.ofBits .f32 0x3F000000#32 < ∑ x, ind (p x) ↔ ∃ x, p x := by
  constructor
  · intro h
    by_contra hn
    rw [not_exists] at hn
    rw [Finset.sum_eq_zero fun x _ => ind_neg (hn x)] at h
    exact absurd h (not_lt.2 half_pos'.le)
  · rintro ⟨x, hx⟩
    refine lt_of_lt_of_le half_lt_one ?_
    rw [← ind_pos hx]
    exact Finset.single_le_sum (fun y _ => ind_nonneg (p y)) (Finset.mem_univ x)

theorem sitofp_ofBool (p : Prop) [Decidable p] :
    (FloatOps.sitofp (F := Ideal) FTy.f32 (BitVec.setWidth 32 (BitVec.ofBool (decide p))) : EReal) = ind p := by
  rw [← ite_eq_ind]
  by_cases h : p
  · simp only [h, decide_true, if_true]
    show (((1 : ℤ) : ℝ) : EReal) = 1
    simp
  · simp only [h, decide_false, if_false]
    show (((0 : ℤ) : ℝ) : EReal) = 0
    simp

theorem extui_ofBool (p : Prop) [Decidable p] :
    (((Scalar.extui (BitVec.ofBool (decide p))).toInt : ℝ) : EReal) = ind p := sitofp_ofBool p

/-! ## The kernel's planes -/

/-- The planes hold the corners and areas of the boxes `G`, row by row and down the column. -/
structure Laid (G : ℕ → Corners) (B : Boxes Ideal) : Prop where
  r0 : ∀ (p : Fin 48) (q : Fin 128), B.r0 (ix2 p q) = (G (p.val * 128 + q.val)).x1
  r1 : ∀ (p : Fin 48) (q : Fin 128), B.r1 (ix2 p q) = (G (p.val * 128 + q.val)).y1
  r2 : ∀ (p : Fin 48) (q : Fin 128), B.r2 (ix2 p q) = (G (p.val * 128 + q.val)).x2
  r3 : ∀ (p : Fin 48) (q : Fin 128), B.r3 (ix2 p q) = (G (p.val * 128 + q.val)).y2
  c0 : ∀ (p : Fin 6144) (q : Fin 1), B.c0 (ix2 p q) = (G p.val).x1
  c1 : ∀ (p : Fin 6144) (q : Fin 1), B.c1 (ix2 p q) = (G p.val).y1
  c2 : ∀ (p : Fin 6144) (q : Fin 1), B.c2 (ix2 p q) = (G p.val).x2
  c3 : ∀ (p : Fin 6144) (q : Fin 1), B.c3 (ix2 p q) = (G p.val).y2
  ar : ∀ (p : Fin 48) (q : Fin 128), B.ar (ix2 p q) = area (G (p.val * 128 + q.val))
  ac : ∀ (p : Fin 6144) (q : Fin 1), B.ac (ix2 p q) = area (G p.val)

theorem off1_0 : ∀ k : Fin k1_t1_loop.trips, k1_off1 k 0 = k.val * 128 := by decide +kernel
theorem off2_0 : ∀ k : Fin k1_t1_loop.trips, k1_off2 k 0 = k.val := by decide +kernel
theorem off3_0 : ∀ t : Fin k1_t2_loop.trips, k1_off3 t 0 = t.val := by decide +kernel
theorem off4_0 : ∀ k : Fin k1_t1_loop.trips, k1_off4 k 0 = k.val * 128 := by decide +kernel
theorem off5_0 : ∀ (k : Fin k1_t1_loop.trips) (t : Fin (k1_t3_loop k).trips), k1_off5 k t 0 = k.val + 1 + t.val := by decide +kernel
theorem off1_1 (k : Fin k1_t1_loop.trips) : k1_off1 k 1 = 0 := rfl
theorem off2_1 (k : Fin k1_t1_loop.trips) : k1_off2 k 1 = 0 := rfl
theorem off3_1 (t : Fin k1_t2_loop.trips) : k1_off3 t 1 = 0 := rfl
theorem off4_1 (k : Fin k1_t1_loop.trips) : k1_off4 k 1 = 0 := rfl
theorem off5_1 (k : Fin k1_t1_loop.trips) (t : Fin (k1_t3_loop k).trips) : k1_off5 k t 1 = 0 := rfl
theorem trips3 : ∀ k : Fin k1_t1_loop.trips, (k1_t3_loop k).trips = 47 - k.val := by decide +kernel
theorem iv_eq : ∀ t : Fin k1_t2_loop.trips, Scf.iv 0#32 1#32 t.val = BitVec.ofNat 32 t.val := by decide +kernel
theorem trips1_lt (k : Fin k1_t1_loop.trips) : k.val < 48 := lt_of_lt_of_eq k.isLt trips1
theorem trips2_lt (t : Fin k1_t2_loop.trips) : t.val < 128 := lt_of_lt_of_eq t.isLt trips2

section Steps

variable {G : ℕ → Corners} {B : Boxes Ideal} (L : Laid G B)
include L

/-- A later block's flag: set already, or some kept box of block `k` overlaps this one. -/
theorem crossRow_eq (k : Fin k1_t1_loop.trips) (K : Fin 128 → Prop) (kept : Vec Ideal S1x128 .f32)
    (hk : ∀ x : Fin 128, kept (ix2 0 x) = ind (K x)) (t : Fin (k1_t3_loop k).trips) (sup : Vec Ideal S48x128 .f32) (j : Fin 128)
    (r : Fin 48) (hr : r.val = k.val + 1 + t.val) (P : Prop) (hs : sup (ix2 r j) = ind P) :
    crossRow B k kept t sup (ix2 0 j) = ind (P ∨ ∃ x : Fin 128, K x ∧ Hit (G (k.val * 128 + x.val)) (G ((k.val + 1 + t.val) * 128 + j.val))) := by
  pointwise [crossRow, rowOf, colOf, k1_pay3, k1_pay6, k1_pay7, k1_pay8, k1_pay9, k1_pay10]
  simp only [hk, L.r0, L.r1, L.r2, L.r3, L.c0, L.c1, L.c2, L.c3, L.ar, L.ac, off4_0, off5_0, off4_1, off5_1, zero_add]
  rw [show (ix2 _ _ : S48x128.Idx) = ix2 r j from congrArg₂ ix2 (Fin.ext (by simp [hr, off5_0])) (Fin.ext (by simp)), hs, sitofp_ofBool, max_ind]
  refine ind_congr (or_congr_right ?_)
  rw [← half_lt_sum]
  refine iff_of_eq (congrArg _ (Finset.sum_congr rfl fun x _ => ?_))
  rw [ite_eq_ind, mul_ind]
  rfl

/-- The flags between the boxes of block `k`. -/
theorem diagSq_eq (k : Fin k1_t1_loop.trips) (i j : Fin 128) :
    diagSq B sqRows sqCols k (ix2 i j) = ind (Hit (G (k.val * 128 + i.val)) (G (k.val * 128 + j.val)) ∧ i.val < j.val) := by
  pointwise [diagSq, rowOf, colOf, k1_pay21, k1_pay16, k1_pay17, k1_pay18, k1_pay19, k1_pay20, sqRows, sqCols]
  simp only [L.r0, L.r1, L.r2, L.r3, L.c0, L.c1, L.c2, L.c3, L.ar, L.ac, off1_0, off2_0, off1_1, off2_1, zero_add]
  rw [show IntOp.cmpi CmpIPredicate.sgt (BitVec.ofNat 32 ↑j) (BitVec.ofNat 32 ↑i) = BitVec.ofBool (decide (i.val < j.val)) from
    (by decide +kernel : ∀ i j : Fin 128, IntOp.cmpi CmpIPredicate.sgt (BitVec.ofNat 32 j.val) (BitVec.ofNat 32 i.val) = BitVec.ofBool (decide (i.val < j.val))) i j]
  rw [← mul_ind]
  show Scalar.select (IntOp.andi (BitVec.ofBool (decide (Hit (G (k.val * 128 + i.val)) (G (k.val * 128 + j.val))))) _) _ _ = _
  by_cases h1 : Hit (G (k.val * 128 + i.val)) (G (k.val * 128 + j.val)) <;> by_cases h2 : i.val < j.val <;>
    simp only [h1, h2, ind_pos, ind_neg, not_false_eq_true, decide_true, decide_false, mul_one, mul_zero] <;> rfl

end Steps

/-- One box of the block settled: it stays as it is, or box `t` is live and overlaps it. -/
theorem innerStep_eq (D : Fin 128 → Fin 128 → Prop) (m : Vec Ideal S128x128 .f32) (hm : ∀ i j : Fin 128, m (ix2 i j) = ind (D i j))
    (t : Fin k1_t2_loop.trips) (P : Fin 128 → Prop) (acc : Vec Ideal S1x128 .f32) (ha : ∀ x : Fin 128, acc (ix2 0 x) = ind (P x)) (j : Fin 128) :
    innerStep lanes m t acc (ix2 0 j) = ind (P j ∨ (D ⟨t.val, trips2_lt t⟩ j ∧ ¬ P ⟨t.val, trips2_lt t⟩)) := by
  pointwise [innerStep, lanes, k1_pay22]
  simp only [ha, hm, iv_eq, off3_0, off3_1, zero_add]
  have hs : (∑ x : Fin 1, ∑ x : Fin 128, ind (P x) * FloatOps.sitofp (F := Ideal) FTy.f32
      (BitVec.setWidth 32 (IntOp.cmpi CmpIPredicate.eq (BitVec.ofNat 32 x.val) (BitVec.ofNat 32 t.val)))) = ind (P ⟨t.val, trips2_lt t⟩) := by
    rw [Fin.sum_univ_one]
    have e : ∀ x : Fin 128, IntOp.cmpi CmpIPredicate.eq (BitVec.ofNat 32 x.val) (BitVec.ofNat 32 t.val)
        = BitVec.ofBool (decide (x = ⟨t.val, trips2_lt t⟩)) := fun x =>
      (by decide +kernel : ∀ a b : Fin 128, IntOp.cmpi CmpIPredicate.eq (BitVec.ofNat 32 a.val) (BitVec.ofNat 32 b.val) = BitVec.ofBool (decide (a = b))) x ⟨t.val, trips2_lt t⟩
    simp only [e, sitofp_ofBool]
    rw [Finset.sum_eq_single (⟨t.val, trips2_lt t⟩ : Fin 128)]
    · rw [ind_pos rfl, mul_one]
    · intro b _ hb; rw [ind_neg hb, mul_zero]
    · intro h; exact absurd (Finset.mem_univ _) h
  rw [hs, extui_ofBool, mul_ind, max_ind]
  refine ind_congr (or_congr_right (and_congr_right fun _ => ?_))
  by_cases h : P ⟨t.val, trips2_lt t⟩
  · rw [ind_pos h]; exact iff_of_false (not_lt.2 half_lt_one.le) (not_not.2 h)
  · rw [ind_neg h]; exact iff_of_true half_pos' h

end Cert.Proof.Val
-- ==== Proof.Val.Pick.lean ====
module
public import Idealize.ShloMosaic.Lib.StableHlo.ReadAt
public import Idealize.ShloMosaic.Lib.Pipeline.ValueKit
public import Idealize.ShloMosaic.Lib.Pointwise.IndexBridge
public import Idealize.ShloMosaic.Lib.Routing.OpsSet
public import Idealize.ShloMosaic.Lib.Routing.Ops

@[expose] public section

/-! What a sorted prefix and a lookup by position read, on vectors of any length. -/

namespace Cert.Proof.Val

open Idealize.ShloMosaic

/-- Every position a sorted prefix reports is a position of the sorted vector. -/
theorem pick_exists {N K : Nat} {α : Type} (gt : α → α → BitVec 1) (x : (⟨1, ![N]⟩ : Shape).Idx → α)
    (h : (⟨1, ![N]⟩ : Shape).Slices (fun _ => 0) ⟨1, ![K]⟩) (i : (⟨1, ![K]⟩ : Shape).Idx) :
    ∃ b : Fin N, (Host.topK (⟨1, ![K]⟩ : Shape) 0 gt x h).2 i = BitVec.ofNat 32 b.val := by
  unfold Host.topK Host.sort2
  simp only [extractStridedSlice, iotaInDim]
  exact ⟨_, rfl⟩

/-- A position below half the word range is its own normalised form. -/
theorem normal_at (w c : BitVec 32) (b : Nat) (hb : b < 2 ^ 31) (h : w = BitVec.ofNat 32 b) :
    Scalar.select (IntOp.cmpi .slt w 0#32) (IntOp.addi w c) w = BitVec.ofNat 32 b := by
  subst h
  have : (BitVec.ofNat 32 b).slt 0#32 = false := by
    simp only [BitVec.slt, StableHlo.Predicate.toInt_ofNat_small b hb]
    simp
  simp [Scalar.select, IntOp.cmpi, this]

theorem take_at {N n : Nat} {α : Type} (d : GatherDims (⟨1, ![N]⟩ : Shape) ⟨2, ![n, 1]⟩ ⟨1, ![n]⟩)
    (hcoll : d.collapsedSliceDims = [0]) (hob : d.operandBatchingDims = []) (hsim : d.startIndexMap = [0])
    (hivd : d.indexVectorDim = 1) (x : (⟨1, ![N]⟩ : Shape).Idx → α) (idx : IVec ⟨2, ![n, 1]⟩ 32) (p : Fin n) (b : Fin N)
    (hb : idx (ix2 p (0 : Fin 1)) = BitVec.ofNat 32 b.val) (hN : N < 2 ^ 31) :
    Host.gather d x idx (ix1 p) = x (ix1 b) := by
  rw [ix2_eq_valueIdx] at hb
  rw [ix1_eq_valueIdx, ix1_eq_valueIdx]
  exact Routing.gather_take1 d hcoll hob hsim hivd x idx p b hb hN

theorem row_at {N B n : Nat} {α : Type} (d : GatherDims (⟨2, ![N, B]⟩ : Shape) ⟨2, ![n, 1]⟩ ⟨2, ![n, B]⟩)
    (hoff : d.offsetDims = [1])
    (hcoll : d.collapsedSliceDims = [0]) (hob : d.operandBatchingDims = []) (hsim : d.startIndexMap = [0])
    (hivd : d.indexVectorDim = 1) (x : (⟨2, ![N, B]⟩ : Shape).Idx → α) (idx : IVec ⟨2, ![n, 1]⟩ 32) (p : Fin n) (y : Fin B) (b : Fin N)
    (hb : idx (ix2 p (0 : Fin 1)) = BitVec.ofNat 32 b.val) (hN : N < 2 ^ 31) :
    Host.gather d x idx (ix2 p y) = x (ix2 b y) := by
  rw [ix2_eq_valueIdx] at hb
  rw [ix2_eq_valueIdx, ix2_eq_valueIdx]
  exact Routing.gather_row d hoff hcoll hob hsim hivd x idx p y b hb hN

end Cert.Proof.Val
-- ==== Proof.Val.Field.lean ====
/- The candidates of an image as plain vectors, and what the ranking, the suppression and the last selection make of them. -/
module
public import proofs.«01_k».proof.Proof.Val.NmsCells
public import proofs.«01_k».proof.Proof.Val.Pick

@[expose] public section

noncomputable section

namespace Cert.Proof.Val

open Idealize.ShloMosaic

/-- Scores and clipped corners of the 36864 candidates. -/
structure Field where
  S : FVec Ideal ⟨1, ![36864]⟩ .f32
  X1 : FVec Ideal ⟨1, ![36864]⟩ .f32
  Y1 : FVec Ideal ⟨1, ![36864]⟩ .f32
  X2 : FVec Ideal ⟨1, ![36864]⟩ .f32
  Y2 : FVec Ideal ⟨1, ![36864]⟩ .f32

namespace Field

variable (F : Field)

/-- The 6000 best scores with the positions they came from. -/
def ranked : FVec Ideal ⟨1, ![6000]⟩ .f32 × IVec ⟨1, ![6000]⟩ 32 :=
  Host.topK (⟨1, ![6000]⟩ : Shape) 0 (FloatOps.cmpfTotal .gt) F.S (by decide)

theorem ranked_exists (n : Fin 6000) : ∃ b : Fin 36864, F.ranked.2 (ix1 n) = BitVec.ofNat 32 b.val := pick_exists _ _ _ _

/-- The candidate of rank `n`; past the 6000 ranked ones, candidate 0. -/
def src (n : Nat) : Fin 36864 := if h : n < 6000 then (F.ranked_exists ⟨n, h⟩).choose else 0

theorem ranked_src (n : Fin 6000) : F.ranked.2 (ix1 n) = BitVec.ofNat 32 (F.src n.val).val := by
  rw [src, dif_pos n.isLt]
  exact (F.ranked_exists n).choose_spec

theorem src_past (n : Nat) (h : ¬ n < 6000) : F.src n = 0 := dif_neg h

/-- The box of rank `n`. -/
def G (n : Nat) : Corners := ⟨F.X1 (ix1 (F.src n)), F.Y1 (ix1 (F.src n)), F.X2 (ix1 (F.src n)), F.Y2 (ix1 (F.src n))⟩

open Classical in
/-- The ranked scores, with minus infinity where the box was suppressed. -/
def masked : FVec Ideal ⟨1, ![6000]⟩ .f32 := fun i =>
  if Kept F.G (i 0).val then F.ranked.1 i else Ideal.ofBits FTy.f32 4286578688#32

/-- The positions of the 300 best surviving scores. -/
def chosen : IVec ⟨1, ![300]⟩ 32 :=
  (Host.topK (⟨1, ![300]⟩ : Shape) 0 (FloatOps.cmpfTotal .gt) F.masked (by decide)).2

theorem chosen_exists (p : Fin 300) : ∃ b : Fin 6000, F.chosen (ix1 p) = BitVec.ofNat 32 b.val := pick_exists _ _ _ _

/-- The rank of output box `p`. -/
def pos (p : Fin 300) : Fin 6000 := (F.chosen_exists p).choose

theorem chosen_pos (p : Fin 300) : F.chosen (ix1 p) = BitVec.ofNat 32 (F.pos p).val := (F.chosen_exists p).choose_spec

/-- The 300 output boxes. -/
def out (p : Fin 300) (q : Fin 4) : EReal :=
  match q with
  | 0 => (F.G (F.pos p)).x1
  | 1 => (F.G (F.pos p)).y1
  | 2 => (F.G (F.pos p)).x2
  | 3 => (F.G (F.pos p)).y2

end Field

end Cert.Proof.Val
-- ==== Proof.Val.DenseCells.lean ====
/- The dense stage as plain functions of rows, columns and anchors: the padded feature map, the nine taps, the two heads, the probability and the decoded box. -/
module
public import proofs.«01_k».proof.Proof.Val.NmsCells

@[expose] public section
set_option maxRecDepth 16384

noncomputable section

namespace Cert.Proof.Val

open Idealize.ShloMosaic

/-- What the dense stage computes from: the feature map, the weights and biases, and the highest coordinate of the image. -/
structure Net where
  X : Fin 64 → Fin 64 → Fin 512 → EReal
  W : Fin 3 → Fin 3 → Fin 512 → Fin 512 → EReal
  b : Fin 512 → EReal
  Ws : Fin 512 → Fin 18 → EReal
  bs : Fin 18 → EReal
  Wb : Fin 512 → Fin 36 → EReal
  bb : Fin 36 → EReal
  hi : EReal

namespace Net
variable (N : Net)

/-- The feature map with a border of zeros one wide. -/
def P (r c : ℕ) (k : Fin 512) : EReal :=
  if h : (1 ≤ r ∧ r < 65) ∧ 1 ≤ c ∧ c < 65 then N.X ⟨r - 1, by omega⟩ ⟨c - 1, by omega⟩ k else 0

/-- One tap of the window. -/
def tap (i j : Fin 3) (y x : ℕ) (o : Fin 512) : EReal := ∑ k, N.P (y + i.val) (x + j.val) k * N.W i j k o

/-- The lower and the upper half of the channels of one tap. -/
def lo (i j : Fin 3) (y x : ℕ) (o : Fin 512) : EReal :=
  ∑ k : Fin 256, N.P (y + i.val) (x + j.val) ⟨k.val, by omega⟩ * N.W i j ⟨k.val, by omega⟩ o
def up (i j : Fin 3) (y x : ℕ) (o : Fin 512) : EReal :=
  ∑ k : Fin 256, N.P (y + i.val) (x + j.val) ⟨256 + k.val, by omega⟩ * N.W i j ⟨256 + k.val, by omega⟩ o

theorem tap_eq (i j : Fin 3) (y x : ℕ) (o : Fin 512) : N.tap i j y x o = N.lo i j y x o + N.up i j y x o :=
  Fin.sum_univ_add (a := 256) (b := 256) (fun k : Fin 512 => N.P (y + i.val) (x + j.val) k * N.W i j k o)

/-- The convolution. -/
def conv (y x : ℕ) (o : Fin 512) : EReal :=
  N.tap 0 0 y x o + N.tap 0 1 y x o + N.tap 0 2 y x o + N.tap 1 0 y x o + N.tap 1 1 y x o + N.tap 1 2 y x o + N.tap 2 0 y x o + N.tap 2 1 y x o + N.tap 2 2 y x o

theorem conv_eq (y x : ℕ) (o : Fin 512) : N.conv y x o =
    N.lo 0 0 y x o + N.up 0 0 y x o + N.lo 0 1 y x o + N.up 0 1 y x o + N.lo 0 2 y x o + N.up 0 2 y x o
    + N.lo 1 0 y x o + N.up 1 0 y x o + N.lo 1 1 y x o + N.up 1 1 y x o + N.lo 1 2 y x o + N.up 1 2 y x o
    + N.lo 2 0 y x o + N.up 2 0 y x o + N.lo 2 1 y x o + N.up 2 1 y x o + N.lo 2 2 y x o + N.up 2 2 y x o := by
  simp only [conv, tap_eq, add_assoc]

/-- The hidden layer. -/
def hid (y x : ℕ) (o : Fin 512) : EReal := max (N.conv y x o + N.b o) 0
/-- The head of the scores. -/
def sc (y x : ℕ) (q : Fin 18) : EReal := ∑ k, N.hid y x k * N.Ws k q + N.bs q
/-- The head of the box deltas. -/
def dl (y x : ℕ) (q : Fin 36) : EReal := ∑ k, N.hid y x k * N.Wb k q + N.bb q

/-- The two scores and the four deltas of one anchor. -/
def s0 (y x : ℕ) (a : Fin 9) : EReal := N.sc y x ⟨a.val * 2, by omega⟩
def s1 (y x : ℕ) (a : Fin 9) : EReal := N.sc y x ⟨a.val * 2 + 1, by omega⟩
def d0 (y x : ℕ) (a : Fin 9) : EReal := N.dl y x ⟨a.val * 4, by omega⟩
def d1 (y x : ℕ) (a : Fin 9) : EReal := N.dl y x ⟨a.val * 4 + 1, by omega⟩
def d2 (y x : ℕ) (a : Fin 9) : EReal := N.dl y x ⟨a.val * 4 + 2, by omega⟩
def d3 (y x : ℕ) (a : Fin 9) : EReal := N.dl y x ⟨a.val * 4 + 3, by omega⟩

end Net

/-- The probability of the second of two scores. -/
def prob (s0 s1 : EReal) : EReal :=
  Ideal.div (Ideal.exp (s1 - max s0 s1)) (Ideal.exp (s0 - max s0 s1) + Ideal.exp (s1 - max s0 s1))

theorem fold_two (b : EReal) (f : Fin 2 → EReal) : Finset.univ.fold max b f = max (f 0) (max (f 1) b) := by
  rw [show (Finset.univ : Finset (Fin 2)) = {0, 1} from rfl, Finset.fold_insert (by decide), Finset.fold_singleton]

/-- A coordinate held inside the image. -/
def clip (hi z : EReal) : EReal := min hi (max 0 z)

/-- One half, as the constant both programs print. -/
abbrev hf : EReal := Ideal.ofBits FTy.f32 0x3F000000#32

/-- The low and the high end of a decoded side: delta `d`, size delta `e`, anchor size `w`, anchor centre `z`. -/
def lowRaw (d e w z : EReal) : EReal := d * w + z - hf * (Ideal.exp e * w)
def highRaw (d e w z : EReal) : EReal := d * w + z + hf * (Ideal.exp e * w)

/-- The net of the program's arguments. -/
def netOf (A0 : FVec Ideal ⟨4, ![1, 64, 64, 512]⟩ .f32) (A1 : IVec ⟨0, ![]⟩ 32) (A2 : FVec Ideal ⟨4, ![3, 3, 512, 512]⟩ .f32) (A3 : FVec Ideal ⟨1, ![512]⟩ .f32)
    (A4 : FVec Ideal ⟨4, ![1, 1, 512, 18]⟩ .f32) (A5 : FVec Ideal ⟨1, ![18]⟩ .f32) (A6 : FVec Ideal ⟨4, ![1, 1, 512, 36]⟩ .f32) (A7 : FVec Ideal ⟨1, ![36]⟩ .f32) : Net where
  X y x k := A0 (ix4 0 y x k)
  W i j k o := A2 (ix4 i j k o)
  b o := A3 (ix1 o)
  Ws k q := A4 (ix4 0 0 k q)
  bs q := A5 (ix1 q)
  Wb k q := A6 (ix4 0 0 k q)
  bb q := A7 (ix1 q)
  hi := (((A1 ix0).toInt : ℝ) : EReal) - 1

end Cert.Proof.Val
-- ==== Proof.Val.FieldOf.lean ====
/- The candidates of a net. -/
module
public import proofs.«01_k».proof.Proof.Val.Field
public import proofs.«01_k».proof.Proof.Val.DenseCells

@[expose] public section
set_option maxRecDepth 16384

noncomputable section

namespace Cert.Proof.Val

open Idealize.ShloMosaic

/-- The candidates of a net over four anchor tables: widths, heights and the two centre coordinates. -/
def fieldOf (N : Net) (tw th tx ty : Fin 36864 → EReal) : Field where
  S i := prob (N.s0 ((i 0).val / 576) ((i 0).val / 9 % 64) ⟨(i 0).val % 9, by omega⟩) (N.s1 ((i 0).val / 576) ((i 0).val / 9 % 64) ⟨(i 0).val % 9, by omega⟩)
  X1 i := clip N.hi (lowRaw (N.d0 ((i 0).val / 576) ((i 0).val / 9 % 64) ⟨(i 0).val % 9, by omega⟩) (N.d2 ((i 0).val / 576) ((i 0).val / 9 % 64) ⟨(i 0).val % 9, by omega⟩) (tw (i 0)) (tx (i 0)))
  Y1 i := clip N.hi (lowRaw (N.d1 ((i 0).val / 576) ((i 0).val / 9 % 64) ⟨(i 0).val % 9, by omega⟩) (N.d3 ((i 0).val / 576) ((i 0).val / 9 % 64) ⟨(i 0).val % 9, by omega⟩) (th (i 0)) (ty (i 0)))
  X2 i := clip N.hi (highRaw (N.d0 ((i 0).val / 576) ((i 0).val / 9 % 64) ⟨(i 0).val % 9, by omega⟩) (N.d2 ((i 0).val / 576) ((i 0).val / 9 % 64) ⟨(i 0).val % 9, by omega⟩) (tw (i 0)) (tx (i 0)))
  Y2 i := clip N.hi (highRaw (N.d1 ((i 0).val / 576) ((i 0).val / 9 % 64) ⟨(i 0).val % 9, by omega⟩) (N.d3 ((i 0).val / 576) ((i 0).val / 9 % 64) ⟨(i 0).val % 9, by omega⟩) (th (i 0)) (ty (i 0)))

end Cert.Proof.Val
-- ==== Proof.Val.DenseKernel.lean ====
/- The kernel's dense stage read at an index: the rows with their halo, the nine taps in two halves, the heads, the scores and the decoded boxes. -/
module
public import proofs.«01_k».proof.Proof.Val.DenseCells
public import proofs.«01_k».proof.Proof.KI.Dense

@[expose] public section
set_option maxRecDepth 16384

noncomputable section

namespace Cert.Proof.Val

open Cert.KernelIdeal Cert.KernelIdeal.Gen Cert.Proof.KernelIdeal
open Idealize.ShloMosaic Idealize.ShloMosaic.TcCoe

theorem mask_low : ∀ t : Fin 8, (Scalar.extui (Scalar.cmpi CmpIPredicate.sgt (BitVec.ofNat 32 t.val) 0#32) : BitVec 32).toInt = if 0 < t.val then 1 else 0 := by
  decide
theorem mask_high : ∀ t : Fin 8, (Scalar.extui (Scalar.cmpi CmpIPredicate.slt (BitVec.ofNat 32 t.val) 7#32) : BitVec 32).toInt = if t.val < 7 then 1 else 0 := by
  decide

theorem P_top (N : Net) (c : ℕ) (k : Fin 512) : N.P 0 c k = 0 := dif_neg fun h => absurd h.1.1 (by omega)
theorem P_bottom (N : Net) (c : ℕ) (k : Fin 512) : N.P 65 c k = 0 := dif_neg fun h => absurd h.1.2 (by omega)
theorem P_left (N : Net) (r : ℕ) (k : Fin 512) : N.P r 0 k = 0 := dif_neg fun h => absurd h.2.1 (by omega)
theorem P_right (N : Net) (r : ℕ) (k : Fin 512) : N.P r 65 k = 0 := dif_neg fun h => absurd h.2.2 (by omega)

/-- The heads at a grid point over the point's blocks. -/
def heads (i : grid0.Coords) (v0 v2 v4 : Vec Ideal S8x64x512 .f32) (w : Vec Ideal S4608x512 .f32) (wh : Vec Ideal S512x54 .f32) (b : Vec Ideal S1x512 .f32)
    (bh : Vec Ideal S1x54 .f32) : FVec Ideal S512x54 .f32 :=
  k0_pay19 (k0_pay15 (k0_pay2 i v0 v2 v4) k0_pay3)
    (k0_pay17 (k0_pay2 i v0 v2 v4) k0_pay3 (k0_pay10 (k0_pay2 i v0 v2 v4) k0_pay3)
      (k0_pay11 (k0_pay2 i v0 v2 v4) k0_pay3 (k0_pay5 i v0 v2 v4)
        (k0_pay6 i v0 v2 v4 (View.ld w (Rect.unit ![0, 0] ![256, 512] inb_S4608x512_S256x512_0_0)) (View.ld w (Rect.unit ![256, 0] ![256, 512] inb_S4608x512_S256x512_256_0)))
        (k0_pay7 i v0 v2 v4) (k0_pay8 i v0 v2 v4)
        (View.ld w (Rect.unit ![512, 0] ![256, 512] inb_S4608x512_S256x512_512_0)) (View.ld w (Rect.unit ![768, 0] ![256, 512] inb_S4608x512_S256x512_768_0))
        (View.ld w (Rect.unit ![1024, 0] ![256, 512] inb_S4608x512_S256x512_1024_0)) (View.ld w (Rect.unit ![1280, 0] ![256, 512] inb_S4608x512_S256x512_1280_0))
        (View.ld w (Rect.unit ![1536, 0] ![256, 512] inb_S4608x512_S256x512_1536_0)) (View.ld w (Rect.unit ![1792, 0] ![256, 512] inb_S4608x512_S256x512_1792_0)))
      (k0_pay12 (k0_pay2 i v0 v2 v4))
      (k0_pay13 (k0_pay2 i v0 v2 v4) (View.ld w (Rect.unit ![2048, 0] ![256, 512] inb_S4608x512_S256x512_2048_0)))
      (View.ld w (Rect.unit ![2304, 0] ![256, 512] inb_S4608x512_S256x512_2304_0)) (View.ld w (Rect.unit ![2560, 0] ![256, 512] inb_S4608x512_S256x512_2560_0))
      (View.ld w (Rect.unit ![2816, 0] ![256, 512] inb_S4608x512_S256x512_2816_0)) (View.ld w (Rect.unit ![3072, 0] ![256, 512] inb_S4608x512_S256x512_3072_0))
      (View.ld w (Rect.unit ![3328, 0] ![256, 512] inb_S4608x512_S256x512_3328_0)) (View.ld w (Rect.unit ![3584, 0] ![256, 512] inb_S4608x512_S256x512_3584_0)))
    (k0_pay18 (k0_pay2 i v0 v2 v4))
    (View.ld w (Rect.unit ![3840, 0] ![256, 512] inb_S4608x512_S256x512_3840_0)) (View.ld w (Rect.unit ![4096, 0] ![256, 512] inb_S4608x512_S256x512_4096_0))
    (View.ld w (Rect.unit ![4352, 0] ![256, 512] inb_S4608x512_S256x512_4352_0)) b wh bh

/-- What a grid point's blocks hold, in terms of the net. -/
structure Blocks (N : Net) (t : ℕ) (v0 v2 v4 : Vec Ideal S8x64x512 .f32) (w : Vec Ideal S4608x512 .f32) (b : Vec Ideal S1x512 .f32) : Prop where
  prev : 0 < t → ∀ (c : Fin 64) k, v0 (ix3 7 c k) = N.P (8 * t) (c.val + 1) k
  main : ∀ (r : Fin 8) (c : Fin 64) k, v2 (ix3 r c k) = N.P (8 * t + (1 + r.val)) (c.val + 1) k
  next : t < 7 → ∀ (c : Fin 64) k, v4 (ix3 0 c k) = N.P (8 * t + 9) (c.val + 1) k
  taps : ∀ (i j : Fin 3) (k o : Fin 512) (h), w (ix2 ⟨(i.val * 3 + j.val) * 512 + k.val, h⟩ o) = N.W i j k o
  bias : ∀ o, b (ix2 0 o) = N.b o

theorem rows_open (i : grid0.Coords) (v0 v2 v4 : Vec Ideal S8x64x512 .f32) (r : Fin 10) (c : Fin 64) (k : Fin 512) :
    k0_pay2 i v0 v2 v4 (ix3 r c k) =
      if h : r.val < 1 then
        v0 (ix3 ⟨7 + r.val, by omega⟩ c k) * (((Scalar.extui (Scalar.cmpi CmpIPredicate.sgt (BitVec.ofNat 32 (i 0).val) 0#32) : BitVec 32).toInt : ℝ) : EReal)
      else if h' : r.val - 1 < 8 then v2 (ix3 ⟨r.val - 1, h'⟩ c k)
      else v4 (ix3 ⟨r.val - 1 - 8, by omega⟩ c k) * (((Scalar.extui (Scalar.cmpi CmpIPredicate.slt (BitVec.ofNat 32 (i 0).val) 7#32) : BitVec 32).toInt : ℝ) : EReal) := by
  pointwise [k0_pay2]

/-- The convolution of a block of rows with its halo, tap by tap and half by half. -/
def convOf (R : Vec Ideal S10x64x512 .f32) (w : Vec Ideal S4608x512 .f32) (p o : Fin 512) : EReal :=
  (∑ x : Fin 256, (if h : p.val % 64 < 1 then 0 else R (ix3 ⟨p.val / 64, by omega⟩ ⟨p.val % 64 - 1, by omega⟩ ⟨x.val, by omega⟩)) * w (ix2 ⟨x.val, by omega⟩ o))
    + (∑ x : Fin 256, (if h : p.val % 64 < 1 then 0 else R (ix3 ⟨p.val / 64, by omega⟩ ⟨p.val % 64 - 1, by omega⟩ ⟨256 + x.val, by omega⟩)) * w (ix2 ⟨256 + x.val, by omega⟩ o))
    + (∑ x : Fin 256, R (ix3 ⟨p.val / 64, by omega⟩ ⟨p.val % 64, by omega⟩ ⟨x.val, by omega⟩) * w (ix2 ⟨512 + x.val, by omega⟩ o))
    + (∑ x : Fin 256, R (ix3 ⟨p.val / 64, by omega⟩ ⟨p.val % 64, by omega⟩ ⟨256 + x.val, by omega⟩) * w (ix2 ⟨768 + x.val, by omega⟩ o))
    + (∑ x : Fin 256, (if h : p.val % 64 < 63 then R (ix3 ⟨p.val / 64, by omega⟩ ⟨1 + p.val % 64, by omega⟩ ⟨x.val, by omega⟩) else 0) * w (ix2 ⟨1024 + x.val, by omega⟩ o))
    + (∑ x : Fin 256, (if h : p.val % 64 < 63 then R (ix3 ⟨p.val / 64, by omega⟩ ⟨1 + p.val % 64, by omega⟩ ⟨256 + x.val, by omega⟩) else 0) * w (ix2 ⟨1280 + x.val, by omega⟩ o))
    + (∑ x : Fin 256, (if h : p.val % 64 < 1 then 0 else R (ix3 ⟨1 + p.val / 64, by omega⟩ ⟨p.val % 64 - 1, by omega⟩ ⟨x.val, by omega⟩)) * w (ix2 ⟨1536 + x.val, by omega⟩ o))
    + (∑ x : Fin 256, (if h : p.val % 64 < 1 then 0 else R (ix3 ⟨1 + p.val / 64, by omega⟩ ⟨p.val % 64 - 1, by omega⟩ ⟨256 + x.val, by omega⟩)) * w (ix2 ⟨1792 + x.val, by omega⟩ o))
    + (∑ x : Fin 256, R (ix3 ⟨1 + p.val / 64, by omega⟩ ⟨p.val % 64, by omega⟩ ⟨x.val, by omega⟩) * w (ix2 ⟨2048 + x.val, by omega⟩ o))
    + (∑ x : Fin 256, R (ix3 ⟨1 + p.val / 64, by omega⟩ ⟨p.val % 64, by omega⟩ ⟨256 + x.val, by omega⟩) * w (ix2 ⟨2304 + x.val, by omega⟩ o))
    + (∑ x : Fin 256, (if h : p.val % 64 < 63 then R (ix3 ⟨1 + p.val / 64, by omega⟩ ⟨1 + p.val % 64, by omega⟩ ⟨x.val, by omega⟩) else 0) * w (ix2 ⟨2560 + x.val, by omega⟩ o))
    + (∑ x : Fin 256, (if h : p.val % 64 < 63 then R (ix3 ⟨1 + p.val / 64, by omega⟩ ⟨1 + p.val % 64, by omega⟩ ⟨256 + x.val, by omega⟩) else 0) * w (ix2 ⟨2816 + x.val, by omega⟩ o))
    + (∑ x : Fin 256, (if h : p.val % 64 < 1 then 0 else R (ix3 ⟨2 + p.val / 64, by omega⟩ ⟨p.val % 64 - 1, by omega⟩ ⟨x.val, by omega⟩)) * w (ix2 ⟨3072 + x.val, by omega⟩ o))
    + (∑ x : Fin 256, (if h : p.val % 64 < 1 then 0 else R (ix3 ⟨2 + p.val / 64, by omega⟩ ⟨p.val % 64 - 1, by omega⟩ ⟨256 + x.val, by omega⟩)) * w (ix2 ⟨3328 + x.val, by omega⟩ o))
    + (∑ x : Fin 256, R (ix3 ⟨2 + p.val / 64, by omega⟩ ⟨p.val % 64, by omega⟩ ⟨x.val, by omega⟩) * w (ix2 ⟨3584 + x.val, by omega⟩ o))
    + (∑ x : Fin 256, R (ix3 ⟨2 + p.val / 64, by omega⟩ ⟨p.val % 64, by omega⟩ ⟨256 + x.val, by omega⟩) * w (ix2 ⟨3840 + x.val, by omega⟩ o))
    + (∑ x : Fin 256, (if h : p.val % 64 < 63 then R (ix3 ⟨2 + p.val / 64, by omega⟩ ⟨1 + p.val % 64, by omega⟩ ⟨x.val, by omega⟩) else 0) * w (ix2 ⟨4096 + x.val, by omega⟩ o))
    + (∑ x : Fin 256, (if h : p.val % 64 < 63 then R (ix3 ⟨2 + p.val / 64, by omega⟩ ⟨1 + p.val % 64, by omega⟩ ⟨256 + x.val, by omega⟩) else 0) * w (ix2 ⟨4352 + x.val, by omega⟩ o))

section Window
variable {N : Net} {t : ℕ} {R : Vec Ideal S10x64x512 .f32} (hR : ∀ (r : Fin 10) (c : Fin 64) (k : Fin 512), R (ix3 r c k) = N.P (8 * t + r.val) (c.val + 1) k)
include hR

theorem left_at (p : Fin 512) (a : Fin 3) (n : ℕ) (k : Fin 512) (hn : n = a.val + p.val / 64) (h1) (h2 : ¬ p.val % 64 < 1 → p.val % 64 - 1 < 64) :
    (if h : p.val % 64 < 1 then (0 : EReal) else R (ix3 ⟨n, h1⟩ ⟨p.val % 64 - 1, h2 h⟩ k))
      = N.P (8 * t + p.val / 64 + a.val) (p.val % 64 + (0 : Fin 3).val) k := by
  subst hn
  split
  · rename_i h
    rw [show p.val % 64 + (0 : Fin 3).val = 0 by simp; omega, P_left]
  · rename_i h
    rw [hR]
    congr 1
    · dsimp only; omega
    · simp; omega

theorem mid_at (p : Fin 512) (a : Fin 3) (n : ℕ) (k : Fin 512) (hn : n = a.val + p.val / 64) (h1) (h2) :
    R (ix3 ⟨n, h1⟩ ⟨p.val % 64, h2⟩ k) = N.P (8 * t + p.val / 64 + a.val) (p.val % 64 + (1 : Fin 3).val) k := by
  subst hn
  rw [hR]
  congr 1
  dsimp only; omega

theorem right_at (p : Fin 512) (a : Fin 3) (n : ℕ) (k : Fin 512) (hn : n = a.val + p.val / 64) (h1) (h2 : p.val % 64 < 63 → 1 + p.val % 64 < 64) :
    (if h : p.val % 64 < 63 then R (ix3 ⟨n, h1⟩ ⟨1 + p.val % 64, h2 h⟩ k) else (0 : EReal))
      = N.P (8 * t + p.val / 64 + a.val) (p.val % 64 + (2 : Fin 3).val) k := by
  subst hn
  split
  · rename_i h
    rw [hR]
    congr 1
    · dsimp only; omega
    · simp; omega
  · rename_i h
    rw [show p.val % 64 + (2 : Fin 3).val = 65 by simp; omega, P_right]

end Window

theorem tap_at {N : Net} {w : Vec Ideal S4608x512 .f32} (hW : ∀ (i j : Fin 3) (k o : Fin 512) (h), w (ix2 ⟨(i.val * 3 + j.val) * 512 + k.val, h⟩ o) = N.W i j k o)
    (i j : Fin 3) (k o : Fin 512) (n : ℕ) (h) (hn : n = (i.val * 3 + j.val) * 512 + k.val) : w (ix2 ⟨n, h⟩ o) = N.W i j k o := by
  subst hn; exact hW i j k o h

theorem convOf_eq {N : Net} {t : ℕ} {R : Vec Ideal S10x64x512 .f32} {w : Vec Ideal S4608x512 .f32}
    (hR : ∀ (r : Fin 10) (c : Fin 64) (k : Fin 512), R (ix3 r c k) = N.P (8 * t + r.val) (c.val + 1) k)
    (hW : ∀ (i j : Fin 3) (k o : Fin 512) (h), w (ix2 ⟨(i.val * 3 + j.val) * 512 + k.val, h⟩ o) = N.W i j k o) (p o : Fin 512) :
    convOf R w p o = N.conv (8 * t + p.val / 64) (p.val % 64) o := by
  rw [Net.conv_eq]
  unfold convOf Net.lo Net.up
  iterate 17 refine congrArg₂ HAdd.hAdd ?_ ?_
  all_goals refine Finset.sum_congr rfl fun x _ => congrArg₂ HMul.hMul ?_ ?_
  · exact left_at hR p 0 (p.val / 64) ⟨x.val, by omega⟩ (Nat.zero_add _).symm (by omega) (by omega)
  · refine tap_at hW 0 0 _ _ _ _ ?_; simp; try omega
  · exact left_at hR p 0 (p.val / 64) ⟨256 + x.val, by omega⟩ (Nat.zero_add _).symm (by omega) (by omega)
  · refine tap_at hW 0 0 _ _ _ _ ?_; simp; try omega
  · exact mid_at hR p 0 (p.val / 64) ⟨x.val, by omega⟩ (Nat.zero_add _).symm (by omega) (by omega)
  · refine tap_at hW 0 1 _ _ _ _ ?_; simp; try omega
  · exact mid_at hR p 0 (p.val / 64) ⟨256 + x.val, by omega⟩ (Nat.zero_add _).symm (by omega) (by omega)
  · refine tap_at hW 0 1 _ _ _ _ ?_; simp; try omega
  · exact right_at hR p 0 (p.val / 64) ⟨x.val, by omega⟩ (Nat.zero_add _).symm (by omega) (by omega)
  · refine tap_at hW 0 2 _ _ _ _ ?_; simp; try omega
  · exact right_at hR p 0 (p.val / 64) ⟨256 + x.val, by omega⟩ (Nat.zero_add _).symm (by omega) (by omega)
  · refine tap_at hW 0 2 _ _ _ _ ?_; simp; try omega
  · exact left_at hR p 1 (1 + p.val / 64) ⟨x.val, by omega⟩ rfl (by omega) (by omega)
  · refine tap_at hW 1 0 _ _ _ _ ?_; simp; try omega
  · exact left_at hR p 1 (1 + p.val / 64) ⟨256 + x.val, by omega⟩ rfl (by omega) (by omega)
  · refine tap_at hW 1 0 _ _ _ _ ?_; simp; try omega
  · exact mid_at hR p 1 (1 + p.val / 64) ⟨x.val, by omega⟩ rfl (by omega) (by omega)
  · refine tap_at hW 1 1 _ _ _ _ ?_; simp; try omega
  · exact mid_at hR p 1 (1 + p.val / 64) ⟨256 + x.val, by omega⟩ rfl (by omega) (by omega)
  · refine tap_at hW 1 1 _ _ _ _ ?_; simp; try omega
  · exact right_at hR p 1 (1 + p.val / 64) ⟨x.val, by omega⟩ rfl (by omega) (by omega)
  · refine tap_at hW 1 2 _ _ _ _ ?_; simp; try omega
  · exact right_at hR p 1 (1 + p.val / 64) ⟨256 + x.val, by omega⟩ rfl (by omega) (by omega)
  · refine tap_at hW 1 2 _ _ _ _ ?_; simp; try omega
  · exact left_at hR p 2 (2 + p.val / 64) ⟨x.val, by omega⟩ rfl (by omega) (by omega)
  · refine tap_at hW 2 0 _ _ _ _ ?_; simp; try omega
  · exact left_at hR p 2 (2 + p.val / 64) ⟨256 + x.val, by omega⟩ rfl (by omega) (by omega)
  · refine tap_at hW 2 0 _ _ _ _ ?_; simp; try omega
  · exact mid_at hR p 2 (2 + p.val / 64) ⟨x.val, by omega⟩ rfl (by omega) (by omega)
  · refine tap_at hW 2 1 _ _ _ _ ?_; simp; try omega
  · exact mid_at hR p 2 (2 + p.val / 64) ⟨256 + x.val, by omega⟩ rfl (by omega) (by omega)
  · refine tap_at hW 2 1 _ _ _ _ ?_; simp; try omega
  · exact right_at hR p 2 (2 + p.val / 64) ⟨x.val, by omega⟩ rfl (by omega) (by omega)
  · refine tap_at hW 2 2 _ _ _ _ ?_; simp; try omega
  · exact right_at hR p 2 (2 + p.val / 64) ⟨256 + x.val, by omega⟩ rfl (by omega) (by omega)
  · refine tap_at hW 2 2 _ _ _ _ ?_; simp; try omega

theorem heads_open (i : grid0.Coords) (v0 v2 v4 : Vec Ideal S8x64x512 .f32) (w : Vec Ideal S4608x512 .f32) (wh : Vec Ideal S512x54 .f32) (b : Vec Ideal S1x512 .f32)
    (bh : Vec Ideal S1x54 .f32) (p : Fin 512) (q : Fin 54) :
    heads i v0 v2 v4 w wh b bh (ix2 p q) = ∑ o, max (convOf (k0_pay2 i v0 v2 v4) w p o + b (ix2 0 o)) 0 * wh (ix2 o q) + bh (ix2 0 q) := by
  unfold convOf
  pointwise [heads, k0_pay19, k0_pay15, k0_pay17, k0_pay10, k0_pay11, k0_pay5, k0_pay6, k0_pay7, k0_pay8, k0_pay12, k0_pay13, k0_pay18, k0_pay3, k0_pay4, k0_pay9, k0_pay14, k0_pay16]

section Point
variable {N : Net} {i : grid0.Coords} {v0 v2 v4 : Vec Ideal S8x64x512 .f32} {w : Vec Ideal S4608x512 .f32} {b : Vec Ideal S1x512 .f32}
  (B : Blocks N (i 0).val v0 v2 v4 w b)
include B

theorem rows_eq (r : Fin 10) (c : Fin 64) (k : Fin 512) : k0_pay2 i v0 v2 v4 (ix3 r c k) = N.P (8 * (i 0).val + r.val) (c.val + 1) k := by
  have ht : (i 0).val < 8 := (i 0).isLt
  rw [rows_open, mask_low ⟨(i 0).val, ht⟩, mask_high ⟨(i 0).val, ht⟩]
  rcases r with ⟨r, hr⟩
  dsimp only
  split
  · rename_i h
    obtain rfl : r = 0 := by omega
    rcases Nat.eq_zero_or_pos (i 0).val with h0 | h0
    · rw [if_neg (by omega), h0, P_top]; simp
    · rw [if_pos h0]
      have e := B.prev h0 ⟨c.val, c.isLt⟩ ⟨k.val, k.isLt⟩
      simpa using e
  · split
    · rename_i h h'
      have e := B.main ⟨r - 1, by omega⟩ ⟨c.val, c.isLt⟩ ⟨k.val, k.isLt⟩
      rw [show 1 + (⟨r - 1, by omega⟩ : Fin 8).val = r from Nat.add_sub_cancel' (by omega)] at e
      exact e
    · rename_i h h'
      obtain rfl : r = 9 := by omega
      rcases Nat.lt_or_ge (i 0).val 7 with h0 | h0
      · rw [if_pos h0]
        have e := B.next h0 ⟨c.val, c.isLt⟩ ⟨k.val, k.isLt⟩
        simpa using e
      · rw [if_neg (by omega), show 8 * (i 0).val + 9 = 65 by omega, P_bottom]; simp

theorem heads_eq (wh : Vec Ideal S512x54 .f32) (bh : Vec Ideal S1x54 .f32) (p : Fin 512) (q : Fin 54) :
    heads i v0 v2 v4 w wh b bh (ix2 p q) = ∑ o, N.hid (8 * (i 0).val + p.val / 64) (p.val % 64) o * wh (ix2 o q) + bh (ix2 0 q) := by
  rw [heads_open]
  congr 1
  refine Finset.sum_congr rfl fun o _ => ?_
  rw [convOf_eq (rows_eq B) B.taps, B.bias]
  rfl
end Point
theorem pay20_at (v101 : FVec Ideal S8x64x512 .f32) (v118 : FVec Ideal S512x512 .f32) (v119 : FVec Ideal S512x256 .f32) (v120 v126 v131 : Vec Ideal S256x512 .f32) (v135 : Vec Ideal S1x512 .f32)
    (v143 : Vec Ideal S512x54 .f32) (v146 : Vec Ideal S1x54 .f32) (p : Fin 512) (a : Fin 9) :
    k0_pay20 v101 v118 v119 v120 v126 v131 v135 v143 v146 (ix2 p a) = k0_pay19 v101 v118 v119 v120 v126 v131 v135 v143 v146 (ix2 p ⟨18 + a.val, by omega⟩) := by
  pointwise [k0_pay20]

theorem pay21_at (v101 : FVec Ideal S8x64x512 .f32) (v118 : FVec Ideal S512x512 .f32) (v119 : FVec Ideal S512x256 .f32) (v120 v126 v131 : Vec Ideal S256x512 .f32) (v135 : Vec Ideal S1x512 .f32)
    (v143 : Vec Ideal S512x54 .f32) (v146 : Vec Ideal S1x54 .f32) (p : Fin 512) (a : Fin 9) :
    k0_pay21 v101 v118 v119 v120 v126 v131 v135 v143 v146 (ix2 p a) = k0_pay19 v101 v118 v119 v120 v126 v131 v135 v143 v146 (ix2 p ⟨27 + a.val, by omega⟩) := by
  pointwise [k0_pay21]

theorem pay22_at (v101 : FVec Ideal S8x64x512 .f32) (v118 : FVec Ideal S512x512 .f32) (v119 : FVec Ideal S512x256 .f32) (v120 v126 v131 : Vec Ideal S256x512 .f32) (v135 : Vec Ideal S1x512 .f32)
    (v143 : Vec Ideal S512x54 .f32) (v146 : Vec Ideal S1x54 .f32) (p : Fin 512) (a : Fin 9) :
    k0_pay22 v101 v118 v119 v120 v126 v131 v135 v143 v146 (ix2 p a) = k0_pay19 v101 v118 v119 v120 v126 v131 v135 v143 v146 (ix2 p ⟨36 + a.val, by omega⟩) := by
  pointwise [k0_pay22]

theorem pay23_at (v101 : FVec Ideal S8x64x512 .f32) (v118 : FVec Ideal S512x512 .f32) (v119 : FVec Ideal S512x256 .f32) (v120 v126 v131 : Vec Ideal S256x512 .f32) (v135 : Vec Ideal S1x512 .f32)
    (v143 : Vec Ideal S512x54 .f32) (v146 : Vec Ideal S1x54 .f32) (p : Fin 512) (a : Fin 9) :
    k0_pay23 v101 v118 v119 v120 v126 v131 v135 v143 v146 (ix2 p a) = k0_pay19 v101 v118 v119 v120 v126 v131 v135 v143 v146 (ix2 p ⟨45 + a.val, by omega⟩) := by
  pointwise [k0_pay23]

theorem pay24_at (v101 : FVec Ideal S8x64x512 .f32) (v118 : FVec Ideal S512x512 .f32) (v119 : FVec Ideal S512x256 .f32) (v120 v126 v131 : Vec Ideal S256x512 .f32) (v135 : Vec Ideal S1x512 .f32)
    (v143 : Vec Ideal S512x54 .f32) (v146 : Vec Ideal S1x54 .f32) (p : Fin 512) (a : Fin 9) :
    k0_pay24 v101 v118 v119 v120 v126 v131 v135 v143 v146 (ix2 p a)
      = prob (k0_pay19 v101 v118 v119 v120 v126 v131 v135 v143 v146 (ix2 p ⟨a.val, by omega⟩)) (k0_pay19 v101 v118 v119 v120 v126 v131 v135 v143 v146 (ix2 p ⟨9 + a.val, by omega⟩)) := by
  unfold prob
  pointwise [k0_pay24]

theorem pay29_at (d e w z : FVec Ideal S512x9 .f32) (h : Elt Ideal .f32) (p : Fin 512) (a : Fin 9) :
    k0_pay29 d e w z h (ix2 p a) = clip h (lowRaw (d (ix2 p a)) (e (ix2 p a)) (w (ix2 p a)) (z (ix2 p a))) := by
  unfold clip lowRaw
  pointwise [k0_pay29, k0_pay25, k0_pay27]

theorem pay30_at (d e w z : FVec Ideal S512x9 .f32) (h : Elt Ideal .f32) (p : Fin 512) (a : Fin 9) :
    k0_pay30 d e w z h (ix2 p a) = clip h (lowRaw (d (ix2 p a)) (e (ix2 p a)) (w (ix2 p a)) (z (ix2 p a))) := by
  unfold clip lowRaw
  pointwise [k0_pay30, k0_pay26, k0_pay28]

theorem pay31_at (d e w z : FVec Ideal S512x9 .f32) (h : Elt Ideal .f32) (p : Fin 512) (a : Fin 9) :
    k0_pay31 d e w z h (ix2 p a) = clip h (highRaw (d (ix2 p a)) (e (ix2 p a)) (w (ix2 p a)) (z (ix2 p a))) := by
  unfold clip highRaw
  pointwise [k0_pay31, k0_pay25, k0_pay27]

theorem pay1_at (d e w z : FVec Ideal S512x9 .f32) (h : Elt Ideal .f32) (p : Fin 512) (a : Fin 9) :
    k0_pay1 (k0_pay26 d w z) (k0_pay28 e w) h (ix2 p a) = clip h (highRaw (d (ix2 p a)) (e (ix2 p a)) (w (ix2 p a)) (z (ix2 p a))) := by
  unfold clip highRaw
  pointwise [k0_pay1, k0_pay26, k0_pay28]

end Cert.Proof.Val
-- ==== Proof.Val.DenseOut.lean ====
/- What the dense stage's body leaves in its five output blocks, over the heads at the point's blocks. -/
module
public import proofs.«01_k».proof.Proof.Val.DenseKernel
import Idealize.ShloMosaic.Lib.Pipeline.ValueKit

@[expose] public section
set_option maxRecDepth 16384

noncomputable section

namespace Cert.Proof.Val

open Cert.KernelIdeal Cert.KernelIdeal.Gen Cert.Proof.KernelIdeal
open Idealize.ShloMosaic Idealize.ShloMosaic.TcCoe

theorem one_idx (i j : S1.Idx) : i = j := by
  funext d
  match d with
  | ⟨0, _⟩ => exact Subsingleton.elim (α := Fin 1) _ _

variable (V : (c : Dev nD) → (b : Ref sig .tc) → Buf (Elt Ideal) ((c.tc : Thread nD τ).loc b)) (c : Dev nD) (t : Fin cfg0.N)

/-- The heads at a point's blocks. -/
def headsAt : FVec Ideal S512x54 .f32 :=
  heads (cfg0.grid.coords t) (iblk0 V c 1 t) (iblk0 V c 2 t) (iblk0 V c 3 t) (iblk0 V c 4 t) (iblk0 V c 5 t) (iblk0 V c 6 t) (iblk0 V c 7 t)

theorem out_score (p : Fin 512) (a : Fin 9) :
    ((outsAt0 V c t).1 : FVec Ideal S512x9 .f32) (ix2 p a) = prob (headsAt V c t (ix2 p ⟨a.val, by omega⟩)) (headsAt V c t (ix2 p ⟨9 + a.val, by omega⟩)) := by
  unfold outsAt0; dsimp only; unfold out0_A_12
  frame_out
  exact pay24_at ..

theorem out_x1 (p : Fin 512) (a : Fin 9) :
    ((outsAt0 V c t).2.1 : FVec Ideal S512x9 .f32) (ix2 p a)
      = clip ((iblk0 V c 0 t : FVec Ideal S1 .f32) (ix1 0)) (lowRaw (headsAt V c t (ix2 p ⟨18 + a.val, by omega⟩)) (headsAt V c t (ix2 p ⟨36 + a.val, by omega⟩))
          ((iblk0 V c 8 t : FVec Ideal S512x9 .f32) (ix2 p a)) ((iblk0 V c 10 t : FVec Ideal S512x9 .f32) (ix2 p a))) := by
  unfold outsAt0; dsimp only; unfold out0_A_13
  frame_out
  refine (pay29_at ..).trans ?_
  rw [pay20_at, pay22_at]
  refine congrArg₂ clip ?_ rfl
  exact congrArg (iblk0 V c 0 t : FVec Ideal S1 .f32) (one_idx _ _)

theorem out_y1 (p : Fin 512) (a : Fin 9) :
    ((outsAt0 V c t).2.2.1 : FVec Ideal S512x9 .f32) (ix2 p a)
      = clip ((iblk0 V c 0 t : FVec Ideal S1 .f32) (ix1 0)) (lowRaw (headsAt V c t (ix2 p ⟨27 + a.val, by omega⟩)) (headsAt V c t (ix2 p ⟨45 + a.val, by omega⟩))
          ((iblk0 V c 9 t : FVec Ideal S512x9 .f32) (ix2 p a)) ((iblk0 V c 11 t : FVec Ideal S512x9 .f32) (ix2 p a))) := by
  unfold outsAt0; dsimp only; unfold out0_A_14
  frame_out
  refine (pay30_at ..).trans ?_
  rw [pay21_at, pay23_at]
  refine congrArg₂ clip ?_ rfl
  exact congrArg (iblk0 V c 0 t : FVec Ideal S1 .f32) (one_idx _ _)

theorem out_x2 (p : Fin 512) (a : Fin 9) :
    ((outsAt0 V c t).2.2.2.1 : FVec Ideal S512x9 .f32) (ix2 p a)
      = clip ((iblk0 V c 0 t : FVec Ideal S1 .f32) (ix1 0)) (highRaw (headsAt V c t (ix2 p ⟨18 + a.val, by omega⟩)) (headsAt V c t (ix2 p ⟨36 + a.val, by omega⟩))
          ((iblk0 V c 8 t : FVec Ideal S512x9 .f32) (ix2 p a)) ((iblk0 V c 10 t : FVec Ideal S512x9 .f32) (ix2 p a))) := by
  unfold outsAt0; dsimp only; unfold out0_A_15
  frame_out
  refine (pay31_at ..).trans ?_
  rw [pay20_at, pay22_at]
  refine congrArg₂ clip ?_ rfl
  exact congrArg (iblk0 V c 0 t : FVec Ideal S1 .f32) (one_idx _ _)

theorem out_y2 (p : Fin 512) (a : Fin 9) :
    ((outsAt0 V c t).2.2.2.2 : FVec Ideal S512x9 .f32) (ix2 p a)
      = clip ((iblk0 V c 0 t : FVec Ideal S1 .f32) (ix1 0)) (highRaw (headsAt V c t (ix2 p ⟨27 + a.val, by omega⟩)) (headsAt V c t (ix2 p ⟨45 + a.val, by omega⟩))
          ((iblk0 V c 9 t : FVec Ideal S512x9 .f32) (ix2 p a)) ((iblk0 V c 11 t : FVec Ideal S512x9 .f32) (ix2 p a))) := by
  unfold outsAt0; dsimp only; unfold out0_A_16
  frame_out
  refine (pay1_at ..).trans ?_
  rw [pay21_at, pay23_at]
  refine congrArg₂ clip ?_ rfl
  exact congrArg (iblk0 V c 0 t : FVec Ideal S1 .f32) (one_idx _ _)

theorem index_0 : ∀ t : Fin cfg0.N, win0_0.index t = ![0] := (by decide +kernel : ∀ t : Fin grid0.N, _)
theorem index_1 : ∀ t : Fin cfg0.N, win0_1.index t = ![t.val - 1, 0, 0] := (by decide +kernel : ∀ t : Fin grid0.N, _)
theorem index_2 : ∀ t : Fin cfg0.N, win0_2.index t = ![t.val, 0, 0] := (by decide +kernel : ∀ t : Fin grid0.N, _)
theorem index_3 : ∀ t : Fin cfg0.N, win0_3.index t = ![min (t.val + 1) 7, 0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![t.val, 0] := (by decide +kernel : ∀ t : Fin grid0.N, _)
theorem index_9 : ∀ t : Fin cfg0.N, win0_9.index t = ![t.val, 0] := (by decide +kernel : ∀ t : Fin grid0.N, _)
theorem index_10 : ∀ t : Fin cfg0.N, win0_10.index t = ![t.val, 0] := (by decide +kernel : ∀ t : Fin grid0.N, _)
theorem index_11 : ∀ t : Fin cfg0.N, win0_11.index t = ![t.val, 0] := (by decide +kernel : ∀ t : Fin grid0.N, _)
theorem index_12 : ∀ t : Fin cfg0.N, win0_12.index t = ![t.val, 0] := (by decide +kernel : ∀ t : Fin grid0.N, _)
theorem index_13 : ∀ t : Fin cfg0.N, win0_13.index t = ![t.val, 0] := (by decide +kernel : ∀ t : Fin grid0.N, _)
theorem index_14 : ∀ t : Fin cfg0.N, win0_14.index t = ![t.val, 0] := (by decide +kernel : ∀ t : Fin grid0.N, _)
theorem index_15 : ∀ t : Fin cfg0.N, win0_15.index t = ![t.val, 0] := (by decide +kernel : ∀ t : Fin grid0.N, _)
theorem index_16 : ∀ t : Fin cfg0.N, win0_16.index t = ![t.val, 0] := (by decide +kernel : ∀ t : Fin grid0.N, _)
end Cert.Proof.Val
-- ==== Proof.Val.DenseArr.lean ====
/- The dense stage's blocks read off its arrays. -/
module
public import proofs.«01_k».proof.Proof.Val.DenseOut
import Idealize.ShloMosaic.Lib.Pipeline.ValueKit

@[expose] public section
set_option maxRecDepth 16384

noncomputable section

namespace Cert.Proof.Val

open Cert.KernelIdeal Cert.KernelIdeal.Gen Cert.Proof.KernelIdeal
open Idealize.ShloMosaic Idealize.ShloMosaic.TcCoe

variable (V : (c : Dev nD) → (b : Ref sig .tc) → Buf (Elt Ideal) ((c.tc : Thread nD τ).loc b)) (c : Dev nD) (t : Fin cfg0.N)

theorem points : ∀ t : Fin cfg0.N, t.val < 8 ∧ (cfg0.grid.coords t 0).val = t.val := (by decide +kernel : ∀ t : Fin grid0.N, t.val < 8 ∧ (grid0.coords t 0).val = t.val)

theorem blk_hi : (iblk0 V c 0 t : FVec Ideal S1 .f32) (ix1 0) = (V c main_v25 : FVec Ideal S1 .f32) (ix1 0) := by
  blk_ext [iblk0, index_0 t]
theorem blk_prev (r : Fin 8) (x : Fin 64) (k : Fin 512) :
    (iblk0 V c 1 t : FVec Ideal S8x64x512 .f32) (ix3 r x k) = (V c main_v0 : FVec Ideal S64x64x512 .f32) (ix3 ⟨(t.val - 1) * 8 + r.val, by have := (points t).1; omega⟩ x k) := by
  blk_ext [iblk0, index_1 t]
theorem blk_main (r : Fin 8) (x : Fin 64) (k : Fin 512) :
    (iblk0 V c 2 t : FVec Ideal S8x64x512 .f32) (ix3 r x k) = (V c main_v0 : FVec Ideal S64x64x512 .f32) (ix3 ⟨t.val * 8 + r.val, by have := (points t).1; omega⟩ x k) := by
  blk_ext [iblk0, index_2 t]
theorem blk_next (r : Fin 8) (x : Fin 64) (k : Fin 512) :
    (iblk0 V c 3 t : FVec Ideal S8x64x512 .f32) (ix3 r x k) = (V c main_v0 : FVec Ideal S64x64x512 .f32) (ix3 ⟨min (t.val + 1) 7 * 8 + r.val, by have := (points t).1; omega⟩ x k) := by
  blk_ext [iblk0, index_3 t]
theorem blk_w (i : Fin 4608) (o : Fin 512) :
    (iblk0 V c 4 t : FVec Ideal S4608x512 .f32) (ix2 i o) = (V c main_v3 : FVec Ideal S4608x512 .f32) (ix2 i o) := by
  blk_ext [iblk0, index_4 t]
theorem blk_wh (i : Fin 512) (q : Fin 54) :
    (iblk0 V c 5 t : FVec Ideal S512x54 .f32) (ix2 i q) = (V c main_v14 : FVec Ideal S512x54 .f32) (ix2 i q) := by
  blk_ext [iblk0, index_5 t]
theorem blk_b (o : Fin 512) :
    (iblk0 V c 6 t : FVec Ideal S1x512 .f32) (ix2 0 o) = (V c main_v26 : FVec Ideal S1x512 .f32) (ix2 0 o) := by
  blk_ext [iblk0, index_6 t]
theorem blk_bh (q : Fin 54) :
    (iblk0 V c 7 t : FVec Ideal S1x54 .f32) (ix2 0 q) = (V c main_v22 : FVec Ideal S1x54 .f32) (ix2 0 q) := by
  blk_ext [iblk0, index_7 t]
theorem blk_t8 (p : Fin 512) (a : Fin 9) :
    (iblk0 V c 8 t : FVec Ideal S512x9 .f32) (ix2 p a) = (V c main_cst : FVec Ideal S4096x9 .f32) (ix2 ⟨t.val * 512 + p.val, by have := (points t).1; omega⟩ a) := by
  blk_ext [iblk0, index_8 t]
theorem blk_t9 (p : Fin 512) (a : Fin 9) :
    (iblk0 V c 9 t : FVec Ideal S512x9 .f32) (ix2 p a) = (V c main_cst_0 : FVec Ideal S4096x9 .f32) (ix2 ⟨t.val * 512 + p.val, by have := (points t).1; omega⟩ a) := by
  blk_ext [iblk0, index_9 t]
theorem blk_t10 (p : Fin 512) (a : Fin 9) :
    (iblk0 V c 10 t : FVec Ideal S512x9 .f32) (ix2 p a) = (V c main_cst_1 : FVec Ideal S4096x9 .f32) (ix2 ⟨t.val * 512 + p.val, by have := (points t).1; omega⟩ a) := by
  blk_ext [iblk0, index_10 t]
theorem blk_t11 (p : Fin 512) (a : Fin 9) :
    (iblk0 V c 11 t : FVec Ideal S512x9 .f32) (ix2 p a) = (V c main_cst_2 : FVec Ideal S4096x9 .f32) (ix2 ⟨t.val * 512 + p.val, by have := (points t).1; omega⟩ a) := by
  blk_ext [iblk0, index_11 t]

/-- The arrays the dense stage is entered with, in terms of the net. -/
structure Arrays (N : Net) (V : (c : Dev nD) → (b : Ref sig .tc) → Buf (Elt Ideal) ((c.tc : Thread nD τ).loc b)) (c : Dev nD) : Prop where
  x : ∀ y x k, (V c main_v0 : FVec Ideal S64x64x512 .f32) (ix3 y x k) = N.X y x k
  w : ∀ (i j : Fin 3) (k o : Fin 512) (h), (V c main_v3 : FVec Ideal S4608x512 .f32) (ix2 ⟨(i.val * 3 + j.val) * 512 + k.val, h⟩ o) = N.W i j k o
  b : ∀ o, (V c main_v26 : FVec Ideal S1x512 .f32) (ix2 0 o) = N.b o
  hi : (V c main_v25 : FVec Ideal S1 .f32) (ix1 0) = N.hi
  w_s0 : ∀ (k : Fin 512) (a : Fin 9), (V c main_v14 : FVec Ideal S512x54 .f32) (ix2 k ⟨a.val, by omega⟩) = N.Ws k ⟨a.val * 2, by omega⟩
  w_s1 : ∀ (k : Fin 512) (a : Fin 9), (V c main_v14 : FVec Ideal S512x54 .f32) (ix2 k ⟨9 + a.val, by omega⟩) = N.Ws k ⟨a.val * 2 + 1, by omega⟩
  w_d0 : ∀ (k : Fin 512) (a : Fin 9), (V c main_v14 : FVec Ideal S512x54 .f32) (ix2 k ⟨18 + a.val, by omega⟩) = N.Wb k ⟨a.val * 4, by omega⟩
  w_d1 : ∀ (k : Fin 512) (a : Fin 9), (V c main_v14 : FVec Ideal S512x54 .f32) (ix2 k ⟨27 + a.val, by omega⟩) = N.Wb k ⟨a.val * 4 + 1, by omega⟩
  w_d2 : ∀ (k : Fin 512) (a : Fin 9), (V c main_v14 : FVec Ideal S512x54 .f32) (ix2 k ⟨36 + a.val, by omega⟩) = N.Wb k ⟨a.val * 4 + 2, by omega⟩
  w_d3 : ∀ (k : Fin 512) (a : Fin 9), (V c main_v14 : FVec Ideal S512x54 .f32) (ix2 k ⟨45 + a.val, by omega⟩) = N.Wb k ⟨a.val * 4 + 3, by omega⟩
  b_s0 : ∀ (a : Fin 9), (V c main_v22 : FVec Ideal S1x54 .f32) (ix2 0 ⟨a.val, by omega⟩) = N.bs ⟨a.val * 2, by omega⟩
  b_s1 : ∀ (a : Fin 9), (V c main_v22 : FVec Ideal S1x54 .f32) (ix2 0 ⟨9 + a.val, by omega⟩) = N.bs ⟨a.val * 2 + 1, by omega⟩
  b_d0 : ∀ (a : Fin 9), (V c main_v22 : FVec Ideal S1x54 .f32) (ix2 0 ⟨18 + a.val, by omega⟩) = N.bb ⟨a.val * 4, by omega⟩
  b_d1 : ∀ (a : Fin 9), (V c main_v22 : FVec Ideal S1x54 .f32) (ix2 0 ⟨27 + a.val, by omega⟩) = N.bb ⟨a.val * 4 + 1, by omega⟩
  b_d2 : ∀ (a : Fin 9), (V c main_v22 : FVec Ideal S1x54 .f32) (ix2 0 ⟨36 + a.val, by omega⟩) = N.bb ⟨a.val * 4 + 2, by omega⟩
  b_d3 : ∀ (a : Fin 9), (V c main_v22 : FVec Ideal S1x54 .f32) (ix2 0 ⟨45 + a.val, by omega⟩) = N.bb ⟨a.val * 4 + 3, by omega⟩

section Read
variable {N : Net} {V} {c} (H : Arrays N V c)
include H

theorem blocks : Blocks N (cfg0.grid.coords t 0).val (iblk0 V c 1 t) (iblk0 V c 2 t) (iblk0 V c 3 t) (iblk0 V c 4 t) (iblk0 V c 6 t) := by
  obtain ⟨ht, e⟩ := points t
  rw [e]
  refine ⟨fun h x k => ?_, fun r x k => ?_, fun h x k => ?_, fun i j k o h => ?_, fun o => ?_⟩
  · rw [blk_prev V c t, H.x, Net.P, dif_pos (by omega)]
    refine congrArg₂ (fun y z => N.X y z k) (Fin.ext ?_) (Fin.ext ?_)
    · show (t.val - 1) * 8 + 7 = 8 * t.val - 1; omega
    · show x.val = x.val + 1 - 1; omega
  · rw [blk_main V c t, H.x, Net.P, dif_pos (by omega)]
    refine congrArg₂ (fun y z => N.X y z k) (Fin.ext ?_) (Fin.ext ?_)
    · show t.val * 8 + r.val = 8 * t.val + (1 + r.val) - 1; omega
    · show x.val = x.val + 1 - 1; omega
  · rw [blk_next V c t, H.x, Net.P, dif_pos (by omega)]
    refine congrArg₂ (fun y z => N.X y z k) (Fin.ext ?_) (Fin.ext ?_)
    · show min (t.val + 1) 7 * 8 + 0 = 8 * t.val + 9 - 1; omega
    · show x.val = x.val + 1 - 1; omega
  · rw [blk_w V c t, H.w]
  · rw [blk_b V c t, H.b]

theorem headsAt_eq (p : Fin 512) (q : Fin 54) :
    headsAt V c t (ix2 p q) = ∑ o, N.hid ((t.val * 512 + p.val) / 64) ((t.val * 512 + p.val) % 64) o * (V c main_v14 : FVec Ideal S512x54 .f32) (ix2 o q)
      + (V c main_v22 : FVec Ideal S1x54 .f32) (ix2 0 q) := by
  unfold headsAt
  rw [heads_eq (blocks t H), (points t).2, blk_bh V c t, show 8 * t.val + p.val / 64 = (t.val * 512 + p.val) / 64 by omega,
    show p.val % 64 = (t.val * 512 + p.val) % 64 by omega]
  simp only [blk_wh V c t]

theorem head_s0 (p : Fin 512) (a : Fin 9) :
    headsAt V c t (ix2 p ⟨a.val, by omega⟩) = N.s0 ((t.val * 512 + p.val) / 64) ((t.val * 512 + p.val) % 64) a := by
  rw [headsAt_eq t H, H.b_s0]
  simp only [H.w_s0]
  rfl

theorem head_s1 (p : Fin 512) (a : Fin 9) :
    headsAt V c t (ix2 p ⟨9 + a.val, by omega⟩) = N.s1 ((t.val * 512 + p.val) / 64) ((t.val * 512 + p.val) % 64) a := by
  rw [headsAt_eq t H, H.b_s1]
  simp only [H.w_s1]
  rfl

theorem head_d0 (p : Fin 512) (a : Fin 9) :
    headsAt V c t (ix2 p ⟨18 + a.val, by omega⟩) = N.d0 ((t.val * 512 + p.val) / 64) ((t.val * 512 + p.val) % 64) a := by
  rw [headsAt_eq t H, H.b_d0]
  simp only [H.w_d0]
  rfl

theorem head_d1 (p : Fin 512) (a : Fin 9) :
    headsAt V c t (ix2 p ⟨27 + a.val, by omega⟩) = N.d1 ((t.val * 512 + p.val) / 64) ((t.val * 512 + p.val) % 64) a := by
  rw [headsAt_eq t H, H.b_d1]
  simp only [H.w_d1]
  rfl

theorem head_d2 (p : Fin 512) (a : Fin 9) :
    headsAt V c t (ix2 p ⟨36 + a.val, by omega⟩) = N.d2 ((t.val * 512 + p.val) / 64) ((t.val * 512 + p.val) % 64) a := by
  rw [headsAt_eq t H, H.b_d2]
  simp only [H.w_d2]
  rfl

theorem head_d3 (p : Fin 512) (a : Fin 9) :
    headsAt V c t (ix2 p ⟨45 + a.val, by omega⟩) = N.d3 ((t.val * 512 + p.val) / 64) ((t.val * 512 + p.val) % 64) a := by
  rw [headsAt_eq t H, H.b_d3]
  simp only [H.w_d3]
  rfl

/-- The scores of the whole grid. -/
theorem arr_score : ((dat0 V c).arrAt 12 cfg0.N : FVec Ideal S4096x9 .f32)
    = fun i : S4096x9.Idx => prob (N.s0 ((i 0).val / 64) ((i 0).val % 64) (i 1)) (N.s1 ((i 0).val / 64) ((i 0).val % 64) (i 1)) := by
  refine (dat0 V c).arrAt_eq_of_covers 12 _ (by decide +kernel) fun t hf y => ?_
  blk_simp
  rw [after0_12]
  obtain ⟨p, a, rfl⟩ : ∃ (p : Fin 512) (a : Fin 9), y = ix2 p a := ⟨y 0, y 1, by blk_ext []⟩
  have e0 : win0_12.index t 0 = t.val := by rw [index_12]; rfl
  have e1 : ((win0_12.blk t).view.emb (ix2 p a)) 1 = a := Fin.ext (by blk_simp [index_12 t])
  rw [e0, e1]
  refine (out_score V c t p a).trans ?_
  rw [head_s0 t H, head_s1 t H]
  rfl

theorem arr_x1 : ((dat0 V c).arrAt 13 cfg0.N : FVec Ideal S4096x9 .f32)
    = fun i : S4096x9.Idx => clip N.hi (lowRaw (N.d0 ((i 0).val / 64) ((i 0).val % 64) (i 1)) (N.d2 ((i 0).val / 64) ((i 0).val % 64) (i 1))
        ((V c main_cst : FVec Ideal S4096x9 .f32) i) ((V c main_cst_1 : FVec Ideal S4096x9 .f32) i)) := by
  refine (dat0 V c).arrAt_eq_of_covers 13 _ (by decide +kernel) fun t hf y => ?_
  blk_simp
  rw [after0_13]
  obtain ⟨p, a, rfl⟩ : ∃ (p : Fin 512) (a : Fin 9), y = ix2 p a := ⟨y 0, y 1, by blk_ext []⟩
  have e0 : win0_13.index t 0 = t.val := by rw [index_13]; rfl
  have e1 : ((win0_13.blk t).view.emb (ix2 p a)) 1 = a := Fin.ext (by blk_simp [index_13 t])
  have ht := (points t).1
  have e2 : (win0_13.blk t).view.emb (ix2 p a) = ix2 (⟨t.val * 512 + p.val, by omega⟩ : Fin 4096) a := by blk_ext [index_13 t]
  rw [e0, e1, e2]
  refine (out_x1 V c t p a).trans ?_
  rw [head_d0 t H, head_d2 t H, blk_hi, H.hi, blk_t8, blk_t10]
  rfl

theorem arr_y1 : ((dat0 V c).arrAt 14 cfg0.N : FVec Ideal S4096x9 .f32)
    = fun i : S4096x9.Idx => clip N.hi (lowRaw (N.d1 ((i 0).val / 64) ((i 0).val % 64) (i 1)) (N.d3 ((i 0).val / 64) ((i 0).val % 64) (i 1))
        ((V c main_cst_0 : FVec Ideal S4096x9 .f32) i) ((V c main_cst_2 : FVec Ideal S4096x9 .f32) i)) := by
  refine (dat0 V c).arrAt_eq_of_covers 14 _ (by decide +kernel) fun t hf y => ?_
  blk_simp
  rw [after0_14]
  obtain ⟨p, a, rfl⟩ : ∃ (p : Fin 512) (a : Fin 9), y = ix2 p a := ⟨y 0, y 1, by blk_ext []⟩
  have e0 : win0_14.index t 0 = t.val := by rw [index_14]; rfl
  have e1 : ((win0_14.blk t).view.emb (ix2 p a)) 1 = a := Fin.ext (by blk_simp [index_14 t])
  have ht := (points t).1
  have e2 : (win0_14.blk t).view.emb (ix2 p a) = ix2 (⟨t.val * 512 + p.val, by omega⟩ : Fin 4096) a := by blk_ext [index_14 t]
  rw [e0, e1, e2]
  refine (out_y1 V c t p a).trans ?_
  rw [head_d1 t H, head_d3 t H, blk_hi, H.hi, blk_t9, blk_t11]
  rfl

theorem arr_x2 : ((dat0 V c).arrAt 15 cfg0.N : FVec Ideal S4096x9 .f32)
    = fun i : S4096x9.Idx => clip N.hi (highRaw (N.d0 ((i 0).val / 64) ((i 0).val % 64) (i 1)) (N.d2 ((i 0).val / 64) ((i 0).val % 64) (i 1))
        ((V c main_cst : FVec Ideal S4096x9 .f32) i) ((V c main_cst_1 : FVec Ideal S4096x9 .f32) i)) := by
  refine (dat0 V c).arrAt_eq_of_covers 15 _ (by decide +kernel) fun t hf y => ?_
  blk_simp
  rw [after0_15]
  obtain ⟨p, a, rfl⟩ : ∃ (p : Fin 512) (a : Fin 9), y = ix2 p a := ⟨y 0, y 1, by blk_ext []⟩
  have e0 : win0_15.index t 0 = t.val := by rw [index_15]; rfl
  have e1 : ((win0_15.blk t).view.emb (ix2 p a)) 1 = a := Fin.ext (by blk_simp [index_15 t])
  have ht := (points t).1
  have e2 : (win0_15.blk t).view.emb (ix2 p a) = ix2 (⟨t.val * 512 + p.val, by omega⟩ : Fin 4096) a := by blk_ext [index_15 t]
  rw [e0, e1, e2]
  refine (out_x2 V c t p a).trans ?_
  rw [head_d0 t H, head_d2 t H, blk_hi, H.hi, blk_t8, blk_t10]
  rfl

theorem arr_y2 : ((dat0 V c).arrAt 16 cfg0.N : FVec Ideal S4096x9 .f32)
    = fun i : S4096x9.Idx => clip N.hi (highRaw (N.d1 ((i 0).val / 64) ((i 0).val % 64) (i 1)) (N.d3 ((i 0).val / 64) ((i 0).val % 64) (i 1))
        ((V c main_cst_0 : FVec Ideal S4096x9 .f32) i) ((V c main_cst_2 : FVec Ideal S4096x9 .f32) i)) := by
  refine (dat0 V c).arrAt_eq_of_covers 16 _ (by decide +kernel) fun t hf y => ?_
  blk_simp
  rw [after0_16]
  obtain ⟨p, a, rfl⟩ : ∃ (p : Fin 512) (a : Fin 9), y = ix2 p a := ⟨y 0, y 1, by blk_ext []⟩
  have e0 : win0_16.index t 0 = t.val := by rw [index_16]; rfl
  have e1 : ((win0_16.blk t).view.emb (ix2 p a)) 1 = a := Fin.ext (by blk_simp [index_16 t])
  have ht := (points t).1
  have e2 : (win0_16.blk t).view.emb (ix2 p a) = ix2 (⟨t.val * 512 + p.val, by omega⟩ : Fin 4096) a := by blk_ext [index_16 t]
  rw [e0, e1, e2]
  refine (out_y2 V c t p a).trans ?_
  rw [head_d1 t H, head_d3 t H, blk_hi, H.hi, blk_t9, blk_t11]
  rfl

end Read

end Cert.Proof.Val
-- ==== Proof.Val.HostIn.lean ====
/- The host operations before the dense stage: the arrays it is entered with, read at an index. -/
module
public import proofs.«01_k».proof.Proof.Val.DenseArr
import Idealize.ShloMosaic.Lib.StableHlo.ReadAt
import Idealize.ShloMosaic.Lib.Pipeline.ValueKit

@[expose] public section
set_option maxRecDepth 16384

noncomputable section

namespace Cert.Proof.Val

open Cert.KernelIdeal Cert.KernelIdeal.Gen Cert.Proof.KernelIdeal
open Idealize.ShloMosaic Idealize.ShloMosaic.TcCoe Idealize.SL

variable (U : Valuation τ sig (Elt Ideal))

theorem in_x (y x : Fin 64) (k : Fin 512) :
    (StableHlo.after hostOps0 U (Proc.devRef .tc main_v0) : FVec Ideal S64x64x512 .f32) (ix3 y x k)
      = (U (Proc.devRef .tc main_arg0) : FVec Ideal S1x64x64x512 .f32) (ix4 0 y x k) := by
  after_reads_at
theorem in_w (i j : Fin 3) (k o : Fin 512) (h) :
    (StableHlo.after hostOps0 U (Proc.devRef .tc main_v3) : FVec Ideal S4608x512 .f32) (ix2 ⟨(i.val * 3 + j.val) * 512 + k.val, h⟩ o)
      = (U (Proc.devRef .tc main_arg2) : FVec Ideal S3x3x512x512 .f32) (ix4 i j k o) := by
  after_reads_at
  blk_ext []
theorem in_b (o : Fin 512) :
    (StableHlo.after hostOps0 U (Proc.devRef .tc main_v26) : FVec Ideal S1x512 .f32) (ix2 0 o)
      = (U (Proc.devRef .tc main_arg3) : FVec Ideal S512 .f32) (ix1 o) := by
  after_reads_at
theorem in_hi :
    (StableHlo.after hostOps0 U (Proc.devRef .tc main_v25) : FVec Ideal S1 .f32) (ix1 0)
      = ((((U (Proc.devRef .tc main_arg1) : IVec S_ 32) ix0).toInt : ℝ) : EReal) - 1 := by
  after_reads_at
  rfl
theorem in_w_s0 (k : Fin 512) (a : Fin 9) :
    (StableHlo.after hostOps0 U (Proc.devRef .tc main_v14) : FVec Ideal S512x54 .f32) (ix2 k ⟨a.val, by omega⟩)
      = (U (Proc.devRef .tc main_arg4) : FVec Ideal S1x1x512x18 .f32) (ix4 0 0 k ⟨a.val * 2, by omega⟩) := by
  after_reads_at
  all_goals try after_reads_at
  all_goals try split_ifs
  all_goals first | omega | blk_ext []
theorem in_b_s0 (a : Fin 9) :
    (StableHlo.after hostOps0 U (Proc.devRef .tc main_v22) : FVec Ideal S1x54 .f32) (ix2 0 ⟨a.val, by omega⟩)
      = (U (Proc.devRef .tc main_arg5) : FVec Ideal S18 .f32) (ix1 ⟨a.val * 2, by omega⟩) := by
  after_reads_at
  all_goals try after_reads_at
  all_goals try split_ifs
  all_goals first | omega | blk_ext []
theorem in_w_s1 (k : Fin 512) (a : Fin 9) :
    (StableHlo.after hostOps0 U (Proc.devRef .tc main_v14) : FVec Ideal S512x54 .f32) (ix2 k ⟨9 + a.val, by omega⟩)
      = (U (Proc.devRef .tc main_arg4) : FVec Ideal S1x1x512x18 .f32) (ix4 0 0 k ⟨a.val * 2 + 1, by omega⟩) := by
  after_reads_at
  all_goals try after_reads_at
  all_goals try split_ifs
  all_goals first | omega | blk_ext []
theorem in_b_s1 (a : Fin 9) :
    (StableHlo.after hostOps0 U (Proc.devRef .tc main_v22) : FVec Ideal S1x54 .f32) (ix2 0 ⟨9 + a.val, by omega⟩)
      = (U (Proc.devRef .tc main_arg5) : FVec Ideal S18 .f32) (ix1 ⟨a.val * 2 + 1, by omega⟩) := by
  after_reads_at
  all_goals try after_reads_at
  all_goals try split_ifs
  all_goals first | omega | blk_ext []
theorem in_w_d0 (k : Fin 512) (a : Fin 9) :
    (StableHlo.after hostOps0 U (Proc.devRef .tc main_v14) : FVec Ideal S512x54 .f32) (ix2 k ⟨18 + a.val, by omega⟩)
      = (U (Proc.devRef .tc main_arg6) : FVec Ideal S1x1x512x36 .f32) (ix4 0 0 k ⟨a.val * 4, by omega⟩) := by
  after_reads_at
  all_goals try after_reads_at
  all_goals try split_ifs
  all_goals first | omega | blk_ext []
theorem in_b_d0 (a : Fin 9) :
    (StableHlo.after hostOps0 U (Proc.devRef .tc main_v22) : FVec Ideal S1x54 .f32) (ix2 0 ⟨18 + a.val, by omega⟩)
      = (U (Proc.devRef .tc main_arg7) : FVec Ideal S36 .f32) (ix1 ⟨a.val * 4, by omega⟩) := by
  after_reads_at
  all_goals try after_reads_at
  all_goals try split_ifs
  all_goals first | omega | blk_ext []
theorem in_w_d1 (k : Fin 512) (a : Fin 9) :
    (StableHlo.after hostOps0 U (Proc.devRef .tc main_v14) : FVec Ideal S512x54 .f32) (ix2 k ⟨27 + a.val, by omega⟩)
      = (U (Proc.devRef .tc main_arg6) : FVec Ideal S1x1x512x36 .f32) (ix4 0 0 k ⟨a.val * 4 + 1, by omega⟩) := by
  after_reads_at
  all_goals try after_reads_at
  all_goals try split_ifs
  all_goals first | omega | blk_ext []
theorem in_b_d1 (a : Fin 9) :
    (StableHlo.after hostOps0 U (Proc.devRef .tc main_v22) : FVec Ideal S1x54 .f32) (ix2 0 ⟨27 + a.val, by omega⟩)
      = (U (Proc.devRef .tc main_arg7) : FVec Ideal S36 .f32) (ix1 ⟨a.val * 4 + 1, by omega⟩) := by
  after_reads_at
  all_goals try after_reads_at
  all_goals try split_ifs
  all_goals first | omega | blk_ext []
theorem in_w_d2 (k : Fin 512) (a : Fin 9) :
    (StableHlo.after hostOps0 U (Proc.devRef .tc main_v14) : FVec Ideal S512x54 .f32) (ix2 k ⟨36 + a.val, by omega⟩)
      = (U (Proc.devRef .tc main_arg6) : FVec Ideal S1x1x512x36 .f32) (ix4 0 0 k ⟨a.val * 4 + 2, by omega⟩) := by
  after_reads_at
  all_goals try after_reads_at
  all_goals try split_ifs
  all_goals first | omega | blk_ext []
theorem in_b_d2 (a : Fin 9) :
    (StableHlo.after hostOps0 U (Proc.devRef .tc main_v22) : FVec Ideal S1x54 .f32) (ix2 0 ⟨36 + a.val, by omega⟩)
      = (U (Proc.devRef .tc main_arg7) : FVec Ideal S36 .f32) (ix1 ⟨a.val * 4 + 2, by omega⟩) := by
  after_reads_at
  all_goals try after_reads_at
  all_goals try split_ifs
  all_goals first | omega | blk_ext []
theorem in_w_d3 (k : Fin 512) (a : Fin 9) :
    (StableHlo.after hostOps0 U (Proc.devRef .tc main_v14) : FVec Ideal S512x54 .f32) (ix2 k ⟨45 + a.val, by omega⟩)
      = (U (Proc.devRef .tc main_arg6) : FVec Ideal S1x1x512x36 .f32) (ix4 0 0 k ⟨a.val * 4 + 3, by omega⟩) := by
  after_reads_at
  all_goals try after_reads_at
  all_goals try split_ifs
  all_goals first | omega | blk_ext []
theorem in_b_d3 (a : Fin 9) :
    (StableHlo.after hostOps0 U (Proc.devRef .tc main_v22) : FVec Ideal S1x54 .f32) (ix2 0 ⟨45 + a.val, by omega⟩)
      = (U (Proc.devRef .tc main_arg7) : FVec Ideal S36 .f32) (ix1 ⟨a.val * 4 + 3, by omega⟩) := by
  after_reads_at
  all_goals try after_reads_at
  all_goals try split_ifs
  all_goals first | omega | blk_ext []

/-- The net of a valuation's arguments. -/
def netK : Net :=
  netOf (U (Proc.devRef .tc main_arg0)) (U (Proc.devRef .tc main_arg1)) (U (Proc.devRef .tc main_arg2)) (U (Proc.devRef .tc main_arg3))
    (U (Proc.devRef .tc main_arg4)) (U (Proc.devRef .tc main_arg5)) (U (Proc.devRef .tc main_arg6)) (U (Proc.devRef .tc main_arg7))

theorem arrays (c : Dev nD) : Arrays (netK U) (fun _ b => StableHlo.after hostOps0 U (Proc.devRef .tc b)) c where
  x := in_x U
  w := in_w U
  b := in_b U
  hi := in_hi U
  w_s0 := in_w_s0 U
  w_s1 := in_w_s1 U
  w_d0 := in_w_d0 U
  w_d1 := in_w_d1 U
  w_d2 := in_w_d2 U
  w_d3 := in_w_d3 U
  b_s0 := in_b_s0 U
  b_s1 := in_b_s1 U
  b_d0 := in_b_d0 U
  b_d1 := in_b_d1 U
  b_d2 := in_b_d2 U
  b_d3 := in_b_d3 U

end Cert.Proof.Val
-- ==== Proof.Val.TailKernel.lean ====
/- The host operations around the suppression: what they hand it, and what they make of its answer. -/
module
public import proofs.«01_k».proof.Proof.Val.Field
public import proofs.«01_k».proof.Proof.Val.HostIn
import Idealize.ShloMosaic.Lib.StableHlo.ReadAt
import Idealize.ShloMosaic.Lib.Pipeline.ValueKit

@[expose] public section
set_option maxRecDepth 16384

noncomputable section

namespace Cert.Proof.Val

open Cert.KernelIdeal Cert.KernelIdeal.Gen Cert.Proof.KernelIdeal
open Idealize.ShloMosaic Idealize.ShloMosaic.TcCoe Idealize.SL

/-- The dense stage's five arrays are the candidates', nine to a row. -/
structure FromDense (F : Field) (U : Valuation τ sig (Elt Ideal)) : Prop where
  s : ∀ n : Fin 36864, (U (Proc.devRef .tc main_v27_0) : FVec Ideal S4096x9 .f32) (ix2 ⟨n.val / 9, by omega⟩ ⟨n.val % 9, by omega⟩) = F.S (ix1 n)
  x1 : ∀ n : Fin 36864, (U (Proc.devRef .tc main_v27_1) : FVec Ideal S4096x9 .f32) (ix2 ⟨n.val / 9, by omega⟩ ⟨n.val % 9, by omega⟩) = F.X1 (ix1 n)
  y1 : ∀ n : Fin 36864, (U (Proc.devRef .tc main_v27_2) : FVec Ideal S4096x9 .f32) (ix2 ⟨n.val / 9, by omega⟩ ⟨n.val % 9, by omega⟩) = F.Y1 (ix1 n)
  x2 : ∀ n : Fin 36864, (U (Proc.devRef .tc main_v27_3) : FVec Ideal S4096x9 .f32) (ix2 ⟨n.val / 9, by omega⟩ ⟨n.val % 9, by omega⟩) = F.X2 (ix1 n)
  y2 : ∀ n : Fin 36864, (U (Proc.devRef .tc main_v27_4) : FVec Ideal S4096x9 .f32) (ix2 ⟨n.val / 9, by omega⟩ ⟨n.val % 9, by omega⟩) = F.Y2 (ix1 n)

variable {F : Field} {U : Valuation τ sig (Elt Ideal)} (H : FromDense F U)
include H

theorem flat_s (n : Fin 36864) :
    (StableHlo.after hostOps1 U (Proc.devRef .tc main_v28) : FVec Ideal S36864 .f32) (ix1 n) = F.S (ix1 n) := by
  rw [← H.s n]
  after_reads_at
theorem scores_flat :
    (fun i : S36864.Idx => (U (Proc.devRef .tc main_v27_0) : FVec Ideal S4096x9 .f32)
      (ix2 ⟨(i 0).val / 9, by have := (i 0).isLt; simp at this; omega⟩ ⟨(i 0).val % 9, by omega⟩)) = F.S := by
  funext i
  have e : i = ix1 (i 0) := by funext d; match d with | ⟨0, _⟩ => rfl
  exact (H.s (i 0)).trans (congrArg F.S e.symm)
theorem mid_indices (n : Fin 6000) :
    (StableHlo.after hostOps1 U (Proc.devRef .tc main_indices) : IVec S6000 32) (ix1 n) = F.ranked.2 (ix1 n) := by
  after_reads_at
  exact congrArg (fun z : FVec Ideal S36864 .f32 => (Host.topK S6000 0 (FloatOps.cmpfTotal CmpDirection.gt) z sliceFits_S36864_S6000).2 (ix1 n)) (scores_flat H)
theorem mid_values (n : Fin 6000) :
    (StableHlo.after hostOps1 U (Proc.devRef .tc main_values) : FVec Ideal S6000 .f32) (ix1 n) = F.ranked.1 (ix1 n) := by
  after_reads_at
  exact congrArg (fun z : FVec Ideal S36864 .f32 => (Host.topK S6000 0 (FloatOps.cmpfTotal CmpDirection.gt) z sliceFits_S36864_S6000).1 (ix1 n)) (scores_flat H)
theorem up_indices (n : Fin 6000) :
    (StableHlo.upto hostOps1 U 5 (Proc.devRef .tc main_indices) : IVec S6000 32) (ix1 n) = BitVec.ofNat 32 (F.src n.val).val := by
  rw [← F.ranked_src]
  after_reads_at
  exact congrArg (fun z : FVec Ideal S36864 .f32 => (Host.topK S6000 0 (FloatOps.cmpfTotal CmpDirection.gt) z sliceFits_S36864_S6000).2 (ix1 n)) (scores_flat H)
omit H in
theorem up_zeros (n : Fin 144) :
    (StableHlo.upto hostOps1 U 5 (Proc.devRef .tc main_v29) : IVec S144 32) (ix1 n) = 0#32 := by
  after_reads_at
theorem col_at (n : Nat) (hn : n < 6144) :
    (if h : n < 6000 then (StableHlo.upto hostOps1 U 5 (Proc.devRef .tc main_indices) : IVec S6000 32) (ix1 ⟨n, h⟩)
      else (StableHlo.upto hostOps1 U 5 (Proc.devRef .tc main_v29) : IVec S144 32) (ix1 ⟨n - 6000, by omega⟩)) = BitVec.ofNat 32 (F.src n).val := by
  split
  · exact up_indices H _
  · rw [up_zeros, F.src_past n (by assumption)]; rfl
theorem mid_63 (p : Fin 48) (q : Fin 128) :
    (StableHlo.after hostOps1 U (Proc.devRef .tc main_v63) : FVec Ideal S48x128 .f32) (ix2 p q) = (F.G (p.val * 128 + q.val)).x1 := by
  after_reads_at
  refine (take_at _ rfl rfl rfl rfl _ _ _ (F.src (p.val * 128 + q.val)) ?_ (by norm_num)).trans ?_
  · pointwise []
    exact normal_at _ _ _ (by omega) (col_at H _ (by omega))
  · exact H.x1 _
theorem mid_67 (n : Fin 6144) :
    (StableHlo.after hostOps1 U (Proc.devRef .tc main_v67) : FVec Ideal S6144x1 .f32) (ix2 n 0) = (F.G n.val).x1 := by
  after_reads_at
  refine (take_at _ rfl rfl rfl rfl _ _ _ (F.src n.val) ?_ (by norm_num)).trans ?_
  · pointwise []
    exact normal_at _ _ _ (by omega) (col_at H _ (by omega))
  · exact H.x1 _
theorem mid_64 (p : Fin 48) (q : Fin 128) :
    (StableHlo.after hostOps1 U (Proc.devRef .tc main_v64) : FVec Ideal S48x128 .f32) (ix2 p q) = (F.G (p.val * 128 + q.val)).y1 := by
  after_reads_at
  refine (take_at _ rfl rfl rfl rfl _ _ _ (F.src (p.val * 128 + q.val)) ?_ (by norm_num)).trans ?_
  · pointwise []
    exact normal_at _ _ _ (by omega) (col_at H _ (by omega))
  · exact H.y1 _
theorem mid_68 (n : Fin 6144) :
    (StableHlo.after hostOps1 U (Proc.devRef .tc main_v68) : FVec Ideal S6144x1 .f32) (ix2 n 0) = (F.G n.val).y1 := by
  after_reads_at
  refine (take_at _ rfl rfl rfl rfl _ _ _ (F.src n.val) ?_ (by norm_num)).trans ?_
  · pointwise []
    exact normal_at _ _ _ (by omega) (col_at H _ (by omega))
  · exact H.y1 _
theorem mid_65 (p : Fin 48) (q : Fin 128) :
    (StableHlo.after hostOps1 U (Proc.devRef .tc main_v65) : FVec Ideal S48x128 .f32) (ix2 p q) = (F.G (p.val * 128 + q.val)).x2 := by
  after_reads_at
  refine (take_at _ rfl rfl rfl rfl _ _ _ (F.src (p.val * 128 + q.val)) ?_ (by norm_num)).trans ?_
  · pointwise []
    exact normal_at _ _ _ (by omega) (col_at H _ (by omega))
  · exact H.x2 _
theorem mid_69 (n : Fin 6144) :
    (StableHlo.after hostOps1 U (Proc.devRef .tc main_v69) : FVec Ideal S6144x1 .f32) (ix2 n 0) = (F.G n.val).x2 := by
  after_reads_at
  refine (take_at _ rfl rfl rfl rfl _ _ _ (F.src n.val) ?_ (by norm_num)).trans ?_
  · pointwise []
    exact normal_at _ _ _ (by omega) (col_at H _ (by omega))
  · exact H.x2 _
theorem mid_66 (p : Fin 48) (q : Fin 128) :
    (StableHlo.after hostOps1 U (Proc.devRef .tc main_v66) : FVec Ideal S48x128 .f32) (ix2 p q) = (F.G (p.val * 128 + q.val)).y2 := by
  after_reads_at
  refine (take_at _ rfl rfl rfl rfl _ _ _ (F.src (p.val * 128 + q.val)) ?_ (by norm_num)).trans ?_
  · pointwise []
    exact normal_at _ _ _ (by omega) (col_at H _ (by omega))
  · exact H.y2 _
theorem mid_70 (n : Fin 6144) :
    (StableHlo.after hostOps1 U (Proc.devRef .tc main_v70) : FVec Ideal S6144x1 .f32) (ix2 n 0) = (F.G n.val).y2 := by
  after_reads_at
  refine (take_at _ rfl rfl rfl rfl _ _ _ (F.src n.val) ?_ (by norm_num)).trans ?_
  · pointwise []
    exact normal_at _ _ _ (by omega) (col_at H _ (by omega))
  · exact H.y2 _
theorem mid_38 (n : Fin 6144) :
    (StableHlo.after hostOps1 U (Proc.devRef .tc main_v38) : FVec Ideal S6144 .f32) (ix1 n) = (F.G n.val).x1 := by
  after_reads_at
  refine (take_at _ rfl rfl rfl rfl _ _ _ (F.src n.val) ?_ (by norm_num)).trans ?_
  · pointwise []
    exact normal_at _ _ _ (by omega) (col_at H _ (by omega))
  · exact H.x1 _
theorem mid_46 (n : Fin 6144) :
    (StableHlo.after hostOps1 U (Proc.devRef .tc main_v46) : FVec Ideal S6144 .f32) (ix1 n) = (F.G n.val).y1 := by
  after_reads_at
  refine (take_at _ rfl rfl rfl rfl _ _ _ (F.src n.val) ?_ (by norm_num)).trans ?_
  · pointwise []
    exact normal_at _ _ _ (by omega) (col_at H _ (by omega))
  · exact H.y1 _
theorem mid_54 (n : Fin 6144) :
    (StableHlo.after hostOps1 U (Proc.devRef .tc main_v54) : FVec Ideal S6144 .f32) (ix1 n) = (F.G n.val).x2 := by
  after_reads_at
  refine (take_at _ rfl rfl rfl rfl _ _ _ (F.src n.val) ?_ (by norm_num)).trans ?_
  · pointwise []
    exact normal_at _ _ _ (by omega) (col_at H _ (by omega))
  · exact H.x2 _
theorem mid_62 (n : Fin 6144) :
    (StableHlo.after hostOps1 U (Proc.devRef .tc main_v62) : FVec Ideal S6144 .f32) (ix1 n) = (F.G n.val).y2 := by
  after_reads_at
  refine (take_at _ rfl rfl rfl rfl _ _ _ (F.src n.val) ?_ (by norm_num)).trans ?_
  · pointwise []
    exact normal_at _ _ _ (by omega) (col_at H _ (by omega))
  · exact H.y2 _

end Cert.Proof.Val
-- ==== Proof.Val.EndKernel.lean ====
/- The host operations after the suppression: the surviving scores, the last selection and the output boxes. -/
module
public import proofs.«01_k».proof.Proof.Val.TailKernel
import Idealize.ShloMosaic.Lib.StableHlo.ReadAt
import Idealize.ShloMosaic.Lib.Pipeline.ValueKit

@[expose] public section
set_option maxRecDepth 16384

noncomputable section

namespace Cert.Proof.Val

open Cert.KernelIdeal Cert.KernelIdeal.Gen Cert.Proof.KernelIdeal
open Idealize.ShloMosaic Idealize.ShloMosaic.TcCoe Idealize.SL

/-- What the suppression leaves: the keep plane, the ranked scores and the ranked boxes. -/
structure FromKeep (F : Field) (U : Valuation τ sig (Elt Ideal)) : Prop where
  keep : ∀ (p : Fin 48) (q : Fin 128), (U (Proc.devRef .tc main_v71) : FVec Ideal S48x128 .f32) (ix2 p q) = ind (Kept F.G (p.val * 128 + q.val))
  values : ∀ n : Fin 6000, (U (Proc.devRef .tc main_values) : FVec Ideal S6000 .f32) (ix1 n) = F.ranked.1 (ix1 n)
  x1 : ∀ n : Fin 6144, (U (Proc.devRef .tc main_v38) : FVec Ideal S6144 .f32) (ix1 n) = (F.G n.val).x1
  y1 : ∀ n : Fin 6144, (U (Proc.devRef .tc main_v46) : FVec Ideal S6144 .f32) (ix1 n) = (F.G n.val).y1
  x2 : ∀ n : Fin 6144, (U (Proc.devRef .tc main_v54) : FVec Ideal S6144 .f32) (ix1 n) = (F.G n.val).x2
  y2 : ∀ n : Fin 6144, (U (Proc.devRef .tc main_v62) : FVec Ideal S6144 .f32) (ix1 n) = (F.G n.val).y2

theorem half_lt_ind (p : Prop) : Ideal.ofBits FTy.f32 1056964608#32 < ind p ↔ p := by
  rw [show Ideal.ofBits FTy.f32 1056964608#32 = ((1 / 2 : ℝ) : EReal) from by
    simp [Ideal.ofBits, Ideal.ieee, -EReal.coe_mul]; norm_num]
  by_cases h : p
  · rw [ind_pos h]
    exact iff_of_true (by norm_cast; norm_num) h
  · rw [ind_neg h]
    exact iff_of_false (by rw [not_lt]; norm_cast; norm_num) h

/-- The valuation the last selection is made on. -/
abbrev lastIn (U : Valuation τ sig (Elt Ideal)) : Valuation τ sig (Elt Ideal) := StableHlo.after hostOps2_1 (StableHlo.after hostOps2 U)

variable {F : Field} {U : Valuation τ sig (Elt Ideal)} (H : FromKeep F U)
include H

omit H in
theorem masked_open (n : Fin 6000) :
    (lastIn U (Proc.devRef .tc main_v76) : FVec Ideal S6000 .f32) (ix1 n)
      = if Ideal.ofBits FTy.f32 1056964608#32 < (U (Proc.devRef .tc main_v71) : FVec Ideal S48x128 .f32) (ix2 ⟨n.val / 128, by omega⟩ ⟨n.val % 128, by omega⟩)
        then (U (Proc.devRef .tc main_values) : FVec Ideal S6000 .f32) (ix1 n) else Ideal.ofBits FTy.f32 4286578688#32 := by
  unfold lastIn
  after_reads_at
  all_goals try after_reads_at
  rfl

open Classical in
theorem masked_at (n : Fin 6000) :
    (lastIn U (Proc.devRef .tc main_v76) : FVec Ideal S6000 .f32) (ix1 n) = F.masked (ix1 n) := by
  have h : n.val / 128 * 128 + n.val % 128 = n.val := by omega
  rw [masked_open, H.keep, H.values, h]
  unfold Field.masked
  exact if_congr (half_lt_ind _) rfl rfl

theorem masked_eq : (lastIn U (Proc.devRef .tc main_v76) : FVec Ideal S6000 .f32) = F.masked := by
  funext i
  have e : i = ix1 (i 0) := by funext d; match d with | ⟨0, _⟩ => rfl
  rw [e]
  exact masked_at H _

theorem last_x1 (n : Fin 6144) : (lastIn U (Proc.devRef .tc main_v38) : FVec Ideal S6144 .f32) (ix1 n) = (F.G n.val).x1 := by
  rw [← H.x1]
  unfold lastIn
  after_reads_at

theorem last_y1 (n : Fin 6144) : (lastIn U (Proc.devRef .tc main_v46) : FVec Ideal S6144 .f32) (ix1 n) = (F.G n.val).y1 := by
  rw [← H.y1]
  unfold lastIn
  after_reads_at

theorem last_x2 (n : Fin 6144) : (lastIn U (Proc.devRef .tc main_v54) : FVec Ideal S6144 .f32) (ix1 n) = (F.G n.val).x2 := by
  rw [← H.x2]
  unfold lastIn
  after_reads_at

theorem last_y2 (n : Fin 6144) : (lastIn U (Proc.devRef .tc main_v62) : FVec Ideal S6144 .f32) (ix1 n) = (F.G n.val).y2 := by
  rw [← H.y2]
  unfold lastIn
  after_reads_at

omit H in
theorem last_idx (z : FVec Ideal S6000 .f32) (hz : z = F.masked) (p : Fin 300) :
    (Host.topK S300 0 (FloatOps.cmpfTotal CmpDirection.gt) z sliceFits_S6000_S300).2 (ix1 p) = BitVec.ofNat 32 (F.pos p).val := by
  subst hz
  exact F.chosen_pos p

theorem out_0 (p : Fin 300) :
    (StableHlo.after hostOps2_2 (lastIn U) (Proc.devRef .tc main_v109) : FVec Ideal S300x4 .f32) (ix2 p 0) = (F.G (F.pos p)).x1 := by
  generalize hW : lastIn U = W
  after_reads_at
  all_goals try after_reads_at
  refine (take_at _ rfl rfl rfl rfl _ _ _ ⟨(F.pos p).val, by omega⟩ ?_ (by norm_num)).trans ?_
  · pointwise []
    subst hW
    exact normal_at _ _ _ (by omega) (last_idx _ (masked_eq H) p)
  · subst hW
    exact last_x1 H _

theorem out_1 (p : Fin 300) :
    (StableHlo.after hostOps2_2 (lastIn U) (Proc.devRef .tc main_v109) : FVec Ideal S300x4 .f32) (ix2 p 1) = (F.G (F.pos p)).y1 := by
  generalize hW : lastIn U = W
  after_reads_at
  all_goals try after_reads_at
  refine (take_at _ rfl rfl rfl rfl _ _ _ ⟨(F.pos p).val, by omega⟩ ?_ (by norm_num)).trans ?_
  · pointwise []
    subst hW
    exact normal_at _ _ _ (by omega) (last_idx _ (masked_eq H) p)
  · subst hW
    exact last_y1 H _

theorem out_2 (p : Fin 300) :
    (StableHlo.after hostOps2_2 (lastIn U) (Proc.devRef .tc main_v109) : FVec Ideal S300x4 .f32) (ix2 p 2) = (F.G (F.pos p)).x2 := by
  generalize hW : lastIn U = W
  after_reads_at
  all_goals try after_reads_at
  refine (take_at _ rfl rfl rfl rfl _ _ _ ⟨(F.pos p).val, by omega⟩ ?_ (by norm_num)).trans ?_
  · pointwise []
    subst hW
    exact normal_at _ _ _ (by omega) (last_idx _ (masked_eq H) p)
  · subst hW
    exact last_x2 H _

theorem out_3 (p : Fin 300) :
    (StableHlo.after hostOps2_2 (lastIn U) (Proc.devRef .tc main_v109) : FVec Ideal S300x4 .f32) (ix2 p 3) = (F.G (F.pos p)).y2 := by
  generalize hW : lastIn U = W
  after_reads_at
  all_goals try after_reads_at
  refine (take_at _ rfl rfl rfl rfl _ _ _ ⟨(F.pos p).val, by omega⟩ ?_ (by norm_num)).trans ?_
  · pointwise []
    subst hW
    exact normal_at _ _ _ (by omega) (last_idx _ (masked_eq H) p)
  · subst hW
    exact last_y2 H _

/-- The output boxes are the selected boxes. -/
theorem out_eq (p : Fin 300) (q : Fin 4) :
    (StableHlo.after hostOps2_2 (lastIn U) (Proc.devRef .tc main_v109) : FVec Ideal S300x4 .f32) (ix2 p q) = F.out p q :=
  match q with
  | 0 => out_0 H p
  | 1 => out_1 H p
  | 2 => out_2 H p
  | 3 => out_3 H p

end Cert.Proof.Val
-- ==== Proof.Val.NmsKernel.lean ====
/- The kernel's flags, block after block, and so its result: one at every kept box, zero elsewhere. -/
module

public import proofs.«01_k».proof.Proof.Val.NmsCells

@[expose] public section

set_option maxRecDepth 16384

noncomputable section

namespace Cert.Proof.Val

open Cert.KernelIdeal Cert.KernelIdeal.Gen Cert.Proof.KernelIdeal
open Idealize.ShloMosaic Idealize.ShloMosaic.TcCoe

/-- A row put into the plane, read back. -/
theorem put_row (x : Vec Ideal S48x128 .f32) (off : Fin 2 → ℕ) (ρ : ℕ) (h0 : off 0 = ρ) (h1 : off 1 = 0) (w : Vec Ideal S1x128 .f32)
    (r : Fin 48) (j : Fin 128) :
    VecWindow.put (s := S48x128) x off S1x128.size w (ix2 r j) = if r.val = ρ then w (ix2 0 j) else x (ix2 r j) := by
  unfold VecWindow.put
  by_cases h : r.val = ρ
  · rw [if_pos h, dif_pos]
    · refine congrArg w ?_
      funext a
      match a with
      | ⟨0, _⟩ => apply Fin.ext; show r.val - off 0 = 0; omega
      | ⟨1, _⟩ => apply Fin.ext; show j.val - off 1 = j.val; omega
    · intro a
      match a with
      | ⟨0, _⟩ => show off 0 ≤ r.val ∧ r.val < off 0 + 1; omega
      | ⟨1, _⟩ => show off 1 ≤ j.val ∧ j.val < off 1 + 128; have := j.isLt; omega
  · rw [if_neg h, dif_neg]
    intro ha
    have : off 0 ≤ r.val ∧ r.val < off 0 + 1 := ha 0
    omega

/-- A row of the plane, read at a lane. -/
theorem rowOf_eq (x : Vec Ideal S48x128 .f32) (off : Fin 2 → ℕ) (inb) (r : Fin 48) (h0 : off 0 = r.val) (h1 : off 1 = 0) (j : Fin 128) :
    rowOf x off inb (ix2 0 j) = x (ix2 r j) := by
  refine congrArg x ?_
  funext a
  match a with
  | ⟨0, _⟩ => apply Fin.ext; show off 0 + 1 * 0 = r.val; omega
  | ⟨1, _⟩ => apply Fin.ext; show off 1 + 1 * j.val = j.val; omega

section Steps

variable {G : ℕ → Corners} {B : Boxes Ideal} (L : Laid G B)

include L in
/-- The flags after the first `n` later blocks. -/
theorem crossFold_eq (k : Fin k1_t1_loop.trips) (K : Fin 128 → Prop) (kept : Vec Ideal S1x128 .f32)
    (hk : ∀ x : Fin 128, kept (ix2 0 x) = ind (K x)) (sup : Vec Ideal S48x128 .f32) (P : Fin 48 → Fin 128 → Prop)
    (hs : ∀ r j, sup (ix2 r j) = ind (P r j)) (n : ℕ) (hn : n ≤ (k1_t3_loop k).trips) (r : Fin 48) (j : Fin 128) :
    crossFold B k kept sup n (ix2 r j)
      = ind (P r j ∨ (k.val < r.val ∧ r.val ≤ k.val + n ∧ ∃ x : Fin 128, K x ∧ Hit (G (k.val * 128 + x.val)) (G (r.val * 128 + j.val)))) := by
  induction n generalizing r j with
  | zero =>
    rw [crossFold, hs]
    exact ind_congr ⟨Or.inl, fun h => h.elim id fun h => absurd h.2.1 (by omega)⟩
  | succ n ih =>
    have hn' : n < (k1_t3_loop k).trips := hn
    rw [crossFold_succ B k kept sup ⟨n, hn'⟩]
    unfold crossStep
    rw [put_row _ _ (k.val + 1 + n) (off5_0 k ⟨n, hn'⟩) (off5_1 k ⟨n, hn'⟩)]
    by_cases h : r.val = k.val + 1 + n
    · rw [if_pos h, crossRow_eq L k K kept hk ⟨n, hn'⟩ _ j r h _ (ih hn'.le r j)]
      refine ind_congr ?_
      rw [← h]
      constructor
      · rintro ((h' | h') | h')
        · exact Or.inl h'
        · exact absurd h'.2.1 (by omega)
        · exact Or.inr ⟨by omega, by omega, h'⟩
      · rintro (h' | h')
        · exact Or.inl (Or.inl h')
        · exact Or.inr h'.2.2
    · rw [if_neg h, ih hn'.le]
      exact ind_congr (or_congr_right ⟨fun h' => ⟨h'.1, by omega, h'.2.2⟩, fun h' => ⟨h'.1, by omega, h'.2.2⟩⟩)

/-- Within a block: flag `j` after the first `n` boxes settled. -/
def flagAfter (D : ℕ → ℕ → Prop) (P : ℕ → Prop) : ℕ → ℕ → Prop
  | 0, j => P j
  | n + 1, j => flagAfter D P n j ∨ (D n j ∧ ¬ flagAfter D P n n)

theorem innerFold_eq (D : ℕ → ℕ → Prop) (m : Vec Ideal S128x128 .f32) (hm : ∀ i j : Fin 128, m (ix2 i j) = ind (D i.val j.val))
    (P : ℕ → Prop) (acc : Vec Ideal S1x128 .f32) (ha : ∀ x : Fin 128, acc (ix2 0 x) = ind (P x.val)) (n : ℕ) (hn : n ≤ k1_t2_loop.trips) (j : Fin 128) :
    innerFold lanes m acc n (ix2 0 j) = ind (flagAfter D P n j.val) := by
  induction n generalizing j with
  | zero => exact ha j
  | succ n ih =>
    have hn' : n < k1_t2_loop.trips := hn
    rw [innerFold_succ lanes m acc ⟨n, hn'⟩,
      innerStep_eq (fun i j => D i.val j.val) m hm ⟨n, hn'⟩ (fun x => flagAfter D P n x.val) _ (fun x => ih hn'.le x)]
    rfl

/-- With `D` only from earlier to later boxes, a box's flag is final once its turn comes. -/
theorem flagAfter_iff (D : ℕ → ℕ → Prop) (P : ℕ → Prop) (hD : ∀ i j, D i j → i < j) (K : ℕ → Prop)
    (hK : ∀ j, K j ↔ ¬ P j ∧ ∀ i, i < j → K i → ¬ D i j) (n j : ℕ) :
    flagAfter D P n j ↔ P j ∨ ∃ i, i < n ∧ K i ∧ D i j := by
  induction n generalizing j with
  | zero => exact ⟨Or.inl, fun h => h.elim id fun ⟨i, hi, _⟩ => absurd hi (Nat.not_lt_zero i)⟩
  | succ n ih =>
    rw [flagAfter, ih j, ih n]
    have hn : ¬ (P n ∨ ∃ i, i < n ∧ K i ∧ D i n) ↔ K n := by
      rw [hK n, not_or]
      refine and_congr_right fun _ => ⟨fun h i hi hk hd => h ⟨i, hi, hk, hd⟩, fun h ⟨i, hi, hk, hd⟩ => h i hi hk hd⟩
    rw [hn]
    constructor
    · rintro ((h | ⟨i, hi, h⟩) | ⟨hd, hk⟩)
      · exact Or.inl h
      · exact Or.inr ⟨i, hi.trans (Nat.lt_succ_self n), h⟩
      · exact Or.inr ⟨n, Nat.lt_succ_self n, hk, hd⟩
    · rintro (h | ⟨i, hi, hk, hd⟩)
      · exact Or.inl (Or.inl h)
      · rcases Nat.lt_succ_iff_lt_or_eq.1 hi with h | rfl
        · exact Or.inl (Or.inr ⟨i, h, hk, hd⟩)
        · exact Or.inr ⟨hd, hk⟩

/-- What the flag of box `n` says before block `k`: of an earlier block, that the box is not kept; of a later one, that it is no true box
or a kept box of an earlier block overlaps it. -/
def Flag (G : ℕ → Corners) (k r j : ℕ) : Prop :=
  (r < k ∧ ¬ Kept G (r * 128 + j)) ∨ (k ≤ r ∧ (6000 ≤ r * 128 + j ∨ ∃ i, i < k * 128 ∧ Kept G i ∧ Hit (G i) (G (r * 128 + j))))

include L in
/-- A block's own flags once settled. -/
theorem blockRow_eq (k : Fin k1_t1_loop.trips) (sup : Vec Ideal S48x128 .f32)
    (hs : ∀ (r : Fin 48) (j : Fin 128), sup (ix2 r j) = ind (Flag G k.val r.val j.val)) (j : Fin 128) :
    blockRow B lanes sqRows sqCols k sup (ix2 0 j) = ind (¬ Kept G (k.val * 128 + j.val)) := by
  unfold blockRow
  rw [innerFold_eq (fun i j => Hit (G (k.val * 128 + i)) (G (k.val * 128 + j)) ∧ i < j) _ (fun i j => diagSq_eq L k i j)
    (fun x => Flag G k.val k.val x) _ (fun x => by rw [rowOf_eq _ _ _ ⟨k.val, trips1_lt k⟩ (off2_0 k) (off2_1 k)]; exact hs _ x) _ le_rfl]
  refine ind_congr ?_
  have hF : ∀ x, Flag G k.val k.val x ↔ (6000 ≤ k.val * 128 + x ∨ ∃ i, i < k.val * 128 ∧ Kept G i ∧ Hit (G i) (G (k.val * 128 + x))) := fun x =>
    ⟨fun h => h.elim (fun h => absurd h.1 (lt_irrefl _)) fun h => h.2, fun h => Or.inr ⟨le_rfl, h⟩⟩
  have hK : ∀ x, Kept G (k.val * 128 + x) ↔ ¬ Flag G k.val k.val x ∧ ∀ i, i < x → Kept G (k.val * 128 + i) →
      ¬ (Hit (G (k.val * 128 + i)) (G (k.val * 128 + x)) ∧ i < x) := by
    intro x
    rw [hF, kept_iff, not_or, not_le, and_assoc]
    refine and_congr_right fun _ => ⟨fun h => ⟨fun ⟨i, hi, hk, hh⟩ => h i (by omega) hk hh, fun i hi hk hh => h _ (by omega) hk hh.1⟩, ?_⟩
    rintro ⟨h1, h2⟩ i hi hk hh
    rcases Nat.lt_or_ge i (k.val * 128) with hlt | hge
    · exact h1 ⟨i, hlt, hk, hh⟩
    · obtain ⟨y, rfl⟩ := Nat.exists_eq_add_of_le hge
      exact h2 y (by omega) hk ⟨hh, by omega⟩
  rw [flagAfter_iff _ _ (fun i j h => h.2) (fun x => Kept G (k.val * 128 + x)) hK, hK, trips2]
  have hj := j.isLt
  constructor
  · rintro (h | ⟨i, hi, hk, hh⟩) ⟨h1, h2⟩
    · exact h1 h
    · exact h2 i hh.2 hk hh
  · intro h
    by_contra hc
    rw [not_or] at hc
    exact h ⟨hc.1, fun i hi hk hh => hc.2 ⟨i, by omega, hk, hh⟩⟩

include L in
/-- One block. -/
theorem blockStep_eq (k : Fin k1_t1_loop.trips) (sup : Vec Ideal S48x128 .f32)
    (hs : ∀ (r : Fin 48) (j : Fin 128), sup (ix2 r j) = ind (Flag G k.val r.val j.val)) (r : Fin 48) (j : Fin 128) :
    blockStep B lanes sqRows sqCols k sup (ix2 r j) = ind (Flag G (k.val + 1) r.val j.val) := by
  unfold blockStep
  have hk : ∀ x : Fin 128, k1_pay24 (blockRow B lanes sqRows sqCols k sup) (ix2 0 x) = ind (Kept G (k.val * 128 + x.val)) := by
    intro x
    have : k1_pay24 (blockRow B lanes sqRows sqCols k sup) (ix2 0 x) = 1 - blockRow B lanes sqRows sqCols k sup (ix2 0 x) := by
      pointwise [k1_pay24]
    rw [this, blockRow_eq L k sup hs, one_sub_ind]
    exact ind_congr not_not
  have hp : ∀ (r : Fin 48) (j : Fin 128), VecWindow.put (s := S48x128) sup (k1_off2 k) S1x128.size (k1_pay23 (blockRow B lanes sqRows sqCols k sup)) (ix2 r j)
      = ind ((r.val = k.val ∧ ¬ Kept G (r.val * 128 + j.val)) ∨ (r.val ≠ k.val ∧ Flag G k.val r.val j.val)) := by
    intro r j
    rw [put_row _ _ k.val (off2_0 k) (off2_1 k)]
    by_cases h : r.val = k.val
    · rw [if_pos h]
      have : k1_pay23 (blockRow B lanes sqRows sqCols k sup) (ix2 0 j) = blockRow B lanes sqRows sqCols k sup (ix2 0 j) := by
        pointwise [k1_pay23]
      rw [this, blockRow_eq L k sup hs]
      refine ind_congr ⟨fun h' => Or.inl ⟨h, by rwa [h]⟩, fun h' => h'.elim (fun h' => by rw [← h]; exact h'.2) fun h' => absurd h h'.1⟩
    · rw [if_neg h, hs]
      exact ind_congr ⟨fun h' => Or.inr ⟨h, h'⟩, fun h' => h'.elim (fun h' => absurd h'.1 h) fun h' => h'.2⟩
  rw [crossFold_eq L k _ _ hk _ _ hp _ le_rfl, trips3]
  refine ind_congr ?_
  have hr := r.isLt
  have hkk := trips1_lt k
  unfold Flag
  constructor
  · rintro ((⟨h, h'⟩ | ⟨h, ⟨h1, h2⟩ | ⟨h1, h2 | ⟨i, hi, h2⟩⟩⟩) | ⟨h1, h2, x, hx, hh⟩)
    · exact Or.inl ⟨by omega, h'⟩
    · exact Or.inl ⟨by omega, h2⟩
    · exact Or.inr ⟨by omega, Or.inl h2⟩
    · exact Or.inr ⟨by omega, Or.inr ⟨i, by omega, h2⟩⟩
    · exact Or.inr ⟨by omega, Or.inr ⟨_, by have := x.isLt; omega, hx, hh⟩⟩
  · rintro (⟨h1, h2⟩ | ⟨h1, h2 | ⟨i, hi, hk', hh⟩⟩)
    · rcases Nat.lt_succ_iff_lt_or_eq.1 h1 with h | h
      · exact Or.inl (Or.inr ⟨by omega, Or.inl ⟨h, h2⟩⟩)
      · exact Or.inl (Or.inl ⟨h, h2⟩)
    · exact Or.inl (Or.inr ⟨by omega, Or.inr ⟨by omega, Or.inl h2⟩⟩)
    · rcases Nat.lt_or_ge i (k.val * 128) with hlt | hge
      · exact Or.inl (Or.inr ⟨by omega, Or.inr ⟨by omega, Or.inr ⟨i, hlt, hk', hh⟩⟩⟩)
      · obtain ⟨y, rfl⟩ := Nat.exists_eq_add_of_le hge
        exact Or.inr ⟨by omega, by omega, ⟨y, by omega⟩, hk', hh⟩

theorem pay2_eq (r : Fin 48) (j : Fin 128) : (k1_pay2 (F := Ideal)) (ix2 r j) = ind (6000 ≤ r.val * 128 + j.val) := by
  pointwise [k1_pay2]
  rw [show IntOp.cmpi CmpIPredicate.sge (IntOp.addi (IntOp.muli (BitVec.ofNat 32 r.val) 128#32) (BitVec.ofNat 32 j.val)) 6000#32
      = BitVec.ofBool (decide (6000 ≤ r.val * 128 + j.val)) from
    (by decide +kernel : ∀ (r : Fin 48) (j : Fin 128), IntOp.cmpi CmpIPredicate.sge (IntOp.addi (IntOp.muli (BitVec.ofNat 32 r.val) 128#32) (BitVec.ofNat 32 j.val)) 6000#32
      = BitVec.ofBool (decide (6000 ≤ r.val * 128 + j.val))) r j]
  exact sitofp_ofBool _

include L in
theorem blockFold_eq (n : ℕ) (hn : n ≤ k1_t1_loop.trips) (r : Fin 48) (j : Fin 128) :
    blockFold B lanes sqRows sqCols (k1_pay2 (F := Ideal)) n (ix2 r j) = ind (Flag G n r.val j.val) := by
  induction n generalizing r j with
  | zero =>
    rw [blockFold, pay2_eq]
    unfold Flag
    exact ind_congr ⟨fun h => Or.inr ⟨Nat.zero_le _, Or.inl h⟩, fun h => h.elim (fun h => absurd h.1 (Nat.not_lt_zero _))
      fun h => h.2.elim id fun ⟨i, hi, _⟩ => absurd hi (by omega)⟩
  | succ n ih =>
    have hn' : n < k1_t1_loop.trips := hn
    rw [blockFold_succ B lanes sqRows sqCols _ ⟨n, hn'⟩]
    exact blockStep_eq L ⟨n, hn'⟩ _ (fun r j => ih hn'.le r j) r j

include L in
/-- The kernel's result: one at every kept box. -/
theorem keepOut_eq (r : Fin 48) (j : Fin 128) : keepOut B (ix2 r j) = ind (Kept G (r.val * 128 + j.val)) := by
  have : keepOut B (ix2 r j) = 1 - blockFold B lanes sqRows sqCols (k1_pay2 (F := Ideal)) k1_t1_loop.trips (ix2 r j) := by
    pointwise [keepOut, k1_pay5]
  rw [this, blockFold_eq L _ le_rfl, one_sub_ind, trips1]
  unfold Flag
  have hr := r.isLt
  refine ind_congr ⟨fun h => ?_, fun h h' => h'.elim (fun h' => h'.2 h) fun h' => absurd h'.1 (by omega)⟩
  by_contra hc
  exact h (Or.inl ⟨hr, hc⟩)

end Steps

/-- The planes given to the region hold the boxes, if their corners do. -/
theorem laid_boxesIn (G : ℕ → Corners) (x0 x1 x2 x3 : Vec Ideal S48x128 .f32) (x4 x5 x6 x7 : Vec Ideal S6144x1 .f32)
    (h0 : ∀ (p : Fin 48) (q : Fin 128), x0 (ix2 p q) = (G (p.val * 128 + q.val)).x1)
    (h1 : ∀ (p : Fin 48) (q : Fin 128), x1 (ix2 p q) = (G (p.val * 128 + q.val)).y1)
    (h2 : ∀ (p : Fin 48) (q : Fin 128), x2 (ix2 p q) = (G (p.val * 128 + q.val)).x2)
    (h3 : ∀ (p : Fin 48) (q : Fin 128), x3 (ix2 p q) = (G (p.val * 128 + q.val)).y2)
    (h4 : ∀ (p : Fin 6144) (q : Fin 1), x4 (ix2 p q) = (G p.val).x1)
    (h5 : ∀ (p : Fin 6144) (q : Fin 1), x5 (ix2 p q) = (G p.val).y1)
    (h6 : ∀ (p : Fin 6144) (q : Fin 1), x6 (ix2 p q) = (G p.val).x2)
    (h7 : ∀ (p : Fin 6144) (q : Fin 1), x7 (ix2 p q) = (G p.val).y2) : Laid G (boxesIn x0 x1 x2 x3 x4 x5 x6 x7) where
  r0 := h0
  r1 := h1
  r2 := h2
  r3 := h3
  c0 := h4
  c1 := h5
  c2 := h6
  c3 := h7
  ar p q := by
    show k1_pay25 x2 x0 x3 x1 (ix2 p q) = _
    pointwise [k1_pay25]
    rw [h0, h1, h2, h3]; rfl
  ac p q := by
    show k1_pay1 (k1_pay26 x6 x4 x7 x5) (ix2 p q) = _
    pointwise [k1_pay1, k1_pay26]
    rw [h4, h5, h6, h7]; rfl

end Cert.Proof.Val
-- ==== Proof.Val.Keep.lean ====
/- The suppression region's answer, read off its array. -/
module
public import proofs.«01_k».proof.Proof.KI.Run
public import proofs.«01_k».proof.Proof.Val.NmsKernel
import Idealize.ShloMosaic.Lib.Pipeline.ValueKit

@[expose] public section
set_option maxRecDepth 16384

noncomputable section

namespace Cert.Proof.Val

open Cert.KernelIdeal Cert.KernelIdeal.Gen Cert.Proof.KernelIdeal
open Idealize.ShloMosaic Idealize.ShloMosaic.TcCoe

variable (V : (c : Dev nD) → (b : Ref sig .tc) → Buf (Elt Ideal) ((c.tc : Thread nD τ).loc b)) (c : Dev nD) (t : Fin cfg1.N)

theorem place_0 : ∀ t : Fin cfg1.N, win1_0.index t = ![0, 0] := (by decide +kernel : ∀ t : Fin grid1.N, _)
theorem place_1 : ∀ t : Fin cfg1.N, win1_1.index t = ![0, 0] := (by decide +kernel : ∀ t : Fin grid1.N, _)
theorem place_2 : ∀ t : Fin cfg1.N, win1_2.index t = ![0, 0] := (by decide +kernel : ∀ t : Fin grid1.N, _)
theorem place_3 : ∀ t : Fin cfg1.N, win1_3.index t = ![0, 0] := (by decide +kernel : ∀ t : Fin grid1.N, _)
theorem place_4 : ∀ t : Fin cfg1.N, win1_4.index t = ![0, 0] := (by decide +kernel : ∀ t : Fin grid1.N, _)
theorem place_5 : ∀ t : Fin cfg1.N, win1_5.index t = ![0, 0] := (by decide +kernel : ∀ t : Fin grid1.N, _)
theorem place_6 : ∀ t : Fin cfg1.N, win1_6.index t = ![0, 0] := (by decide +kernel : ∀ t : Fin grid1.N, _)
theorem place_7 : ∀ t : Fin cfg1.N, win1_7.index t = ![0, 0] := (by decide +kernel : ∀ t : Fin grid1.N, _)
theorem place_8 : ∀ t : Fin cfg1.N, win1_8.index t = ![0, 0] := (by decide +kernel : ∀ t : Fin grid1.N, _)
theorem row_0 (p : Fin 48) (q : Fin 128) :
    (iblk1 V c 0 t : FVec Ideal S48x128 .f32) (ix2 p q) = (V c main_v63 : FVec Ideal S48x128 .f32) (ix2 p q) := by
  blk_ext [iblk1, place_0 t]
theorem row_1 (p : Fin 48) (q : Fin 128) :
    (iblk1 V c 1 t : FVec Ideal S48x128 .f32) (ix2 p q) = (V c main_v64 : FVec Ideal S48x128 .f32) (ix2 p q) := by
  blk_ext [iblk1, place_1 t]
theorem row_2 (p : Fin 48) (q : Fin 128) :
    (iblk1 V c 2 t : FVec Ideal S48x128 .f32) (ix2 p q) = (V c main_v65 : FVec Ideal S48x128 .f32) (ix2 p q) := by
  blk_ext [iblk1, place_2 t]
theorem row_3 (p : Fin 48) (q : Fin 128) :
    (iblk1 V c 3 t : FVec Ideal S48x128 .f32) (ix2 p q) = (V c main_v66 : FVec Ideal S48x128 .f32) (ix2 p q) := by
  blk_ext [iblk1, place_3 t]
theorem col_0 (p : Fin 6144) (q : Fin 1) :
    (iblk1 V c 4 t : FVec Ideal S6144x1 .f32) (ix2 p q) = (V c main_v67 : FVec Ideal S6144x1 .f32) (ix2 p 0) := by
  obtain rfl : q = 0 := Subsingleton.elim _ _
  blk_ext [iblk1, place_4 t]
theorem col_1 (p : Fin 6144) (q : Fin 1) :
    (iblk1 V c 5 t : FVec Ideal S6144x1 .f32) (ix2 p q) = (V c main_v68 : FVec Ideal S6144x1 .f32) (ix2 p 0) := by
  obtain rfl : q = 0 := Subsingleton.elim _ _
  blk_ext [iblk1, place_5 t]
theorem col_2 (p : Fin 6144) (q : Fin 1) :
    (iblk1 V c 6 t : FVec Ideal S6144x1 .f32) (ix2 p q) = (V c main_v69 : FVec Ideal S6144x1 .f32) (ix2 p 0) := by
  obtain rfl : q = 0 := Subsingleton.elim _ _
  blk_ext [iblk1, place_6 t]
theorem col_3 (p : Fin 6144) (q : Fin 1) :
    (iblk1 V c 7 t : FVec Ideal S6144x1 .f32) (ix2 p q) = (V c main_v70 : FVec Ideal S6144x1 .f32) (ix2 p 0) := by
  obtain rfl : q = 0 := Subsingleton.elim _ _
  blk_ext [iblk1, place_7 t]

/-- The region is entered with the boxes laid out in rows and in columns. -/
structure Lined (G : ℕ → Corners) : Prop where
  r0 : ∀ (p : Fin 48) (q : Fin 128), (V c main_v63 : FVec Ideal S48x128 .f32) (ix2 p q) = (G (p.val * 128 + q.val)).x1
  r1 : ∀ (p : Fin 48) (q : Fin 128), (V c main_v64 : FVec Ideal S48x128 .f32) (ix2 p q) = (G (p.val * 128 + q.val)).y1
  r2 : ∀ (p : Fin 48) (q : Fin 128), (V c main_v65 : FVec Ideal S48x128 .f32) (ix2 p q) = (G (p.val * 128 + q.val)).x2
  r3 : ∀ (p : Fin 48) (q : Fin 128), (V c main_v66 : FVec Ideal S48x128 .f32) (ix2 p q) = (G (p.val * 128 + q.val)).y2
  c0 : ∀ n : Fin 6144, (V c main_v67 : FVec Ideal S6144x1 .f32) (ix2 n 0) = (G n.val).x1
  c1 : ∀ n : Fin 6144, (V c main_v68 : FVec Ideal S6144x1 .f32) (ix2 n 0) = (G n.val).y1
  c2 : ∀ n : Fin 6144, (V c main_v69 : FVec Ideal S6144x1 .f32) (ix2 n 0) = (G n.val).x2
  c3 : ∀ n : Fin 6144, (V c main_v70 : FVec Ideal S6144x1 .f32) (ix2 n 0) = (G n.val).y2

variable {V} {c} {G : ℕ → Corners} (H : Lined V c G)
include H

theorem out_keep (p : Fin 48) (q : Fin 128) : (out1_8 V c t : FVec Ideal S48x128 .f32) (ix2 p q) = ind (Kept G (p.val * 128 + q.val)) := by
  unfold out1_8
  exact keepOut_eq (laid_boxesIn G _ _ _ _ _ _ _ _
    (fun p q => (row_0 V c t p q).trans (H.r0 p q)) (fun p q => (row_1 V c t p q).trans (H.r1 p q))
    (fun p q => (row_2 V c t p q).trans (H.r2 p q)) (fun p q => (row_3 V c t p q).trans (H.r3 p q))
    (fun p q => (col_0 V c t p q).trans (H.c0 p)) (fun p q => (col_1 V c t p q).trans (H.c1 p))
    (fun p q => (col_2 V c t p q).trans (H.c2 p)) (fun p q => (col_3 V c t p q).trans (H.c3 p))) p q

/-- The keep plane the region leaves. -/
theorem arr_keep : ((dat1 V c).arrAt 8 cfg1.N : FVec Ideal S48x128 .f32)
    = fun i : S48x128.Idx => ind (Kept G ((i 0).val * 128 + (i 1).val)) := by
  refine (dat1 V c).arrAt_eq_of_covers 8 _ (by decide +kernel) fun t hf y => ?_
  blk_simp
  rw [after1_8]
  obtain ⟨p, a, rfl⟩ : ∃ (p : Fin 48) (a : Fin 128), y = ix2 p a := ⟨y 0, y 1, by blk_ext []⟩
  have e0 : win1_8.index t 0 = 0 := by rw [place_8]; rfl
  have e1 : win1_8.index t 1 = 0 := by rw [place_8]; rfl
  rw [e0, e1]
  exact (out_keep t H p a).trans (congrArg (fun z => ind (Kept G z)) (by simp))

end Cert.Proof.Val
-- ==== Proof.Val.KernelValue.lean ====
/- The kernel's result: the output boxes of the candidates its arguments give. -/
module
public import proofs.«01_k».proof.Proof.Val.FieldOf
public import proofs.«01_k».proof.Proof.Val.EndKernel
public import proofs.«01_k».proof.Proof.Val.Keep

@[expose] public section
set_option maxRecDepth 16384

noncomputable section

namespace Cert.Proof.Val

open Cert.KernelIdeal Cert.KernelIdeal.Gen Cert.Proof.KernelIdeal
open Idealize.ShloMosaic Idealize.ShloMosaic.TcCoe Idealize.SL

/-- The tables as the kernel prints them. -/
def tw (n : Fin 36864) : EReal := Ideal.ofBits .f32 (lit0 n)
def th (n : Fin 36864) : EReal := Ideal.ofBits .f32 (lit1 n)
def tx (n : Fin 36864) : EReal := Ideal.ofBits .f32 (lit2 n)
def ty (n : Fin 36864) : EReal := Ideal.ofBits .f32 (lit3 n)

theorem place_flat (n : Fin 36864) : S4096x9.rowMajor (ix2 ⟨n.val / 9, by omega⟩ ⟨n.val % 9, by omega⟩) = n := by
  apply Fin.ext
  rw [rowMajor_val2 _ 9 rfl]
  show n.val / 9 * 9 + n.val % 9 = n.val
  omega

variable (U : Valuation τ sig (Elt Ideal)) (n : Fin 36864)

theorem tab_w : (StableHlo.after hostOps0 U (Proc.devRef .tc main_cst) : FVec Ideal S4096x9 .f32) (ix2 ⟨n.val / 9, by omega⟩ ⟨n.val % 9, by omega⟩) = tw n := by
  after_reads_at
  exact congrArg (fun z => Ideal.ofBits .f32 (lit0 z)) (place_flat n)
theorem tab_h : (StableHlo.after hostOps0 U (Proc.devRef .tc main_cst_0) : FVec Ideal S4096x9 .f32) (ix2 ⟨n.val / 9, by omega⟩ ⟨n.val % 9, by omega⟩) = th n := by
  after_reads_at
  exact congrArg (fun z => Ideal.ofBits .f32 (lit1 z)) (place_flat n)
theorem tab_x : (StableHlo.after hostOps0 U (Proc.devRef .tc main_cst_1) : FVec Ideal S4096x9 .f32) (ix2 ⟨n.val / 9, by omega⟩ ⟨n.val % 9, by omega⟩) = tx n := by
  after_reads_at
  exact congrArg (fun z => Ideal.ofBits .f32 (lit2 z)) (place_flat n)
theorem tab_y : (StableHlo.after hostOps0 U (Proc.devRef .tc main_cst_2) : FVec Ideal S4096x9 .f32) (ix2 ⟨n.val / 9, by omega⟩ ⟨n.val % 9, by omega⟩) = ty n := by
  after_reads_at
  exact congrArg (fun z => Ideal.ofBits .f32 (lit3 z)) (place_flat n)

variable (m : (ℓ : Loc nD τ sig) → Buf (Elt Ideal) ℓ) (ρ : Dev nD → PrngReg) (c : Dev nD)

/-- The candidates of the arguments at launch. -/
abbrev fieldK : Field := fieldOf (netK (W0 m ρ c)) tw th tx ty

theorem flat_row (n : Nat) : n / 9 / 64 = n / 576 := by omega

section Pure
variable (x : FVec Ideal S4096x9 .f32) (N : Net) (aw ah ax ay : Fin 36864 → EReal)

theorem s_at (h : x = fun i : S4096x9.Idx => prob (N.s0 ((i 0).val / 64) ((i 0).val % 64) (i 1)) (N.s1 ((i 0).val / 64) ((i 0).val % 64) (i 1))) (n : Fin 36864) :
    x (ix2 ⟨n.val / 9, by omega⟩ ⟨n.val % 9, by omega⟩) = (fieldOf N aw ah ax ay).S (ix1 n) := by
  subst h
  show prob (N.s0 (n.val / 9 / 64) (n.val / 9 % 64) ⟨n.val % 9, by omega⟩) (N.s1 (n.val / 9 / 64) (n.val / 9 % 64) ⟨n.val % 9, by omega⟩) = _
  rw [flat_row]
  rfl
theorem x1_at (z w : FVec Ideal S4096x9 .f32) (hz : ∀ n : Fin 36864, z (ix2 ⟨n.val / 9, by omega⟩ ⟨n.val % 9, by omega⟩) = aw n)
    (hw : ∀ n : Fin 36864, w (ix2 ⟨n.val / 9, by omega⟩ ⟨n.val % 9, by omega⟩) = ax n)
    (h : x = fun i : S4096x9.Idx => clip N.hi (lowRaw (N.d0 ((i 0).val / 64) ((i 0).val % 64) (i 1)) (N.d2 ((i 0).val / 64) ((i 0).val % 64) (i 1)) (z i) (w i))) (n : Fin 36864) :
    x (ix2 ⟨n.val / 9, by omega⟩ ⟨n.val % 9, by omega⟩) = (fieldOf N aw ah ax ay).X1 (ix1 n) := by
  subst h
  show clip N.hi (lowRaw (N.d0 (n.val / 9 / 64) (n.val / 9 % 64) ⟨n.val % 9, by omega⟩) (N.d2 (n.val / 9 / 64) (n.val / 9 % 64) ⟨n.val % 9, by omega⟩)
    (z (ix2 ⟨n.val / 9, by omega⟩ ⟨n.val % 9, by omega⟩)) (w (ix2 ⟨n.val / 9, by omega⟩ ⟨n.val % 9, by omega⟩))) = _
  rw [flat_row, hz, hw]
  rfl
theorem y1_at (z w : FVec Ideal S4096x9 .f32) (hz : ∀ n : Fin 36864, z (ix2 ⟨n.val / 9, by omega⟩ ⟨n.val % 9, by omega⟩) = ah n)
    (hw : ∀ n : Fin 36864, w (ix2 ⟨n.val / 9, by omega⟩ ⟨n.val % 9, by omega⟩) = ay n)
    (h : x = fun i : S4096x9.Idx => clip N.hi (lowRaw (N.d1 ((i 0).val / 64) ((i 0).val % 64) (i 1)) (N.d3 ((i 0).val / 64) ((i 0).val % 64) (i 1)) (z i) (w i))) (n : Fin 36864) :
    x (ix2 ⟨n.val / 9, by omega⟩ ⟨n.val % 9, by omega⟩) = (fieldOf N aw ah ax ay).Y1 (ix1 n) := by
  subst h
  show clip N.hi (lowRaw (N.d1 (n.val / 9 / 64) (n.val / 9 % 64) ⟨n.val % 9, by omega⟩) (N.d3 (n.val / 9 / 64) (n.val / 9 % 64) ⟨n.val % 9, by omega⟩)
    (z (ix2 ⟨n.val / 9, by omega⟩ ⟨n.val % 9, by omega⟩)) (w (ix2 ⟨n.val / 9, by omega⟩ ⟨n.val % 9, by omega⟩))) = _
  rw [flat_row, hz, hw]
  rfl
theorem x2_at (z w : FVec Ideal S4096x9 .f32) (hz : ∀ n : Fin 36864, z (ix2 ⟨n.val / 9, by omega⟩ ⟨n.val % 9, by omega⟩) = aw n)
    (hw : ∀ n : Fin 36864, w (ix2 ⟨n.val / 9, by omega⟩ ⟨n.val % 9, by omega⟩) = ax n)
    (h : x = fun i : S4096x9.Idx => clip N.hi (highRaw (N.d0 ((i 0).val / 64) ((i 0).val % 64) (i 1)) (N.d2 ((i 0).val / 64) ((i 0).val % 64) (i 1)) (z i) (w i))) (n : Fin 36864) :
    x (ix2 ⟨n.val / 9, by omega⟩ ⟨n.val % 9, by omega⟩) = (fieldOf N aw ah ax ay).X2 (ix1 n) := by
  subst h
  show clip N.hi (highRaw (N.d0 (n.val / 9 / 64) (n.val / 9 % 64) ⟨n.val % 9, by omega⟩) (N.d2 (n.val / 9 / 64) (n.val / 9 % 64) ⟨n.val % 9, by omega⟩)
    (z (ix2 ⟨n.val / 9, by omega⟩ ⟨n.val % 9, by omega⟩)) (w (ix2 ⟨n.val / 9, by omega⟩ ⟨n.val % 9, by omega⟩))) = _
  rw [flat_row, hz, hw]
  rfl
theorem y2_at (z w : FVec Ideal S4096x9 .f32) (hz : ∀ n : Fin 36864, z (ix2 ⟨n.val / 9, by omega⟩ ⟨n.val % 9, by omega⟩) = ah n)
    (hw : ∀ n : Fin 36864, w (ix2 ⟨n.val / 9, by omega⟩ ⟨n.val % 9, by omega⟩) = ay n)
    (h : x = fun i : S4096x9.Idx => clip N.hi (highRaw (N.d1 ((i 0).val / 64) ((i 0).val % 64) (i 1)) (N.d3 ((i 0).val / 64) ((i 0).val % 64) (i 1)) (z i) (w i))) (n : Fin 36864) :
    x (ix2 ⟨n.val / 9, by omega⟩ ⟨n.val % 9, by omega⟩) = (fieldOf N aw ah ax ay).Y2 (ix1 n) := by
  subst h
  show clip N.hi (highRaw (N.d1 (n.val / 9 / 64) (n.val / 9 % 64) ⟨n.val % 9, by omega⟩) (N.d3 (n.val / 9 / 64) (n.val / 9 % 64) ⟨n.val % 9, by omega⟩)
    (z (ix2 ⟨n.val / 9, by omega⟩ ⟨n.val % 9, by omega⟩)) (w (ix2 ⟨n.val / 9, by omega⟩ ⟨n.val % 9, by omega⟩))) = _
  rw [flat_row, hz, hw]
  rfl
end Pure

theorem dense_score : (W2 m ρ c (Proc.devRef .tc main_v27_0)) = (dat0 (V1 m ρ) c).arrAt 12 cfg0.N := W2_arr m ρ c 12
theorem dense_x1 : (W2 m ρ c (Proc.devRef .tc main_v27_1)) = (dat0 (V1 m ρ) c).arrAt 13 cfg0.N := W2_arr m ρ c 13
theorem dense_y1 : (W2 m ρ c (Proc.devRef .tc main_v27_2)) = (dat0 (V1 m ρ) c).arrAt 14 cfg0.N := W2_arr m ρ c 14
theorem dense_x2 : (W2 m ρ c (Proc.devRef .tc main_v27_3)) = (dat0 (V1 m ρ) c).arrAt 15 cfg0.N := W2_arr m ρ c 15
theorem dense_y2 : (W2 m ρ c (Proc.devRef .tc main_v27_4)) = (dat0 (V1 m ρ) c).arrAt 16 cfg0.N := W2_arr m ρ c 16
theorem arraysAt : Arrays (netK (W0 m ρ c)) (V1 m ρ) c where
  x := in_x (W0 m ρ c)
  w := in_w (W0 m ρ c)
  b := in_b (W0 m ρ c)
  hi := in_hi (W0 m ρ c)
  w_s0 := in_w_s0 (W0 m ρ c)
  w_s1 := in_w_s1 (W0 m ρ c)
  w_d0 := in_w_d0 (W0 m ρ c)
  w_d1 := in_w_d1 (W0 m ρ c)
  w_d2 := in_w_d2 (W0 m ρ c)
  w_d3 := in_w_d3 (W0 m ρ c)
  b_s0 := in_b_s0 (W0 m ρ c)
  b_s1 := in_b_s1 (W0 m ρ c)
  b_d0 := in_b_d0 (W0 m ρ c)
  b_d1 := in_b_d1 (W0 m ρ c)
  b_d2 := in_b_d2 (W0 m ρ c)
  b_d3 := in_b_d3 (W0 m ρ c)

theorem fromDense : FromDense (fieldK m ρ c) (W2 m ρ c) where
  s := s_at _ _ _ _ _ _ ((dense_score m ρ c).trans (arr_score (arraysAt m ρ c)))
  x1 := x1_at _ _ _ _ _ _ _ _ (tab_w (W0 m ρ c)) (tab_x (W0 m ρ c)) ((dense_x1 m ρ c).trans (arr_x1 (arraysAt m ρ c)))
  y1 := y1_at _ _ _ _ _ _ _ _ (tab_h (W0 m ρ c)) (tab_y (W0 m ρ c)) ((dense_y1 m ρ c).trans (arr_y1 (arraysAt m ρ c)))
  x2 := x2_at _ _ _ _ _ _ _ _ (tab_w (W0 m ρ c)) (tab_x (W0 m ρ c)) ((dense_x2 m ρ c).trans (arr_x2 (arraysAt m ρ c)))
  y2 := y2_at _ _ _ _ _ _ _ _ (tab_h (W0 m ρ c)) (tab_y (W0 m ρ c)) ((dense_y2 m ρ c).trans (arr_y2 (arraysAt m ρ c)))

theorem lined : Lined (V3 m ρ) c (fieldK m ρ c).G where
  r0 := mid_63 (fromDense m ρ c)
  r1 := mid_64 (fromDense m ρ c)
  r2 := mid_65 (fromDense m ρ c)
  r3 := mid_66 (fromDense m ρ c)
  c0 := mid_67 (fromDense m ρ c)
  c1 := mid_68 (fromDense m ρ c)
  c2 := mid_69 (fromDense m ρ c)
  c3 := mid_70 (fromDense m ρ c)

theorem fromKeep : FromKeep (fieldK m ρ c) (W4 m ρ c) := by
  have D := fromDense m ρ c
  constructor
  · intro p q
    rw [show (W4 m ρ c (Proc.devRef .tc main_v71) : FVec Ideal S48x128 .f32) = _ from (W4_arr m ρ c 8).trans (arr_keep (lined m ρ c))]
    rfl
  · intro n
    rw [W4_of_ne m ρ c main_values (by decide +kernel)]
    exact mid_values D n
  · intro n
    rw [W4_of_ne m ρ c main_v38 (by decide +kernel)]
    exact mid_38 D n
  · intro n
    rw [W4_of_ne m ρ c main_v46 (by decide +kernel)]
    exact mid_46 D n
  · intro n
    rw [W4_of_ne m ρ c main_v54 (by decide +kernel)]
    exact mid_54 D n
  · intro n
    rw [W4_of_ne m ρ c main_v62 (by decide +kernel)]
    exact mid_62 D n

/-- The kernel's result at an index. -/
theorem kernel_value (p : Fin 300) (q : Fin 4) :
    (W7 m ρ c (Proc.devRef .tc main_v109) : FVec Ideal S300x4 .f32) (ix2 p q) = (fieldK m ρ c).out p q :=
  out_eq (fromKeep m ρ c) p q

end Cert.Proof.Val
-- ==== Proof.Val.DenseRef.lean ====
/- The reference's dense stage read at an index: the hidden layer, the scores and the decoded boxes. -/
module
public import proofs.«01_k».proof.Proof.Val.DenseCells
public import proofs.«01_k».proof.Proof.RI.Frame
public import Idealize.ShloMosaic.Lib.StableHlo.ReadAt

@[expose] public section
set_option maxRecDepth 16384

noncomputable section

namespace Cert.Proof.Val.Ref

open Cert.ReferenceIdeal Cert.ReferenceIdeal.Gen Cert.ReferenceIdeal.Value Cert.Proof.Val
open Idealize.ShloMosaic Idealize.ShloMosaic.TcCoe Idealize.ShloMosaic.StableHlo

theorem negInf : Ideal.ofBits FTy.f32 0xFF800000#32 = (⊥ : EReal) := by
  unfold Ideal.ofBits Ideal.ieee
  simp
theorem half_zero : (FloatOps.sitofp FTy.f32 0#32 : Ideal FTy.f32) = (0 : EReal) := by
  show (((0#32 : BitVec 32).toInt : ℝ) : EReal) = 0
  simp
/-- The net of the arguments a valuation holds. -/
def netV (V : Valuation τ sig (Elt Ideal)) : Net :=
  netOf (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))

theorem padded_eq (V : Valuation τ sig (Elt Ideal)) (y x : Fin 66) (k : Fin 512) :
    (after hostOps0_1 (after hostOps0 V) (Proc.devRef .tc main_v1) : FVec Ideal S66x66x512 .f32) (ix3 y x k) = (netV V).P y.val x.val k := by
  after_reads_at
  unfold Net.P netV netOf
  by_cases h : (1 ≤ y.val ∧ y.val - 1 < 64) ∧ 1 ≤ x.val ∧ x.val - 1 < 64
  · rw [dif_pos h, dif_pos (⟨⟨h.1.1, by omega⟩, h.2.1, by omega⟩ : (1 ≤ y.val ∧ y.val < 65) ∧ 1 ≤ x.val ∧ x.val < 65)]
  · rw [dif_neg h, dif_neg (fun h' : (1 ≤ y.val ∧ y.val < 65) ∧ 1 ≤ x.val ∧ x.val < 65 => h ⟨⟨h'.1.1, by omega⟩, h'.2.1, by omega⟩)]
    exact half_zero

theorem hidden_eq (U : Valuation τ sig (Elt Ideal)) (N : Net)
    (h1 : ∀ (y x : Fin 66) (k : Fin 512), (U (Proc.devRef .tc main_v1) : FVec Ideal S66x66x512 .f32) (ix3 y x k) = N.P y.val x.val k)
    (h2 : ∀ i j k o, (U (Proc.devRef .tc main_arg2) : FVec Ideal S3x3x512x512 .f32) (ix4 i j k o) = N.W i j k o)
    (h3 : ∀ o, (U (Proc.devRef .tc main_arg3) : FVec Ideal S512 .f32) (ix1 o) = N.b o) (y x : Fin 64) (o : Fin 512) :
    (after hostOps0_3 (after hostOps0_2 U) (Proc.devRef .tc main_v51) : FVec Ideal S64x64x512 .f32) (ix3 y x o) = N.hid y.val x.val o := by
  after_reads_at
  simp only [h1, h2, h3]
  simp only [Net.hid, Net.conv, Net.tap, Nat.add_comm 1, Nat.add_comm 2]
  rfl

/-- The length of an anchor's side from its two corners, and its centre from its low corner and its length. -/
def sideOf (a b : EReal) : EReal := a - b + 1
def midOf (b w : EReal) : EReal := b + hf * w

/-- The valuation once the four coordinates are clipped. -/
def clipped (U : Valuation τ sig (Elt Ideal)) : Valuation τ sig (Elt Ideal) :=
  after hostOps0_11 (after hostOps0_10 (after hostOps0_9 (after hostOps0_8 (after hostOps0_7 (after hostOps0_6 (after hostOps0_5 (after hostOps0_4 U)))))))

section Heads
variable (U : Valuation τ sig (Elt Ideal)) (N : Net)
    (h51 : ∀ (y x : Fin 64) (o : Fin 512), (U (Proc.devRef .tc main_v51) : FVec Ideal S64x64x512 .f32) (ix3 y x o) = N.hid y.val x.val o)
    (h4 : ∀ k q, (U (Proc.devRef .tc main_arg4) : FVec Ideal S1x1x512x18 .f32) (ix4 0 0 k q) = N.Ws k q)
    (h5 : ∀ q, (U (Proc.devRef .tc main_arg5) : FVec Ideal S18 .f32) (ix1 q) = N.bs q)
    (h6 : ∀ k q, (U (Proc.devRef .tc main_arg6) : FVec Ideal S1x1x512x36 .f32) (ix4 0 0 k q) = N.Wb k q)
    (h7 : ∀ q, (U (Proc.devRef .tc main_arg7) : FVec Ideal S36 .f32) (ix1 q) = N.bb q)
    (h8 : (((((U (Proc.devRef .tc main_arg1) : IVec S_ 32) ix0).toInt : ℝ) : EReal) - 1) = N.hi)
include h51

include h4 h5 in
theorem scores_eq (n : Fin 36864) : (clipped U (Proc.devRef .tc main_v77) : FVec Ideal S36864 .f32) (ix1 n)
    = prob (N.s0 (n.val / 576) (n.val / 9 % 64) ⟨n.val % 9, by omega⟩) (N.s1 (n.val / 576) (n.val / 9 % 64) ⟨n.val % 9, by omega⟩) := by
  unfold clipped
  after_reads_at
  simp only [h51, h4, h5]
  simp only [fold_two, Fin.sum_univ_two, negInf, max_bot_left, max_bot_right]
  rfl

include h6 h7 h8 in
theorem x1_eq (n : Fin 36864) : (clipped U (Proc.devRef .tc main_v140) : FVec Ideal S36864 .f32) (ix1 n)
    = clip N.hi (lowRaw (N.d0 (n.val / 576) (n.val / 9 % 64) ⟨n.val % 9, by omega⟩) (N.d2 (n.val / 576) (n.val / 9 % 64) ⟨n.val % 9, by omega⟩)
      (sideOf ((U (Proc.devRef .tc main_cst) : FVec Ideal S36864x4 .f32) (ix2 n 2)) ((U (Proc.devRef .tc main_cst) : FVec Ideal S36864x4 .f32) (ix2 n 0)))
      (midOf ((U (Proc.devRef .tc main_cst) : FVec Ideal S36864x4 .f32) (ix2 n 0)) (sideOf ((U (Proc.devRef .tc main_cst) : FVec Ideal S36864x4 .f32) (ix2 n 2)) ((U (Proc.devRef .tc main_cst) : FVec Ideal S36864x4 .f32) (ix2 n 0))))) := by
  unfold clipped
  after_reads_at
  all_goals try after_reads_at
  simp only [h51, h6, h7]
  simp only [id_eq]
  pointwise []
  exact congrArg₂ min h8 rfl

include h6 h7 h8 in
theorem y1_eq (n : Fin 36864) : (clipped U (Proc.devRef .tc main_v145) : FVec Ideal S36864 .f32) (ix1 n)
    = clip N.hi (lowRaw (N.d1 (n.val / 576) (n.val / 9 % 64) ⟨n.val % 9, by omega⟩) (N.d3 (n.val / 576) (n.val / 9 % 64) ⟨n.val % 9, by omega⟩)
      (sideOf ((U (Proc.devRef .tc main_cst) : FVec Ideal S36864x4 .f32) (ix2 n 3)) ((U (Proc.devRef .tc main_cst) : FVec Ideal S36864x4 .f32) (ix2 n 1)))
      (midOf ((U (Proc.devRef .tc main_cst) : FVec Ideal S36864x4 .f32) (ix2 n 1)) (sideOf ((U (Proc.devRef .tc main_cst) : FVec Ideal S36864x4 .f32) (ix2 n 3)) ((U (Proc.devRef .tc main_cst) : FVec Ideal S36864x4 .f32) (ix2 n 1))))) := by
  unfold clipped
  after_reads_at
  all_goals try after_reads_at
  simp only [h51, h6, h7]
  simp only [id_eq]
  pointwise []
  exact congrArg₂ min h8 rfl

include h6 h7 h8 in
theorem x2_eq (n : Fin 36864) : (clipped U (Proc.devRef .tc main_v150) : FVec Ideal S36864 .f32) (ix1 n)
    = clip N.hi (highRaw (N.d0 (n.val / 576) (n.val / 9 % 64) ⟨n.val % 9, by omega⟩) (N.d2 (n.val / 576) (n.val / 9 % 64) ⟨n.val % 9, by omega⟩)
      (sideOf ((U (Proc.devRef .tc main_cst) : FVec Ideal S36864x4 .f32) (ix2 n 2)) ((U (Proc.devRef .tc main_cst) : FVec Ideal S36864x4 .f32) (ix2 n 0)))
      (midOf ((U (Proc.devRef .tc main_cst) : FVec Ideal S36864x4 .f32) (ix2 n 0)) (sideOf ((U (Proc.devRef .tc main_cst) : FVec Ideal S36864x4 .f32) (ix2 n 2)) ((U (Proc.devRef .tc main_cst) : FVec Ideal S36864x4 .f32) (ix2 n 0))))) := by
  unfold clipped
  after_reads_at
  all_goals try after_reads_at
  simp only [h51, h6, h7]
  simp only [id_eq]
  pointwise []
  exact congrArg₂ min h8 rfl

include h6 h7 h8 in
theorem y2_eq (n : Fin 36864) : (clipped U (Proc.devRef .tc main_v155) : FVec Ideal S36864 .f32) (ix1 n)
    = clip N.hi (highRaw (N.d1 (n.val / 576) (n.val / 9 % 64) ⟨n.val % 9, by omega⟩) (N.d3 (n.val / 576) (n.val / 9 % 64) ⟨n.val % 9, by omega⟩)
      (sideOf ((U (Proc.devRef .tc main_cst) : FVec Ideal S36864x4 .f32) (ix2 n 3)) ((U (Proc.devRef .tc main_cst) : FVec Ideal S36864x4 .f32) (ix2 n 1)))
      (midOf ((U (Proc.devRef .tc main_cst) : FVec Ideal S36864x4 .f32) (ix2 n 1)) (sideOf ((U (Proc.devRef .tc main_cst) : FVec Ideal S36864x4 .f32) (ix2 n 3)) ((U (Proc.devRef .tc main_cst) : FVec Ideal S36864x4 .f32) (ix2 n 1))))) := by
  unfold clipped
  after_reads_at
  all_goals try after_reads_at
  simp only [h51, h6, h7]
  simp only [id_eq]
  pointwise []
  exact congrArg₂ min h8 rfl

end Heads
end Cert.Proof.Val.Ref
-- ==== Proof.Val.NmsRef.lean ====
/- One trip of the reference's loop, read at a box. -/
module

public import proofs.«01_k».proof.Proof.Val.NmsCells
public import proofs.«01_k».proof.Proof.Gen.ReferenceIdeal.Run
public import Idealize.ShloMosaic.Lib.Pointwise
public import Idealize.ShloMosaic.Lib.Tactic.CleanTypes
public import Idealize.ShloMosaic.Lib.Routing.OpsSet
public import Idealize.ShloMosaic.Lib.Routing.OpsPair

@[expose] public section

set_option maxRecDepth 16384

noncomputable section

namespace Cert.Proof.Val.Ref

open Cert.ReferenceIdeal Cert.ReferenceIdeal.Gen Cert.ReferenceIdeal.Value Cert.Proof.Val
open Idealize.ShloMosaic Idealize.ShloMosaic.TcCoe

/-- Where the one update of the loop's scatter lands. -/
theorem lands (idx : IVec S1 32) (k : S_.Idx) (n : Fin 6000) :
    scatter_S6000_S1_S__n_0_0_0.resultIdx? k idx = some (ix1 n) ↔ (idx (ix1 0)).toInt = (n.val : ℤ) := by
  rw [Routing.resultIdx?_eq_some]
  have hst : scatter_S6000_S1_S__n_0_0_0.start k idx 0 = (idx (ix1 0)).toInt := by
    unfold ScatterDims.start
    rw [dif_pos (by decide)]
    refine congrArg (fun z => (idx z).toInt) (funext fun a => ?_)
    match a with
    | ⟨0, _⟩ => exact Subsingleton.elim (α := Fin 1) _ _
  have hw : scatter_S6000_S1_S__n_0_0_0.window k 0 = 0 := by
    unfold ScatterDims.window
    rw [dif_neg (by decide)]
  constructor
  · intro h
    have h0 := h 0
    rw [hst, hw] at h0
    have e : ((ix1 n : S6000.Idx) 0).val = n.val := rfl
    rw [← e]; simpa using h0
  · intro h a
    match a with
    | ⟨0, _⟩ =>
      show scatter_S6000_S1_S__n_0_0_0.start k idx 0 + (scatter_S6000_S1_S__n_0_0_0.window k 0 : ℤ) = (n.val : ℤ)
      rw [hst, hw, h]; simp

/-- The loop's scatter sets the one entry its index word names. -/
theorem scatter_eq {α : Type} (x : S6000.Idx → α) (idx : IVec S1 32) (u : S_.Idx → α) (n : Fin 6000) :
    Host.scatter scatter_S6000_S1_S__n_0_0_0 (fun _ b => b) x idx u (ix1 n) = if (idx (ix1 0)).toInt = (n.val : ℤ) then u ix0 else x (ix1 n) := by
  by_cases h : (idx (ix1 0)).toInt = (n.val : ℤ)
  · rw [if_pos h]
    exact Routing.scatter_set_hit _ x idx u _ _ (fun k _ => congrArg u (funext fun a => a.elim0)) ix0 ((lands idx ix0 n).2 h)
  · rw [if_neg h]
    exact Routing.scatter_set_miss _ x idx u _ fun k hk => h ((lands idx k n).1 hk)

/-- The word of a box's number, the number of an earlier box counted from the end where it is negative. -/
abbrev wrapped (i : IVec S_ 32) : IVec S_ 32 := select (cmpi .slt i (constantI S_ 32 0#32)) (addi (id i) (constantI S_ 32 6000#32)) i

theorem wrapped_eq (k : Fin 6000) : wrapped (fun _ => BitVec.ofNat 32 k.val) = fun _ => BitVec.ofNat 32 k.val := by
  funext z
  show Scalar.select (IntOp.cmpi .slt (BitVec.ofNat 32 k.val) 0#32) (IntOp.addi (BitVec.ofNat 32 k.val) 6000#32) (BitVec.ofNat 32 k.val) = _
  revert k
  decide +kernel

theorem ofNat_toInt : ∀ k : Fin 6000, (BitVec.ofNat 32 k.val).toInt = (k.val : ℤ) := by decide +kernel

/-- One entry of a column, taken by a number held in a word. -/
def entry {α : Type} (X : S6000.Idx → α) (i : IVec S_ 32) : S_.Idx → α :=
  shapeCast S_ (Host.dynamicSlice S1 X (fun d => (((![wrapped i] : Fin 1 → (⟨S_, .i32⟩ : BufTy).Contents (Elt Ideal))) d (Shape.Idx.first h_S_)).toInt) sliceFits_S6000_S1) shapeCasts_S1_S_

theorem entry_eq {α : Type} (X : S6000.Idx → α) (i : IVec S_ 32) (k : Fin 6000) (hi : i = fun _ => BitVec.ofNat 32 k.val) :
    entry X i = fun _ => X (ix1 k) := by
  unfold entry
  rw [hi, wrapped_eq]
  funext z
  refine congrArg X (funext fun a => ?_)
  match a with
  | ⟨0, _⟩ =>
    apply Fin.ext
    have h0 : ∀ y : Fin 1, y.val = 0 := fun y => by omega
    refine Eq.trans (congrArg (fun y : ℕ => (min (max (BitVec.ofNat 32 k.val).toInt 0) ((6000 - 1 : ℕ) : ℤ)).toNat + y)
      (h0 (Shape.reshapeEquiv shapeCasts_S1_S_ z 0))) ?_
    show (min (max (BitVec.ofNat 32 k.val).toInt 0) ((6000 - 1 : ℕ) : ℤ)).toNat + 0 = k.val
    rw [ofNat_toInt]
    have := k.isLt
    omega

/-- The shared areas of one box and each box. -/
def interV (X0 X1 X2 X3 : FVec Ideal S6000 .f32) (i : IVec S_ 32) : FVec Ideal S6000 .f32 :=
  mulf (maximumf (broadcastInDim S6000 ![] bcast_S_S6000 (constant S_ .f32 0x00000000#32))
      (addf (subf (minimumf (broadcastInDim S6000 ![] bcast_S_S6000 (entry X2 i)) X2) (maximumf (broadcastInDim S6000 ![] bcast_S_S6000 (entry X0 i)) X0))
        (broadcastInDim S6000 ![] bcast_S_S6000 (constant S_ .f32 0x3F800000#32))))
    (maximumf (broadcastInDim S6000 ![] bcast_S_S6000 (constant S_ .f32 0x00000000#32))
      (addf (subf (minimumf (broadcastInDim S6000 ![] bcast_S_S6000 (entry X3 i)) X3) (maximumf (broadcastInDim S6000 ![] bcast_S_S6000 (entry X1 i)) X1))
        (broadcastInDim S6000 ![] bcast_S_S6000 (constant S_ .f32 0x3F800000#32))))

/-- Which boxes one box overlaps by more than the threshold. -/
def hitV (X4 I : FVec Ideal S6000 .f32) (i : IVec S_ 32) : IVec S6000 1 :=
  cmpf .ogt (Host.divf I (subf (addf (broadcastInDim S6000 ![] bcast_S_S6000 (entry X4 i)) X4) I)) (broadcastInDim S6000 ![] bcast_S_S6000 (constant S_ .f32 0x3F333333#32))

/-- The bit that says whether the statement holds. -/
def bit (p : Prop) : BitVec 1 := open Classical in if p then 1#1 else 0#1

theorem bit_pos {p : Prop} (h : p) : bit p = 1#1 := if_pos h
theorem bit_neg {p : Prop} (h : ¬p) : bit p = 0#1 := if_neg h
theorem bit_congr {p q : Prop} (h : p ↔ q) : bit p = bit q := by
  by_cases hp : p
  · rw [bit_pos hp, bit_pos (h.1 hp)]
  · rw [bit_neg hp, bit_neg fun hq => hp (h.2 hq)]

/-- The loop's buffers before trip `k`: the boxes' corners and areas, the trip's number, which of the remaining boxes a kept one overlaps, and which
of the settled ones are kept. -/
structure LoopAt (G : ℕ → Corners) (k : ℕ) (V : Valuation τ sig (Elt Ideal)) : Prop where
  h0 : ∀ n : Fin 6000, (V (Proc.devRef .tc main_v185_0) : FVec Ideal S6000 .f32) (ix1 n) = (G n.val).x1
  h1 : ∀ n : Fin 6000, (V (Proc.devRef .tc main_v185_1) : FVec Ideal S6000 .f32) (ix1 n) = (G n.val).y1
  h2 : ∀ n : Fin 6000, (V (Proc.devRef .tc main_v185_2) : FVec Ideal S6000 .f32) (ix1 n) = (G n.val).x2
  h3 : ∀ n : Fin 6000, (V (Proc.devRef .tc main_v185_3) : FVec Ideal S6000 .f32) (ix1 n) = (G n.val).y2
  h4 : ∀ n : Fin 6000, (V (Proc.devRef .tc main_v185_4) : FVec Ideal S6000 .f32) (ix1 n) = area (G n.val)
  h6 : (V (Proc.devRef .tc main_v185_6) : IVec S_ 32) = fun _ => BitVec.ofNat 32 k
  h7 : ∀ n : Fin 6000, k ≤ n.val → (V (Proc.devRef .tc main_v185_7) : IVec S6000 1) (ix1 n) = bit (∃ i, i < k ∧ Kept G i ∧ Hit (G i) (G n.val))
  h8 : ∀ n : Fin 6000, (V (Proc.devRef .tc main_v185_8) : IVec S6000 1) (ix1 n) = bit (n.val < k ∧ Kept G n.val)

section Trip

variable {G : ℕ → Corners} {V : Valuation τ sig (Elt Ideal)} (k : Fin 6000) (L : LoopAt G k.val V)
include L

/-- The shared area of box `k` and each box, as the loop computes it. -/
theorem inter_eq (n : Fin 6000) :
    (res_main_while0b_v243 V : FVec Ideal S6000 .f32) (ix1 n) = inter (G k.val) (G n.val) := by
  have e : (res_main_while0b_v243 V : FVec Ideal S6000 .f32) = interV (V (Proc.devRef .tc main_v185_0)) (V (Proc.devRef .tc main_v185_1))
      (V (Proc.devRef .tc main_v185_2)) (V (Proc.devRef .tc main_v185_3)) (V (Proc.devRef .tc main_v185_6)) := rfl
  rw [e]
  unfold interV
  rw [entry_eq _ _ k L.h6, entry_eq _ _ k L.h6, entry_eq _ _ k L.h6, entry_eq _ _ k L.h6, L.h0, L.h1, L.h2, L.h3]
  pointwise []
  rw [L.h0, L.h1, L.h2, L.h3]
  rfl

theorem hit_eq (n : Fin 6000) : hitV (V (Proc.devRef .tc main_v185_4)) (res_main_while0b_v243 V) (V (Proc.devRef .tc main_v185_6)) (ix1 n)
    = BitVec.ofBool (decide (Hit (G k.val) (G n.val))) := by
  unfold hitV
  rw [entry_eq _ _ k L.h6, L.h4]
  pointwise []
  rw [L.h4, inter_eq k L n]
  rfl

/-- Whether box `k` is out. -/
theorem out_eq : (res_main_while0b_v200 V : IVec S_ 1) = fun _ => bit (¬ Kept G k.val) := by
  have e : (res_main_while0b_v200 V : IVec S_ 1) = entry (V (Proc.devRef .tc main_v185_7) : IVec S6000 1) (V (Proc.devRef .tc main_v185_6)) := rfl
  rw [e, entry_eq _ _ k L.h6]
  funext z
  rw [L.h7 k le_rfl]
  refine bit_congr ?_
  rw [kept_iff G k.val]
  constructor
  · rintro ⟨i, hi, hk, hh⟩ ⟨_, h⟩
    exact h i hi hk hh
  · intro h
    by_contra hc
    exact h ⟨k.isLt, fun i hi hk hh => hc ⟨i, hi, hk, hh⟩⟩

theorem wordAt : (broadcastInDim S1 ![] bcast_S_S1 (id (select (cmpi .slt (V (Proc.devRef .tc main_v185_6) : IVec S_ 32) (constantI S_ 32 0#32))
    (addi (V (Proc.devRef .tc main_v185_6) : IVec S_ 32) (constantI S_ 32 6000#32)) (V (Proc.devRef .tc main_v185_6) : IVec S_ 32))) : IVec S1 32) (ix1 0) = BitVec.ofNat 32 k.val := by
  have e := wrapped_eq k
  rw [L.h6]
  show wrapped (fun _ => BitVec.ofNat 32 k.val) _ = _
  rw [e]

theorem keep_step (n : Fin 6000) : (step_main_v185_8 V : IVec S6000 1) (ix1 n) = bit (n.val < k.val + 1 ∧ Kept G n.val) := by
  have e : (step_main_v185_8 V : IVec S6000 1) (ix1 n) = if (BitVec.ofNat 32 k.val).toInt = (n.val : ℤ)
      then (noti (res_main_while0b_v200 V : IVec S_ 1)) ix0 else (V (Proc.devRef .tc main_v185_8) : IVec S6000 1) (ix1 n) := by
    rw [← wordAt k L]
    exact scatter_eq _ _ _ n
  rw [e, ofNat_toInt, out_eq k L, L.h8]
  by_cases h : k.val = n.val
  · rw [if_pos (by exact_mod_cast h), ← h]
    by_cases hk : Kept G k.val
    · rw [bit_pos (⟨Nat.lt_succ_self _, hk⟩ : k.val < k.val + 1 ∧ Kept G k.val)]
      show ~~~ bit (¬ Kept G k.val) = 1#1
      rw [bit_neg (not_not.2 hk)]; rfl
    · rw [bit_neg (fun h => hk h.2 : ¬ (k.val < k.val + 1 ∧ Kept G k.val))]
      show ~~~ bit (¬ Kept G k.val) = 0#1
      rw [bit_pos hk]; rfl
  · rw [if_neg (by exact_mod_cast h)]
    exact bit_congr (and_congr_left fun _ => ⟨fun h' => by omega, fun h' => by omega⟩)

theorem sup_step (n : Fin 6000) (hn : k.val + 1 ≤ n.val) :
    (step_main_v185_7 V : IVec S6000 1) (ix1 n) = bit (∃ i, i < k.val + 1 ∧ Kept G i ∧ Hit (G i) (G n.val)) := by
  have e : (step_main_v185_7 V : IVec S6000 1) (ix1 n) = if (BitVec.ofNat 32 k.val).toInt = (n.val : ℤ)
      then (res_main_while0b_v200 V : IVec S_ 1) ix0 else
        Scalar.select ((res_main_while0b_v200 V : IVec S_ 1) ix0) ((V (Proc.devRef .tc main_v185_7) : IVec S6000 1) (ix1 n))
          (IntOp.ori ((V (Proc.devRef .tc main_v185_7) : IVec S6000 1) (ix1 n)) (BitVec.ofBool (decide (Hit (G k.val) (G n.val))))) := by
    rw [← wordAt k L, ← hit_eq k L n]
    exact scatter_eq _ _ _ n
  rw [e, ofNat_toInt, out_eq k L, L.h7 n (by omega), if_neg (by intro h; omega)]
  by_cases hk : Kept G k.val
  · rw [bit_neg (not_not.2 hk)]
    show IntOp.ori _ _ = _
    have hex : (∃ i, i < k.val + 1 ∧ Kept G i ∧ Hit (G i) (G n.val)) ↔ (∃ i, i < k.val ∧ Kept G i ∧ Hit (G i) (G n.val)) ∨ Hit (G k.val) (G n.val) := by
      constructor
      · rintro ⟨i, hi, hk, hh⟩
        rcases Nat.lt_succ_iff_lt_or_eq.1 hi with h | rfl
        · exact Or.inl ⟨i, h, hk, hh⟩
        · exact Or.inr hh
      · rintro (⟨i, hi, hk, hh⟩ | hh)
        · exact ⟨i, by omega, hk, hh⟩
        · exact ⟨k.val, Nat.lt_succ_self _, hk, hh⟩
    rw [bit_congr hex]
    by_cases h1 : ∃ i, i < k.val ∧ Kept G i ∧ Hit (G i) (G n.val) <;> by_cases h2 : Hit (G k.val) (G n.val) <;>
      simp only [bit_pos, bit_neg, h1, h2, or_true, true_or, or_false, false_or, not_false_eq_true, decide_true, decide_false] <;> rfl
  · rw [bit_pos hk]
    show bit _ = _
    refine bit_congr ⟨fun ⟨i, hi, h⟩ => ⟨i, by omega, h⟩, fun ⟨i, hi, hk', hh⟩ => ?_⟩
    rcases Nat.lt_succ_iff_lt_or_eq.1 hi with h | rfl
    · exact ⟨i, h, hk', hh⟩
    · exact absurd hk' hk

/-- One trip. -/
theorem loopAt_step : LoopAt G (k.val + 1) (STEP V) where
  h0 n := by rw [STEP_main_v185_0]; exact L.h0 n
  h1 n := by rw [STEP_main_v185_1]; exact L.h1 n
  h2 n := by rw [STEP_main_v185_2]; exact L.h2 n
  h3 n := by rw [STEP_main_v185_3]; exact L.h3 n
  h4 n := by rw [STEP_main_v185_4]; exact L.h4 n
  h6 := by
    rw [STEP_main_v185_6]
    unfold step_main_v185_6
    funext z
    show IntOp.addi ((V (Proc.devRef .tc main_v185_6) : IVec S_ 32) z) 1#32 = _
    rw [L.h6]
    exact (BitVec.ofNat_add k.val 1).symm
  h7 n hn := by rw [STEP_main_v185_7]; exact sup_step k L n hn
  h8 n := by rw [STEP_main_v185_8]; exact keep_step k L n

end Trip

/-- After `k` trips. -/
theorem loopAt_iterate {G : ℕ → Corners} {V : Valuation τ sig (Elt Ideal)} (L : LoopAt G 0 V) (k : ℕ) (hk : k ≤ 6000) : LoopAt G k (STEP^[k] V) := by
  induction k with
  | zero => exact L
  | succ k ih =>
    rw [Function.iterate_succ_apply']
    exact loopAt_step ⟨k, hk⟩ (ih (Nat.le_of_succ_le hk))

end Cert.Proof.Val.Ref
-- ==== Proof.Val.TailRef.lean ====
/- The reference between its dense stage and its loop: the ranking, the ranked boxes and the loop's first contents. -/
module
public import proofs.«01_k».proof.Proof.Val.Field
public import proofs.«01_k».proof.Proof.Val.NmsRef
import Idealize.ShloMosaic.Lib.StableHlo.ReadAt
import Idealize.ShloMosaic.Lib.Pipeline.ValueKit

@[expose] public section
set_option maxRecDepth 16384

noncomputable section

namespace Cert.Proof.Val.Ref

open Cert.ReferenceIdeal Cert.ReferenceIdeal.Gen Cert.ReferenceIdeal.Value
open Idealize.ShloMosaic Idealize.ShloMosaic.TcCoe Idealize.ShloMosaic.StableHlo Idealize.SL

/-- The scores and the four clipped coordinates are the candidates'. -/
structure FromDense (F : Field) (U : Valuation τ sig (Elt Ideal)) : Prop where
  s : ∀ n : Fin 36864, (U (Proc.devRef .tc main_v77) : FVec Ideal S36864 .f32) (ix1 n) = F.S (ix1 n)
  x1 : ∀ n : Fin 36864, (U (Proc.devRef .tc main_v140) : FVec Ideal S36864 .f32) (ix1 n) = F.X1 (ix1 n)
  y1 : ∀ n : Fin 36864, (U (Proc.devRef .tc main_v145) : FVec Ideal S36864 .f32) (ix1 n) = F.Y1 (ix1 n)
  x2 : ∀ n : Fin 36864, (U (Proc.devRef .tc main_v150) : FVec Ideal S36864 .f32) (ix1 n) = F.X2 (ix1 n)
  y2 : ∀ n : Fin 36864, (U (Proc.devRef .tc main_v155) : FVec Ideal S36864 .f32) (ix1 n) = F.Y2 (ix1 n)

variable {F : Field} {U : Valuation τ sig (Elt Ideal)} (H : FromDense F U)
include H

theorem scores_flat (z : FVec Ideal S36864 .f32) (hz : z = U (Proc.devRef .tc main_v77)) : z = F.S := by
  funext i
  have e : i = ix1 (i 0) := by funext d; match d with | ⟨0, _⟩ => rfl
  rw [e, hz]
  exact H.s _

theorem rank_at (n : Fin 6000) :
    (after hostOps0_12 U (Proc.devRef .tc main_indices) : IVec S6000 32) (ix1 n) = F.ranked.2 (ix1 n) := by
  after_reads_at
  exact congrArg (fun z : FVec Ideal S36864 .f32 => (Host.topK S6000 0 (FloatOps.cmpfTotal CmpDirection.gt) z sliceFits_S36864_S6000).2 (ix1 n)) (scores_flat H _ rfl)
theorem values_at (n : Fin 6000) :
    (after hostOps0_12 U (Proc.devRef .tc main_values) : FVec Ideal S6000 .f32) (ix1 n) = F.ranked.1 (ix1 n) := by
  after_reads_at
  exact congrArg (fun z : FVec Ideal S36864 .f32 => (Host.topK S6000 0 (FloatOps.cmpfTotal CmpDirection.gt) z sliceFits_S36864_S6000).1 (ix1 n)) (scores_flat H _ rfl)
theorem rank_idx (z : FVec Ideal S36864 .f32) (hz : z = U (Proc.devRef .tc main_v77)) (n : Fin 6000) :
    (Host.topK S6000 0 (FloatOps.cmpfTotal CmpDirection.gt) z sliceFits_S36864_S6000).2 (ix1 n) = BitVec.ofNat 32 (F.src n.val).val := by
  rw [scores_flat H z hz]
  exact F.ranked_src n
theorem column_0 (n : Fin 36864) :
    (upto hostOps0_12 U 4 (Proc.devRef .tc main_v156) : FVec Ideal S36864x1 .f32) (ix2 n 0) = F.X1 (ix1 n) := by
  rw [← H.x1]
  after_reads_at
theorem box_0 (n : Fin 6000) :
    (after hostOps0_12 U (Proc.devRef .tc main_v167) : FVec Ideal S6000x4 .f32) (ix2 n 0) = (F.G n.val).x1 := by
  after_reads_at
  refine (row_at _ rfl rfl rfl rfl rfl _ _ _ _ (F.src n.val) ?_ (by norm_num)).trans ?_
  · pointwise []
    exact normal_at _ _ _ (by omega) (rank_idx H _ rfl n)
  · pointwise []
    exact column_0 H _
theorem column_1 (n : Fin 36864) :
    (upto hostOps0_12 U 4 (Proc.devRef .tc main_v157) : FVec Ideal S36864x1 .f32) (ix2 n 0) = F.Y1 (ix1 n) := by
  rw [← H.y1]
  after_reads_at
theorem box_1 (n : Fin 6000) :
    (after hostOps0_12 U (Proc.devRef .tc main_v167) : FVec Ideal S6000x4 .f32) (ix2 n 1) = (F.G n.val).y1 := by
  after_reads_at
  refine (row_at _ rfl rfl rfl rfl rfl _ _ _ _ (F.src n.val) ?_ (by norm_num)).trans ?_
  · pointwise []
    exact normal_at _ _ _ (by omega) (rank_idx H _ rfl n)
  · pointwise []
    exact column_1 H _
theorem column_2 (n : Fin 36864) :
    (upto hostOps0_12 U 4 (Proc.devRef .tc main_v158) : FVec Ideal S36864x1 .f32) (ix2 n 0) = F.X2 (ix1 n) := by
  rw [← H.x2]
  after_reads_at
theorem box_2 (n : Fin 6000) :
    (after hostOps0_12 U (Proc.devRef .tc main_v167) : FVec Ideal S6000x4 .f32) (ix2 n 2) = (F.G n.val).x2 := by
  after_reads_at
  refine (row_at _ rfl rfl rfl rfl rfl _ _ _ _ (F.src n.val) ?_ (by norm_num)).trans ?_
  · pointwise []
    exact normal_at _ _ _ (by omega) (rank_idx H _ rfl n)
  · pointwise []
    exact column_2 H _
theorem column_3 (n : Fin 36864) :
    (upto hostOps0_12 U 4 (Proc.devRef .tc main_v159) : FVec Ideal S36864x1 .f32) (ix2 n 0) = F.Y2 (ix1 n) := by
  rw [← H.y2]
  after_reads_at
theorem box_3 (n : Fin 6000) :
    (after hostOps0_12 U (Proc.devRef .tc main_v167) : FVec Ideal S6000x4 .f32) (ix2 n 3) = (F.G n.val).y2 := by
  after_reads_at
  refine (row_at _ rfl rfl rfl rfl rfl _ _ _ _ (F.src n.val) ?_ (by norm_num)).trans ?_
  · pointwise []
    exact normal_at _ _ _ (by omega) (rank_idx H _ rfl n)
  · pointwise []
    exact column_3 H _
omit H
/-- A coordinate of a ranked box. -/
def boxAt (U : Valuation τ sig (Elt Ideal)) (n : Fin 6000) (q : Fin 4) : EReal :=
  (after hostOps0_12 U (Proc.devRef .tc main_v167) : FVec Ideal S6000x4 .f32) (ix2 n q)
theorem carried_0 (n : Fin 6000) :
    (after hostOps0_12 U (Proc.devRef .tc main_v185_0) : FVec Ideal S6000 .f32) (ix1 n) = boxAt U n 0 := by
  unfold boxAt
  after_reads_at
  rfl
theorem carried_1 (n : Fin 6000) :
    (after hostOps0_12 U (Proc.devRef .tc main_v185_1) : FVec Ideal S6000 .f32) (ix1 n) = boxAt U n 1 := by
  unfold boxAt
  after_reads_at
  rfl
theorem carried_2 (n : Fin 6000) :
    (after hostOps0_12 U (Proc.devRef .tc main_v185_2) : FVec Ideal S6000 .f32) (ix1 n) = boxAt U n 2 := by
  unfold boxAt
  after_reads_at
  rfl
theorem carried_3 (n : Fin 6000) :
    (after hostOps0_12 U (Proc.devRef .tc main_v185_3) : FVec Ideal S6000 .f32) (ix1 n) = boxAt U n 3 := by
  unfold boxAt
  after_reads_at
  rfl
theorem carried_4 (n : Fin 6000) :
    (after hostOps0_12 U (Proc.devRef .tc main_v185_4) : FVec Ideal S6000 .f32) (ix1 n)
      = (boxAt U n 2 - boxAt U n 0 + 1) * (boxAt U n 3 - boxAt U n 1 + 1) := by
  unfold boxAt
  after_reads_at
  simp only [id_eq]
  pointwise []
theorem carried_6 : (after hostOps0_12 U (Proc.devRef .tc main_v185_6) : IVec S_ 32) = fun _ => BitVec.ofNat 32 0 := by
  after_reads_simp
  rfl
theorem carried_7 (n : Fin 6000) : (after hostOps0_12 U (Proc.devRef .tc main_v185_7) : IVec S6000 1) (ix1 n) = 0#1 := by
  after_reads_at
  rfl
theorem carried_8 (n : Fin 6000) : (after hostOps0_12 U (Proc.devRef .tc main_v185_8) : IVec S6000 1) (ix1 n) = 0#1 := by
  after_reads_at
  rfl
include H

/-- The loop is entered with the ranked boxes and nothing decided. -/
theorem loopAt_entry : LoopAt F.G 0 (after hostOps0_12 U) where
  h0 n := (carried_0 n).trans (box_0 H n)
  h1 n := (carried_1 n).trans (box_1 H n)
  h2 n := (carried_2 n).trans (box_2 H n)
  h3 n := (carried_3 n).trans (box_3 H n)
  h4 n := by
    rw [carried_4, show boxAt U n 0 = _ from box_0 H n, show boxAt U n 1 = _ from box_1 H n,
      show boxAt U n 2 = _ from box_2 H n, show boxAt U n 3 = _ from box_3 H n]
    rfl
  h6 := carried_6
  h7 n _ := by
    rw [carried_7, bit_neg]
    rintro ⟨i, hi, _⟩
    exact absurd hi (by omega)
  h8 n := by
    rw [carried_8, bit_neg]
    rintro ⟨hi, _⟩
    exact absurd hi (by omega)

end Cert.Proof.Val.Ref
-- ==== Proof.Val.EndRef.lean ====
/- The reference after its loop: the surviving scores, the last selection and the output boxes. -/
module
public import proofs.«01_k».proof.Proof.Val.TailRef
import Idealize.ShloMosaic.Lib.StableHlo.ReadAt
import Idealize.ShloMosaic.Lib.Pipeline.ValueKit

@[expose] public section
set_option maxRecDepth 16384

noncomputable section

namespace Cert.Proof.Val.Ref

open Cert.ReferenceIdeal Cert.ReferenceIdeal.Gen Cert.ReferenceIdeal.Value
open Idealize.ShloMosaic Idealize.ShloMosaic.TcCoe Idealize.ShloMosaic.StableHlo Idealize.SL

/-- What the loop leaves: the keep bits, the ranked scores and the ranked boxes. -/
structure FromLoop (F : Field) (U : Valuation τ sig (Elt Ideal)) : Prop where
  keep : ∀ n : Fin 6000, (U (Proc.devRef .tc main_v185_8) : IVec S6000 1) (ix1 n) = bit (Kept F.G n.val)
  values : ∀ n : Fin 6000, (U (Proc.devRef .tc main_values) : FVec Ideal S6000 .f32) (ix1 n) = F.ranked.1 (ix1 n)
  x1 : ∀ n : Fin 6000, (U (Proc.devRef .tc main_v167) : FVec Ideal S6000x4 .f32) (ix2 n 0) = (F.G n.val).x1
  y1 : ∀ n : Fin 6000, (U (Proc.devRef .tc main_v167) : FVec Ideal S6000x4 .f32) (ix2 n 1) = (F.G n.val).y1
  x2 : ∀ n : Fin 6000, (U (Proc.devRef .tc main_v167) : FVec Ideal S6000x4 .f32) (ix2 n 2) = (F.G n.val).x2
  y2 : ∀ n : Fin 6000, (U (Proc.devRef .tc main_v167) : FVec Ideal S6000x4 .f32) (ix2 n 3) = (F.G n.val).y2

/-- The valuation the last selection is made on. -/
abbrev lastIn (U : Valuation τ sig (Elt Ideal)) : Valuation τ sig (Elt Ideal) := after hostOps0_14 (after hostOps0_13 U)

variable {F : Field} {U : Valuation τ sig (Elt Ideal)} (H : FromLoop F U)
include H

omit H in
theorem masked_open (n : Fin 6000) :
    (lastIn U (Proc.devRef .tc main_v186) : FVec Ideal S6000 .f32) (ix1 n)
      = Scalar.select ((U (Proc.devRef .tc main_v185_8) : IVec S6000 1) (ix1 n))
          ((U (Proc.devRef .tc main_values) : FVec Ideal S6000 .f32) (ix1 n)) (Ideal.ofBits FTy.f32 4286578688#32) := by
  unfold lastIn
  after_reads_at
  all_goals try after_reads_at
  rfl

open Classical in
theorem masked_at (n : Fin 6000) :
    (lastIn U (Proc.devRef .tc main_v186) : FVec Ideal S6000 .f32) (ix1 n) = F.masked (ix1 n) := by
  rw [masked_open, H.keep, H.values]
  unfold Field.masked
  show _ = if Kept F.G n.val then _ else _
  by_cases h : Kept F.G n.val
  · rw [bit_pos h, if_pos h]; rfl
  · rw [bit_neg h, if_neg h]; rfl

theorem masked_eq (z : FVec Ideal S6000 .f32) (hz : z = lastIn U (Proc.devRef .tc main_v186)) : z = F.masked := by
  funext i
  have e : i = ix1 (i 0) := by funext d; match d with | ⟨0, _⟩ => rfl
  rw [e, hz]
  exact masked_at H _

theorem last_idx (z : FVec Ideal S6000 .f32) (hz : z = lastIn U (Proc.devRef .tc main_v186)) (p : Fin 300) :
    (Host.topK S300 0 (FloatOps.cmpfTotal CmpDirection.gt) z sliceFits_S6000_S300).2 (ix1 p) = BitVec.ofNat 32 (F.pos p).val := by
  rw [masked_eq H z hz]
  exact F.chosen_pos p

omit H in
theorem last_box (n : Fin 6000) (q : Fin 4) : (lastIn U (Proc.devRef .tc main_v167) : FVec Ideal S6000x4 .f32) (ix2 n q)
    = (U (Proc.devRef .tc main_v167) : FVec Ideal S6000x4 .f32) (ix2 n q) := by
  unfold lastIn
  after_reads_at

theorem pick_row (p : Fin 300) (q : Fin 4) :
    (after hostOps0_15 (lastIn U) (Proc.devRef .tc main_v193) : FVec Ideal S300x4 .f32) (ix2 p q)
      = (U (Proc.devRef .tc main_v167) : FVec Ideal S6000x4 .f32) (ix2 (F.pos p) q) := by
  rw [← last_box (U := U) (F.pos p) q]
  generalize hW : lastIn U = W
  after_reads_at
  refine row_at _ rfl rfl rfl rfl rfl _ _ _ _ (F.pos p) ?_ (by norm_num)
  pointwise []
  subst hW
  exact normal_at _ _ _ (by omega) (last_idx H _ rfl p)

/-- The output boxes are the selected boxes. -/
theorem result_eq (p : Fin 300) (q : Fin 4) :
    (after hostOps0_15 (lastIn U) (Proc.devRef .tc main_v193) : FVec Ideal S300x4 .f32) (ix2 p q) = F.out p q :=
  (pick_row H p q).trans (match q with
  | 0 => H.x1 _
  | 1 => H.y1 _
  | 2 => H.x2 _
  | 3 => H.y2 _)

end Cert.Proof.Val.Ref
-- ==== Proof.Val.Tab.lean ====
/- A rule for the entries of the anchor tables, and the digit trees over it. -/
module
public import Mathlib.Tactic.IntervalCases

@[expose] public section
set_option maxRecDepth 100000

noncomputable section

namespace Cert.Proof.Val.Tab

/-- The pattern of a positive whole number, below the sign. -/
abbrev mag (k : Nat) : Nat := (126 + Nat.log2 k) * 8388608 + k * 2 ^ (23 - Nat.log2 k)
/-- The pattern of the whole number `z - 1024`. -/
abbrev enc (z : Nat) : BitVec 32 :=
  BitVec.ofNat 32 (cond (Nat.beq z 1024) 0 (cond (Nat.ble 1024 z) (mag (z - 1024)) (2147483648 + mag (1024 - z))))

/-- The nine anchors' corners, and their sizes, ten bits a number. -/
abbrev corner (j : Nat) : Nat := 1999194285317518119371791306075966991600587169440030298935729983654967589473983923141615964917698523267817900 / 2 ^ (10 * j) % 1024
abbrev wide (j : Nat) : Nat := 425749774663430504779727032 / 2 ^ (10 * j) % 1024
abbrev tall (j : Nat) : Nat := 851499548750118643698958432 / 2 ^ (10 * j) % 1024

/-- Entry `n` of the anchors, a row of four corners for every candidate. -/
abbrev anchor (n : Nat) : Nat := corner (n % 36) + 512 + 16 * cond (Nat.beq (n % 2) 0) (n / 36 % 64) (n / 2304)
/-- Entry `n` of the four tables of sizes and centres. -/
abbrev width (n : Nat) : Nat := wide (n % 9) + 1024
abbrev height (n : Nat) : Nat := tall (n % 9) + 1024
abbrev ctrX (n : Nat) : Nat := 1032 + 16 * (n / 9 % 64)
abbrev ctrY (n : Nat) : Nat := 1032 + 16 * (n / 576)

/-- The digit trees, over any rule for the entries. -/
abbrev leaf (f : Nat → BitVec 32) (k i : Nat) : BitVec 32 := match i % 128 with
  | 0 => f (k + 0)
  | 1 => f (k + 1)
  | 2 => f (k + 2)
  | 3 => f (k + 3)
  | 4 => f (k + 4)
  | 5 => f (k + 5)
  | 6 => f (k + 6)
  | 7 => f (k + 7)
  | 8 => f (k + 8)
  | 9 => f (k + 9)
  | 10 => f (k + 10)
  | 11 => f (k + 11)
  | 12 => f (k + 12)
  | 13 => f (k + 13)
  | 14 => f (k + 14)
  | 15 => f (k + 15)
  | 16 => f (k + 16)
  | 17 => f (k + 17)
  | 18 => f (k + 18)
  | 19 => f (k + 19)
  | 20 => f (k + 20)
  | 21 => f (k + 21)
  | 22 => f (k + 22)
  | 23 => f (k + 23)
  | 24 => f (k + 24)
  | 25 => f (k + 25)
  | 26 => f (k + 26)
  | 27 => f (k + 27)
  | 28 => f (k + 28)
  | 29 => f (k + 29)
  | 30 => f (k + 30)
  | 31 => f (k + 31)
  | 32 => f (k + 32)
  | 33 => f (k + 33)
  | 34 => f (k + 34)
  | 35 => f (k + 35)
  | 36 => f (k + 36)
  | 37 => f (k + 37)
  | 38 => f (k + 38)
  | 39 => f (k + 39)
  | 40 => f (k + 40)
  | 41 => f (k + 41)
  | 42 => f (k + 42)
  | 43 => f (k + 43)
  | 44 => f (k + 44)
  | 45 => f (k + 45)
  | 46 => f (k + 46)
  | 47 => f (k + 47)
  | 48 => f (k + 48)
  | 49 => f (k + 49)
  | 50 => f (k + 50)
  | 51 => f (k + 51)
  | 52 => f (k + 52)
  | 53 => f (k + 53)
  | 54 => f (k + 54)
  | 55 => f (k + 55)
  | 56 => f (k + 56)
  | 57 => f (k + 57)
  | 58 => f (k + 58)
  | 59 => f (k + 59)
  | 60 => f (k + 60)
  | 61 => f (k + 61)
  | 62 => f (k + 62)
  | 63 => f (k + 63)
  | 64 => f (k + 64)
  | 65 => f (k + 65)
  | 66 => f (k + 66)
  | 67 => f (k + 67)
  | 68 => f (k + 68)
  | 69 => f (k + 69)
  | 70 => f (k + 70)
  | 71 => f (k + 71)
  | 72 => f (k + 72)
  | 73 => f (k + 73)
  | 74 => f (k + 74)
  | 75 => f (k + 75)
  | 76 => f (k + 76)
  | 77 => f (k + 77)
  | 78 => f (k + 78)
  | 79 => f (k + 79)
  | 80 => f (k + 80)
  | 81 => f (k + 81)
  | 82 => f (k + 82)
  | 83 => f (k + 83)
  | 84 => f (k + 84)
  | 85 => f (k + 85)
  | 86 => f (k + 86)
  | 87 => f (k + 87)
  | 88 => f (k + 88)
  | 89 => f (k + 89)
  | 90 => f (k + 90)
  | 91 => f (k + 91)
  | 92 => f (k + 92)
  | 93 => f (k + 93)
  | 94 => f (k + 94)
  | 95 => f (k + 95)
  | 96 => f (k + 96)
  | 97 => f (k + 97)
  | 98 => f (k + 98)
  | 99 => f (k + 99)
  | 100 => f (k + 100)
  | 101 => f (k + 101)
  | 102 => f (k + 102)
  | 103 => f (k + 103)
  | 104 => f (k + 104)
  | 105 => f (k + 105)
  | 106 => f (k + 106)
  | 107 => f (k + 107)
  | 108 => f (k + 108)
  | 109 => f (k + 109)
  | 110 => f (k + 110)
  | 111 => f (k + 111)
  | 112 => f (k + 112)
  | 113 => f (k + 113)
  | 114 => f (k + 114)
  | 115 => f (k + 115)
  | 116 => f (k + 116)
  | 117 => f (k + 117)
  | 118 => f (k + 118)
  | 119 => f (k + 119)
  | 120 => f (k + 120)
  | 121 => f (k + 121)
  | 122 => f (k + 122)
  | 123 => f (k + 123)
  | 124 => f (k + 124)
  | 125 => f (k + 125)
  | 126 => f (k + 126)
  | 127 => f (k + 127)
  | _ => 0#32
abbrev mid (f : Nat → BitVec 32) (k i : Nat) : BitVec 32 := match i / 128 % 128 with
  | 0 => leaf f (k + 0) i
  | 1 => leaf f (k + 128) i
  | 2 => leaf f (k + 256) i
  | 3 => leaf f (k + 384) i
  | 4 => leaf f (k + 512) i
  | 5 => leaf f (k + 640) i
  | 6 => leaf f (k + 768) i
  | 7 => leaf f (k + 896) i
  | 8 => leaf f (k + 1024) i
  | 9 => leaf f (k + 1152) i
  | 10 => leaf f (k + 1280) i
  | 11 => leaf f (k + 1408) i
  | 12 => leaf f (k + 1536) i
  | 13 => leaf f (k + 1664) i
  | 14 => leaf f (k + 1792) i
  | 15 => leaf f (k + 1920) i
  | 16 => leaf f (k + 2048) i
  | 17 => leaf f (k + 2176) i
  | 18 => leaf f (k + 2304) i
  | 19 => leaf f (k + 2432) i
  | 20 => leaf f (k + 2560) i
  | 21 => leaf f (k + 2688) i
  | 22 => leaf f (k + 2816) i
  | 23 => leaf f (k + 2944) i
  | 24 => leaf f (k + 3072) i
  | 25 => leaf f (k + 3200) i
  | 26 => leaf f (k + 3328) i
  | 27 => leaf f (k + 3456) i
  | 28 => leaf f (k + 3584) i
  | 29 => leaf f (k + 3712) i
  | 30 => leaf f (k + 3840) i
  | 31 => leaf f (k + 3968) i
  | 32 => leaf f (k + 4096) i
  | 33 => leaf f (k + 4224) i
  | 34 => leaf f (k + 4352) i
  | 35 => leaf f (k + 4480) i
  | 36 => leaf f (k + 4608) i
  | 37 => leaf f (k + 4736) i
  | 38 => leaf f (k + 4864) i
  | 39 => leaf f (k + 4992) i
  | 40 => leaf f (k + 5120) i
  | 41 => leaf f (k + 5248) i
  | 42 => leaf f (k + 5376) i
  | 43 => leaf f (k + 5504) i
  | 44 => leaf f (k + 5632) i
  | 45 => leaf f (k + 5760) i
  | 46 => leaf f (k + 5888) i
  | 47 => leaf f (k + 6016) i
  | 48 => leaf f (k + 6144) i
  | 49 => leaf f (k + 6272) i
  | 50 => leaf f (k + 6400) i
  | 51 => leaf f (k + 6528) i
  | 52 => leaf f (k + 6656) i
  | 53 => leaf f (k + 6784) i
  | 54 => leaf f (k + 6912) i
  | 55 => leaf f (k + 7040) i
  | 56 => leaf f (k + 7168) i
  | 57 => leaf f (k + 7296) i
  | 58 => leaf f (k + 7424) i
  | 59 => leaf f (k + 7552) i
  | 60 => leaf f (k + 7680) i
  | 61 => leaf f (k + 7808) i
  | 62 => leaf f (k + 7936) i
  | 63 => leaf f (k + 8064) i
  | 64 => leaf f (k + 8192) i
  | 65 => leaf f (k + 8320) i
  | 66 => leaf f (k + 8448) i
  | 67 => leaf f (k + 8576) i
  | 68 => leaf f (k + 8704) i
  | 69 => leaf f (k + 8832) i
  | 70 => leaf f (k + 8960) i
  | 71 => leaf f (k + 9088) i
  | 72 => leaf f (k + 9216) i
  | 73 => leaf f (k + 9344) i
  | 74 => leaf f (k + 9472) i
  | 75 => leaf f (k + 9600) i
  | 76 => leaf f (k + 9728) i
  | 77 => leaf f (k + 9856) i
  | 78 => leaf f (k + 9984) i
  | 79 => leaf f (k + 10112) i
  | 80 => leaf f (k + 10240) i
  | 81 => leaf f (k + 10368) i
  | 82 => leaf f (k + 10496) i
  | 83 => leaf f (k + 10624) i
  | 84 => leaf f (k + 10752) i
  | 85 => leaf f (k + 10880) i
  | 86 => leaf f (k + 11008) i
  | 87 => leaf f (k + 11136) i
  | 88 => leaf f (k + 11264) i
  | 89 => leaf f (k + 11392) i
  | 90 => leaf f (k + 11520) i
  | 91 => leaf f (k + 11648) i
  | 92 => leaf f (k + 11776) i
  | 93 => leaf f (k + 11904) i
  | 94 => leaf f (k + 12032) i
  | 95 => leaf f (k + 12160) i
  | 96 => leaf f (k + 12288) i
  | 97 => leaf f (k + 12416) i
  | 98 => leaf f (k + 12544) i
  | 99 => leaf f (k + 12672) i
  | 100 => leaf f (k + 12800) i
  | 101 => leaf f (k + 12928) i
  | 102 => leaf f (k + 13056) i
  | 103 => leaf f (k + 13184) i
  | 104 => leaf f (k + 13312) i
  | 105 => leaf f (k + 13440) i
  | 106 => leaf f (k + 13568) i
  | 107 => leaf f (k + 13696) i
  | 108 => leaf f (k + 13824) i
  | 109 => leaf f (k + 13952) i
  | 110 => leaf f (k + 14080) i
  | 111 => leaf f (k + 14208) i
  | 112 => leaf f (k + 14336) i
  | 113 => leaf f (k + 14464) i
  | 114 => leaf f (k + 14592) i
  | 115 => leaf f (k + 14720) i
  | 116 => leaf f (k + 14848) i
  | 117 => leaf f (k + 14976) i
  | 118 => leaf f (k + 15104) i
  | 119 => leaf f (k + 15232) i
  | 120 => leaf f (k + 15360) i
  | 121 => leaf f (k + 15488) i
  | 122 => leaf f (k + 15616) i
  | 123 => leaf f (k + 15744) i
  | 124 => leaf f (k + 15872) i
  | 125 => leaf f (k + 16000) i
  | 126 => leaf f (k + 16128) i
  | 127 => leaf f (k + 16256) i
  | _ => 0#32
abbrev midShort (f : Nat → BitVec 32) (k i : Nat) : BitVec 32 := match i / 128 % 128 with
  | 0 => leaf f (k + 0) i
  | 1 => leaf f (k + 128) i
  | 2 => leaf f (k + 256) i
  | 3 => leaf f (k + 384) i
  | 4 => leaf f (k + 512) i
  | 5 => leaf f (k + 640) i
  | 6 => leaf f (k + 768) i
  | 7 => leaf f (k + 896) i
  | 8 => leaf f (k + 1024) i
  | 9 => leaf f (k + 1152) i
  | 10 => leaf f (k + 1280) i
  | 11 => leaf f (k + 1408) i
  | 12 => leaf f (k + 1536) i
  | 13 => leaf f (k + 1664) i
  | 14 => leaf f (k + 1792) i
  | 15 => leaf f (k + 1920) i
  | 16 => leaf f (k + 2048) i
  | 17 => leaf f (k + 2176) i
  | 18 => leaf f (k + 2304) i
  | 19 => leaf f (k + 2432) i
  | 20 => leaf f (k + 2560) i
  | 21 => leaf f (k + 2688) i
  | 22 => leaf f (k + 2816) i
  | 23 => leaf f (k + 2944) i
  | 24 => leaf f (k + 3072) i
  | 25 => leaf f (k + 3200) i
  | 26 => leaf f (k + 3328) i
  | 27 => leaf f (k + 3456) i
  | 28 => leaf f (k + 3584) i
  | 29 => leaf f (k + 3712) i
  | 30 => leaf f (k + 3840) i
  | 31 => leaf f (k + 3968) i
  | _ => 0#32
abbrev top (f : Nat → BitVec 32) (i : Nat) : BitVec 32 := match i / 16384 with
  | 0 => mid f 0 i
  | 1 => mid f 16384 i
  | 2 => midShort f 32768 i
  | _ => 0#32
theorem leaf_eq (f : Nat → BitVec 32) (k i : Nat) : leaf f k i = f (k + i % 128) := by
  have h : i % 128 < 128 := Nat.mod_lt _ (by omega)
  unfold leaf
  generalize i % 128 = b at h
  interval_cases b <;> rfl

theorem mid_eq (f : Nat → BitVec 32) (k i : Nat) : mid f k i = f (k + i % 16384) := by
  have h : i / 128 % 128 < 128 := Nat.mod_lt _ (by omega)
  have e : i % 16384 = 128 * (i / 128 % 128) + i % 128 := by omega
  rw [e, ← Nat.add_assoc]
  unfold mid
  simp only [leaf_eq]
  generalize i / 128 % 128 = b at h
  interval_cases b <;> rfl

theorem midShort_eq (f : Nat → BitVec 32) (k i : Nat) (h : i % 16384 < 4096) : midShort f k i = f (k + i % 16384) := by
  have e : i % 16384 = 128 * (i / 128 % 128) + i % 128 := by omega
  have h : i / 128 % 128 < 32 := by omega
  rw [e, ← Nat.add_assoc]
  unfold midShort
  simp only [leaf_eq]
  generalize i / 128 % 128 = b at h
  interval_cases b <;> rfl

theorem top_eq (f : Nat → BitVec 32) (i : Nat) (h : i < 36864) : top f i = f i := by
  have h' : i / 16384 < 3 := by omega
  unfold top
  rcases (by omega : i / 16384 = 0 ∨ i / 16384 = 1 ∨ i / 16384 = 2) with e | e | e
  · rw [e]; exact (mid_eq f _ i).trans (congrArg f (by omega))
  · rw [e]; exact (mid_eq f _ i).trans (congrArg f (by omega))
  · rw [e]; exact (midShort_eq f _ i (by omega)).trans (congrArg f (by omega))

end Cert.Proof.Val.Tab
-- ==== Proof.Val.TabSize.lean ====
/- The kernel's tables of widths and heights follow the rule. -/
module
public import proofs.«01_k».proof.Proof.Val.Tab
public import proofs.«01_k».proof.KernelIdeal

@[expose] public section
set_option maxRecDepth 100000
set_option maxHeartbeats 0

namespace Cert.Proof.Val.Tab

theorem width_printed (i : Fin 36864) : Cert.KernelIdeal.lit0 i = enc (width i.val) :=
  (show Cert.KernelIdeal.lit0 i = top (fun n => enc (width n)) i.val from (rfl)).trans (top_eq _ _ i.isLt)

theorem height_printed (i : Fin 36864) : Cert.KernelIdeal.lit1 i = enc (height i.val) :=
  (show Cert.KernelIdeal.lit1 i = top (fun n => enc (height n)) i.val from (rfl)).trans (top_eq _ _ i.isLt)

end Cert.Proof.Val.Tab
-- ==== Proof.Val.TabCentre.lean ====
/- The kernel's tables of centres follow the rule. -/
module
public import proofs.«01_k».proof.Proof.Val.Tab
public import proofs.«01_k».proof.KernelIdeal

@[expose] public section
set_option maxRecDepth 100000
set_option maxHeartbeats 0

namespace Cert.Proof.Val.Tab

theorem ctrX_printed (i : Fin 36864) : Cert.KernelIdeal.lit2 i = enc (ctrX i.val) :=
  (show Cert.KernelIdeal.lit2 i = top (fun n => enc (ctrX n)) i.val from (rfl)).trans (top_eq _ _ i.isLt)

theorem ctrY_printed (i : Fin 36864) : Cert.KernelIdeal.lit3 i = enc (ctrY i.val) :=
  (show Cert.KernelIdeal.lit3 i = top (fun n => enc (ctrY n)) i.val from (rfl)).trans (top_eq _ _ i.isLt)

end Cert.Proof.Val.Tab
-- ==== Proof.Val.TabRowA.lean ====
/- A third of the reference's anchors follows the rule. -/
module
public import proofs.«01_k».proof.Proof.Val.Tab
public import proofs.«01_k».proof.ReferenceIdeal

@[expose] public section
set_option maxRecDepth 100000
set_option maxHeartbeats 0
set_option exponentiation.threshold 512

namespace Cert.Proof.Val.Tab

theorem anchors_0 (i : Nat) : Cert.ReferenceIdeal.lit0t1_0 i = mid (fun n => enc (anchor n)) 0 i := (rfl)
theorem anchors_1 (i : Nat) : Cert.ReferenceIdeal.lit0t1_1 i = mid (fun n => enc (anchor n)) 16384 i := (rfl)
theorem anchors_2 (i : Nat) : Cert.ReferenceIdeal.lit0t1_2 i = mid (fun n => enc (anchor n)) 32768 i := (rfl)

end Cert.Proof.Val.Tab
-- ==== Proof.Val.TabRowB.lean ====
/- A third of the reference's anchors follows the rule. -/
module
public import proofs.«01_k».proof.Proof.Val.Tab
public import proofs.«01_k».proof.ReferenceIdeal

@[expose] public section
set_option maxRecDepth 100000
set_option maxHeartbeats 0
set_option exponentiation.threshold 512

namespace Cert.Proof.Val.Tab

theorem anchors_3 (i : Nat) : Cert.ReferenceIdeal.lit0t1_3 i = mid (fun n => enc (anchor n)) 49152 i := (rfl)
theorem anchors_4 (i : Nat) : Cert.ReferenceIdeal.lit0t1_4 i = mid (fun n => enc (anchor n)) 65536 i := (rfl)
theorem anchors_5 (i : Nat) : Cert.ReferenceIdeal.lit0t1_5 i = mid (fun n => enc (anchor n)) 81920 i := (rfl)

end Cert.Proof.Val.Tab
-- ==== Proof.Val.TabRowC.lean ====
/- A third of the reference's anchors follows the rule. -/
module
public import proofs.«01_k».proof.Proof.Val.Tab
public import proofs.«01_k».proof.ReferenceIdeal

@[expose] public section
set_option maxRecDepth 100000
set_option maxHeartbeats 0
set_option exponentiation.threshold 512

namespace Cert.Proof.Val.Tab

theorem anchors_6 (i : Nat) : Cert.ReferenceIdeal.lit0t1_6 i = mid (fun n => enc (anchor n)) 98304 i := (rfl)
theorem anchors_7 (i : Nat) : Cert.ReferenceIdeal.lit0t1_7 i = mid (fun n => enc (anchor n)) 114688 i := (rfl)
theorem anchors_8 (i : Nat) : Cert.ReferenceIdeal.lit0t1_8 i = mid (fun n => enc (anchor n)) 131072 i := (rfl)

end Cert.Proof.Val.Tab
-- ==== Proof.Val.TabRow.lean ====
/- The reference's anchors follow the rule. -/
module
public import proofs.«01_k».proof.Proof.Val.TabRowA
public import proofs.«01_k».proof.Proof.Val.TabRowB
public import proofs.«01_k».proof.Proof.Val.TabRowC

@[expose] public section
set_option maxRecDepth 100000

namespace Cert.Proof.Val.Tab

theorem tree_eq (i : Nat) (h : i < 147456) : Cert.ReferenceIdeal.lit0t i = enc (anchor i) := by
  unfold Cert.ReferenceIdeal.lit0t
  rcases (by omega : i / 16384 = 0 ∨ i / 16384 = 1 ∨ i / 16384 = 2 ∨ i / 16384 = 3 ∨ i / 16384 = 4 ∨ i / 16384 = 5 ∨ i / 16384 = 6 ∨ i / 16384 = 7 ∨ i / 16384 = 8) with e | e | e | e | e | e | e | e | e
  · rw [e]; exact (anchors_0 i).trans ((mid_eq _ _ i).trans (congrArg (fun n => enc (anchor n)) (by omega)))
  · rw [e]; exact (anchors_1 i).trans ((mid_eq _ _ i).trans (congrArg (fun n => enc (anchor n)) (by omega)))
  · rw [e]; exact (anchors_2 i).trans ((mid_eq _ _ i).trans (congrArg (fun n => enc (anchor n)) (by omega)))
  · rw [e]; exact (anchors_3 i).trans ((mid_eq _ _ i).trans (congrArg (fun n => enc (anchor n)) (by omega)))
  · rw [e]; exact (anchors_4 i).trans ((mid_eq _ _ i).trans (congrArg (fun n => enc (anchor n)) (by omega)))
  · rw [e]; exact (anchors_5 i).trans ((mid_eq _ _ i).trans (congrArg (fun n => enc (anchor n)) (by omega)))
  · rw [e]; exact (anchors_6 i).trans ((mid_eq _ _ i).trans (congrArg (fun n => enc (anchor n)) (by omega)))
  · rw [e]; exact (anchors_7 i).trans ((mid_eq _ _ i).trans (congrArg (fun n => enc (anchor n)) (by omega)))
  · rw [e]; exact (anchors_8 i).trans ((mid_eq _ _ i).trans (congrArg (fun n => enc (anchor n)) (by omega)))

theorem anchor_printed (i : Fin 147456) : Cert.ReferenceIdeal.lit0 i = enc (anchor i.val) := tree_eq i.val i.isLt

end Cert.Proof.Val.Tab
-- ==== Proof.Val.TabNum.lean ====
/- What the rule's patterns denote: whole numbers, and the arithmetic of an anchor's corners. -/
module
public import proofs.«01_k».proof.Proof.Val.Tab
public import proofs.«01_k».proof.Proof.Val.NmsCells

@[expose] public section
set_option maxRecDepth 100000

noncomputable section

namespace Cert.Proof.Val.Tab

open Idealize.ShloMosaic

/-- A normal pattern, by its sign, exponent and fraction. -/
theorem normal_bits (s e r : Nat) (hs : s < 2) (he : 0 < e) (he' : e < 255) (hr : r < 8388608) :
    Ideal.ofBits .f32 (BitVec.ofNat 32 (s * 2147483648 + (e * 8388608 + r)))
      = (((if s = 1 then -1 else 1 : ℝ) * (8388608 + r : ℕ) * (2 : ℝ) ^ ((e : ℤ) - 127 - 23) : ℝ) : EReal) := by
  have hn : (BitVec.ofNat 32 (s * 2147483648 + (e * 8388608 + r))).toNat = s * 2147483648 + (e * 8388608 + r) := by
    rw [BitVec.toNat_ofNat]; exact Nat.mod_eq_of_lt (by omega)
  have h1 : ((BitVec.ofNat 32 (s * 2147483648 + (e * 8388608 + r))).extractLsb' 23 8).toNat = e := by
    rw [BitVec.extractLsb'_toNat, hn, Nat.shiftRight_eq_div_pow]; omega
  have h2 : ((BitVec.ofNat 32 (s * 2147483648 + (e * 8388608 + r))).extractLsb' 0 23).toNat = r := by
    rw [BitVec.extractLsb'_toNat, hn, Nat.shiftRight_eq_div_pow]; omega
  have h3 : ((BitVec.ofNat 32 (s * 2147483648 + (e * 8388608 + r))).extractLsb' 31 1 == 1#1) = decide (s = 1) := by
    rw [Bool.eq_iff_iff, beq_iff_eq, decide_eq_true_iff, ← BitVec.toNat_inj, BitVec.extractLsb'_toNat, hn, Nat.shiftRight_eq_div_pow]
    show _ = 1 ↔ _
    omega
  show Ideal.ieee 8 23 _ = _
  unfold Ideal.ieee
  simp only [h1, h2, h3]
  rw [if_neg (by omega), if_neg (by omega)]
  norm_num

theorem log_bound (k : Nat) (h : 0 < k) (h' : k < 8388608) : Nat.log2 k < 23 ∧ 2 ^ Nat.log2 k ≤ k ∧ k < 2 ^ (Nat.log2 k + 1) :=
  ⟨(Nat.log2_lt (by omega)).2 h', Nat.log2_self_le (by omega), Nat.lt_log2_self⟩

/-- The pattern of a whole number, its sign beside it. -/
theorem mag_bits (s k : Nat) (hs : s < 2) (h : 0 < k) (h' : k < 8388608) :
    Ideal.ofBits .f32 (BitVec.ofNat 32 (s * 2147483648 + mag k)) = (((if s = 1 then -1 else 1 : ℝ) * k : ℝ) : EReal) := by
  obtain ⟨hl, h1, h2⟩ := log_bound k h h'
  unfold mag
  generalize Nat.log2 k = l at hl h1 h2
  have hp : 2 ^ l * 2 ^ (23 - l) = 8388608 := by rw [← pow_add, show l + (23 - l) = 23 by omega]; rfl
  have hp' : 2 ^ (l + 1) * 2 ^ (23 - l) = 16777216 := by rw [← pow_add, show l + 1 + (23 - l) = 24 by omega]; rfl
  have b1 : 8388608 ≤ k * 2 ^ (23 - l) := hp ▸ Nat.mul_le_mul_right _ h1
  have b2 : k * 2 ^ (23 - l) < 16777216 := hp' ▸ Nat.mul_lt_mul_of_pos_right h2 (by positivity)
  rw [show (126 + l) * 8388608 + k * 2 ^ (23 - l) = (127 + l) * 8388608 + (k * 2 ^ (23 - l) - 8388608) by omega,
    normal_bits s (127 + l) _ hs (by omega) (by omega) (by omega), show 8388608 + (k * 2 ^ (23 - l) - 8388608) = k * 2 ^ (23 - l) by omega]
  congr 1
  rw [mul_assoc]
  congr 1
  push_cast
  rw [mul_assoc, ← zpow_natCast, ← zpow_add₀ (by norm_num), Nat.cast_sub (by omega)]
  rw [show (((23 : ℕ) : ℤ) - (l : ℤ) + (127 + (l : ℤ) - 127 - 23)) = 0 by push_cast; ring, zpow_zero, mul_one]

theorem enc_neg (z : Nat) (h : z < 1024) : enc z = BitVec.ofNat 32 (1 * 2147483648 + mag (1024 - z)) := by
  have e1 : Nat.beq z 1024 = false := Bool.eq_false_iff.2 fun e => by have := Nat.eq_of_beq_eq_true e; omega
  have e2 : Nat.ble 1024 z = false := Bool.eq_false_iff.2 fun e => by have := Nat.le_of_ble_eq_true e; omega
  unfold enc
  rw [e1, e2, cond_false, cond_false, Nat.one_mul]
theorem enc_pos (z : Nat) (h : 1024 < z) : enc z = BitVec.ofNat 32 (0 * 2147483648 + mag (z - 1024)) := by
  have e1 : Nat.beq z 1024 = false := Bool.eq_false_iff.2 fun e => by have := Nat.eq_of_beq_eq_true e; omega
  have e2 : Nat.ble 1024 z = true := Nat.ble_eq_true_of_le h.le
  unfold enc
  rw [e1, e2, cond_false, cond_true, Nat.zero_mul, Nat.zero_add]

theorem enc_value (z : Nat) (h : z < 8388608) : Ideal.ofBits .f32 (enc z) = (((z : ℝ) - 1024 : ℝ) : EReal) := by
  rcases lt_trichotomy z 1024 with hz | hz | hz
  · rw [enc_neg z hz, mag_bits 1 (1024 - z) (by omega) (by omega) (by omega)]
    congr 1
    rw [if_pos rfl, Nat.cast_sub hz.le]
    push_cast; ring
  · subst hz
    rw [show enc 1024 = 0#32 from by decide]
    simp [Ideal.ofBits, Ideal.ieee]
  · rw [enc_pos z hz, mag_bits 0 (z - 1024) (by omega) (by omega) (by omega)]
    congr 1
    rw [if_neg (by omega), Nat.cast_sub hz.le]
    push_cast; ring

/-- The rule's arithmetic, in whole numbers. -/
theorem corners (a : Fin 9) : corner (4 * a.val + 2) + 1 = wide a.val + corner (4 * a.val) ∧ corner (4 * a.val + 3) + 1 = tall a.val + corner (4 * a.val + 1)
    ∧ 2 * corner (4 * a.val) + wide a.val = 1040 ∧ 2 * corner (4 * a.val + 1) + tall a.val = 1040 := by
  revert a; decide +kernel

theorem corner_lt (j : Nat) : corner j < 1024 := Nat.mod_lt _ (by omega)
theorem wide_lt (j : Nat) : wide j < 1024 := Nat.mod_lt _ (by omega)
theorem tall_lt (j : Nat) : tall j < 1024 := Nat.mod_lt _ (by omega)

theorem anchor_even (n q : Nat) (hq : q < 4) (h : q % 2 = 0) : anchor (4 * n + q) = corner (4 * (n % 9) + q) + 512 + 16 * (n / 9 % 64) := by
  unfold anchor
  rw [show (4 * n + q) % 2 = 0 by omega, show (4 * n + q) % 36 = 4 * (n % 9) + q by omega, show (4 * n + q) / 36 = n / 9 by omega]
  rfl
theorem anchor_odd (n q : Nat) (hq : q < 4) (h : q % 2 = 1) : anchor (4 * n + q) = corner (4 * (n % 9) + q) + 512 + 16 * (n / 576) := by
  unfold anchor
  rw [show (4 * n + q) % 2 = 1 by omega, show (4 * n + q) % 36 = 4 * (n % 9) + q by omega, show (4 * n + q) / 2304 = n / 576 by omega]
  rfl

end Cert.Proof.Val.Tab
-- ==== Proof.Val.TabVal.lean ====
/- The anchors' widths, heights and centres are the numbers the kernel's tables hold. -/
module
public import proofs.«01_k».proof.Proof.Val.TabSize
public import proofs.«01_k».proof.Proof.Val.TabCentre
public import proofs.«01_k».proof.Proof.Val.TabRow
public import proofs.«01_k».proof.Proof.Val.TabNum

@[expose] public section
set_option maxRecDepth 100000

noncomputable section

namespace Cert.Proof.Val.Tab

open Idealize.ShloMosaic

/-- Corner `q` of anchor `n`, as the reference prints it. -/
def row (n : Fin 36864) (q : Fin 4) : EReal := Ideal.ofBits .f32 (Cert.ReferenceIdeal.lit0 ⟨4 * n.val + q.val, by omega⟩)

theorem row_value (n : Fin 36864) (q : Fin 4) : row n q = (((anchor (4 * n.val + q.val) : ℝ) - 1024 : ℝ) : EReal) := by
  unfold row
  rw [anchor_printed]
  refine enc_value _ ?_
  have hc := corner_lt ((4 * n.val + q.val) % 36)
  have hs : cond (Nat.beq ((4 * n.val + q.val) % 2) 0) ((4 * n.val + q.val) / 36 % 64) ((4 * n.val + q.val) / 2304) < 64 := by
    cases Nat.beq ((4 * n.val + q.val) % 2) 0
    · show (4 * n.val + q.val) / 2304 < 64; omega
    · show (4 * n.val + q.val) / 36 % 64 < 64; omega
  show anchor (4 * n.val + q.val) < 8388608
  unfold anchor
  omega

theorem width_value (n : Fin 36864) : Ideal.ofBits .f32 (Cert.KernelIdeal.lit0 n) = (((width n.val : ℝ) - 1024 : ℝ) : EReal) := by
  rw [width_printed]
  exact enc_value _ (by have := wide_lt (n.val % 9); unfold width; omega)
theorem height_value (n : Fin 36864) : Ideal.ofBits .f32 (Cert.KernelIdeal.lit1 n) = (((height n.val : ℝ) - 1024 : ℝ) : EReal) := by
  rw [height_printed]
  exact enc_value _ (by have := tall_lt (n.val % 9); unfold height; omega)
theorem ctrX_value (n : Fin 36864) : Ideal.ofBits .f32 (Cert.KernelIdeal.lit2 n) = (((ctrX n.val : ℝ) - 1024 : ℝ) : EReal) := by
  rw [ctrX_printed]
  exact enc_value _ (by unfold ctrX; omega)
theorem ctrY_value (n : Fin 36864) : Ideal.ofBits .f32 (Cert.KernelIdeal.lit3 n) = (((ctrY n.val : ℝ) - 1024 : ℝ) : EReal) := by
  rw [ctrY_printed]
  exact enc_value _ (by unfold ctrY; omega)

theorem side (a b w : ℕ) (h : a + 1025 = w + b) : (((a : ℝ) - 1024 : ℝ) : EReal) - (((b : ℝ) - 1024 : ℝ) : EReal) + 1 = (((w : ℝ) - 1024 : ℝ) : EReal) := by
  rw [← EReal.coe_sub, ← EReal.coe_one, ← EReal.coe_add]
  congr 1
  have h' : (a : ℝ) + 1025 = w + b := by exact_mod_cast h
  linarith
theorem middle (b w z : ℕ) (h : 2 * b + w = 2 * z + 1024) :
    (((b : ℝ) - 1024 : ℝ) : EReal) + Ideal.ofBits .f32 0x3F000000#32 * (((w : ℝ) - 1024 : ℝ) : EReal) = (((z : ℝ) - 1024 : ℝ) : EReal) := by
  rw [half_eq, ← EReal.coe_mul, ← EReal.coe_add]
  congr 1
  have h' : 2 * (b : ℝ) + w = 2 * z + 1024 := by exact_mod_cast h
  linarith

theorem row_width (n : Fin 36864) : row n 2 - row n 0 + 1 = Ideal.ofBits .f32 (Cert.KernelIdeal.lit0 n) := by
  rw [row_value, row_value, width_value]
  refine side _ _ _ ?_
  obtain ⟨h, -⟩ := corners ⟨n.val % 9, by omega⟩
  have h : corner (4 * (n.val % 9) + 2) + 1 = wide (n.val % 9) + corner (4 * (n.val % 9)) := h
  have e2 : anchor (4 * n.val + 2) = _ := anchor_even n.val 2 (by omega) rfl
  have e0 : anchor (4 * n.val + 0) = _ := anchor_even n.val 0 (by omega) rfl
  show anchor (4 * n.val + 2) + 1025 = (wide (n.val % 9) + 1024) + anchor (4 * n.val + 0)
  rw [e2, e0]
  show corner (4 * (n.val % 9) + 2) + 512 + 16 * (n.val / 9 % 64) + 1025 = (wide (n.val % 9) + 1024) + (corner (4 * (n.val % 9)) + 512 + 16 * (n.val / 9 % 64))
  omega
theorem row_height (n : Fin 36864) : row n 3 - row n 1 + 1 = Ideal.ofBits .f32 (Cert.KernelIdeal.lit1 n) := by
  rw [row_value, row_value, height_value]
  refine side _ _ _ ?_
  obtain ⟨-, h, -⟩ := corners ⟨n.val % 9, by omega⟩
  have h : corner (4 * (n.val % 9) + 3) + 1 = tall (n.val % 9) + corner (4 * (n.val % 9) + 1) := h
  have e3 : anchor (4 * n.val + 3) = _ := anchor_odd n.val 3 (by omega) rfl
  have e1 : anchor (4 * n.val + 1) = _ := anchor_odd n.val 1 (by omega) rfl
  show anchor (4 * n.val + 3) + 1025 = (tall (n.val % 9) + 1024) + anchor (4 * n.val + 1)
  rw [e3, e1]
  omega
theorem row_ctrX (n : Fin 36864) : row n 0 + Ideal.ofBits .f32 0x3F000000#32 * Ideal.ofBits .f32 (Cert.KernelIdeal.lit0 n) = Ideal.ofBits .f32 (Cert.KernelIdeal.lit2 n) := by
  rw [row_value, width_value, ctrX_value]
  refine middle _ _ _ ?_
  obtain ⟨-, -, h, -⟩ := corners ⟨n.val % 9, by omega⟩
  have h : 2 * corner (4 * (n.val % 9)) + wide (n.val % 9) = 1040 := h
  have e0 : anchor (4 * n.val + 0) = _ := anchor_even n.val 0 (by omega) rfl
  show 2 * anchor (4 * n.val + 0) + (wide (n.val % 9) + 1024) = 2 * (1032 + 16 * (n.val / 9 % 64)) + 1024
  rw [e0]
  show 2 * (corner (4 * (n.val % 9)) + 512 + 16 * (n.val / 9 % 64)) + (wide (n.val % 9) + 1024) = _
  omega
theorem row_ctrY (n : Fin 36864) : row n 1 + Ideal.ofBits .f32 0x3F000000#32 * Ideal.ofBits .f32 (Cert.KernelIdeal.lit1 n) = Ideal.ofBits .f32 (Cert.KernelIdeal.lit3 n) := by
  rw [row_value, height_value, ctrY_value]
  refine middle _ _ _ ?_
  obtain ⟨-, -, -, h⟩ := corners ⟨n.val % 9, by omega⟩
  have h : 2 * corner (4 * (n.val % 9) + 1) + tall (n.val % 9) = 1040 := h
  have e1 : anchor (4 * n.val + 1) = _ := anchor_odd n.val 1 (by omega) rfl
  show 2 * anchor (4 * n.val + 1) + (tall (n.val % 9) + 1024) = 2 * (1032 + 16 * (n.val / 576)) + 1024
  rw [e1]
  omega

end Cert.Proof.Val.Tab
-- ==== Proof.Val.RefValue.lean ====
/- The reference's result: the output boxes of the candidates its arguments give. -/
module
public import proofs.«01_k».proof.Proof.Val.FieldOf
public import proofs.«01_k».proof.Proof.Val.DenseRef
public import proofs.«01_k».proof.Proof.Val.EndRef
public import proofs.«01_k».proof.Proof.Val.TabVal
import Idealize.ShloMosaic.Lib.StableHlo.ReadAt
import Idealize.ShloMosaic.Lib.Pipeline.ValueKit

@[expose] public section
set_option maxRecDepth 16384

noncomputable section

namespace Cert.Proof.Val.Ref

open Cert.ReferenceIdeal Cert.ReferenceIdeal.Gen Cert.ReferenceIdeal.Value Cert.Proof.ReferenceIdeal
open Idealize.ShloMosaic Idealize.ShloMosaic.TcCoe Idealize.ShloMosaic.StableHlo Idealize.SL

/-- The tables, computed from the anchors the reference prints. -/
def tw (n : Fin 36864) : EReal := sideOf (Tab.row n 2) (Tab.row n 0)
def th (n : Fin 36864) : EReal := sideOf (Tab.row n 3) (Tab.row n 1)
def tx (n : Fin 36864) : EReal := midOf (Tab.row n 0) (tw n)
def ty (n : Fin 36864) : EReal := midOf (Tab.row n 1) (th n)

theorem place_flat (n : Fin 36864) (q : Fin 4) : S36864x4.rowMajor (ix2 n q) = (⟨4 * n.val + q.val, by omega⟩ : Fin 147456) :=
  Fin.ext ((rowMajor_val2 _ 4 rfl).trans (by show n.val * 4 + q.val = 4 * n.val + q.val; omega))

variable (L : Valuation τ sig (Elt Ideal))

/-- The valuation with the map padded, and with the hidden layer computed. -/
abbrev padIn : Valuation τ sig (Elt Ideal) := after hostOps0_1 (after hostOps0 L)
abbrev hidIn : Valuation τ sig (Elt Ideal) := after hostOps0_3 (after hostOps0_2 (padIn L))

theorem pad_keep (a : Ref sig .tc) (h : a ∉ hostOps0_W ∧ a ∉ hostOps0_1_W) : padIn L (Proc.devRef .tc a) = L (Proc.devRef .tc a) := by
  unfold padIn
  rw [after_of_writes_sub hostOps0_1 _ hostOps0_1_writes h.2, after_of_writes_sub hostOps0 _ hostOps0_writes h.1]
theorem hid_keep (a : Ref sig .tc) (h : a ∉ hostOps0_W ∧ a ∉ hostOps0_1_W ∧ a ∉ hostOps0_2_W ∧ a ∉ hostOps0_3_W) :
    hidIn L (Proc.devRef .tc a) = L (Proc.devRef .tc a) := by
  unfold hidIn
  rw [after_of_writes_sub hostOps0_3 _ hostOps0_3_writes h.2.2.2, after_of_writes_sub hostOps0_2 _ hostOps0_2_writes h.2.2.1]
  exact pad_keep L a ⟨h.1, h.2.1⟩

theorem hidden (y x : Fin 64) (o : Fin 512) :
    (hidIn L (Proc.devRef .tc main_v51) : FVec Ideal S64x64x512 .f32) (ix3 y x o) = (netV L).hid y.val x.val o :=
  hidden_eq (padIn L) (netV L) (padded_eq L)
    (fun i j k o => congrFun (pad_keep L main_arg2 (by decide +kernel)) (ix4 i j k o))
    (fun o => congrFun (pad_keep L main_arg3 (by decide +kernel)) (ix1 o)) y x o
theorem arg4 (k : Fin 512) (q : Fin 18) : (hidIn L (Proc.devRef .tc main_arg4) : FVec Ideal S1x1x512x18 .f32) (ix4 0 0 k q) = (netV L).Ws k q :=
  congrFun (hid_keep L main_arg4 (by decide +kernel)) (ix4 0 0 k q)
theorem arg5 (q : Fin 18) : (hidIn L (Proc.devRef .tc main_arg5) : FVec Ideal S18 .f32) (ix1 q) = (netV L).bs q :=
  congrFun (hid_keep L main_arg5 (by decide +kernel)) (ix1 q)
theorem arg6 (k : Fin 512) (q : Fin 36) : (hidIn L (Proc.devRef .tc main_arg6) : FVec Ideal S1x1x512x36 .f32) (ix4 0 0 k q) = (netV L).Wb k q :=
  congrFun (hid_keep L main_arg6 (by decide +kernel)) (ix4 0 0 k q)
theorem arg7 (q : Fin 36) : (hidIn L (Proc.devRef .tc main_arg7) : FVec Ideal S36 .f32) (ix1 q) = (netV L).bb q :=
  congrFun (hid_keep L main_arg7 (by decide +kernel)) (ix1 q)
theorem hi_eq : (((((hidIn L (Proc.devRef .tc main_arg1) : IVec S_ 32) ix0).toInt : ℝ) : EReal) - 1) = (netV L).hi :=
  congrArg (fun z : IVec S_ 32 => (((z ix0).toInt : ℝ) : EReal) - 1) (hid_keep L main_arg1 (by decide +kernel))

theorem tab_row (n : Fin 36864) (q : Fin 4) : (hidIn L (Proc.devRef .tc main_cst) : FVec Ideal S36864x4 .f32) (ix2 n q) = Tab.row n q := by
  unfold hidIn padIn
  after_reads_at
  exact congrArg (fun z => Ideal.ofBits .f32 (lit0 z)) (place_flat n q)

/-- The candidates of the arguments at launch. -/
abbrev fieldR : Field := fieldOf (netV L) tw th tx ty

theorem fromDense : FromDense (fieldR L) (clipped (hidIn L)) where
  s n := scores_eq (hidIn L) (netV L) (hidden L) (arg4 L) (arg5 L) n
  x1 n := by
    rw [x1_eq (hidIn L) (netV L) (hidden L) (arg6 L) (arg7 L) (hi_eq L) n]
    rw [tab_row L n 2, tab_row L n 0]
    rfl
  y1 n := by
    rw [y1_eq (hidIn L) (netV L) (hidden L) (arg6 L) (arg7 L) (hi_eq L) n]
    rw [tab_row L n 3, tab_row L n 1]
    rfl
  x2 n := by
    rw [x2_eq (hidIn L) (netV L) (hidden L) (arg6 L) (arg7 L) (hi_eq L) n]
    rw [tab_row L n 2, tab_row L n 0]
    rfl
  y2 n := by
    rw [y2_eq (hidIn L) (netV L) (hidden L) (arg6 L) (arg7 L) (hi_eq L) n]
    rw [tab_row L n 3, tab_row L n 1]
    rfl

variable (m : (ℓ : Loc nD τ sig) → Buf (Elt Ideal) ℓ) (c : Dev nD)

theorem entered : entryContents preI m c = after hostOps0_12 (clipped (hidIn (launchContents m c))) := rfl

/-- The trips leave what they do not write; the condition too. -/
theorem exit_keep (a : Ref sig .tc) (h : a ∉ condOps_W ∧ a ∉ while0Ops0_W ∧ a ∉ while0Ops0_1_W ∧ a ∉ while0Ops0_2_W) :
    after condOps (atK m 6000 c) (Proc.devRef .tc a) = entryContents preI m c (Proc.devRef .tc a) := by
  rw [after_of_writes_sub condOps _ condOps_writes h.1]
  exact loop_keep _ c a h 6000

theorem loopAt_exit : LoopAt (fieldR (launchContents m c)).G 6000 (STEP^[6000] (entryContents preI m c)) := by
  rw [entered]
  exact loopAt_iterate (loopAt_entry (fromDense (launchContents m c))) 6000 le_rfl

theorem fromLoop : FromLoop (fieldR (launchContents m c)) (after condOps (atK m 6000 c)) where
  keep n := by
    rw [after_of_writes_sub condOps _ condOps_writes (by decide +kernel), atK_agree m c 6000 main_v185_8 (by decide), (loopAt_exit m c).h8]
    exact bit_congr ⟨fun h => h.2, fun h => ⟨n.isLt, h⟩⟩
  values n := by
    rw [exit_keep m c main_values (by decide +kernel), entered]
    exact values_at (fromDense (launchContents m c)) n
  x1 n := by
    rw [exit_keep m c main_v167 (by decide +kernel), entered]
    exact box_0 (fromDense (launchContents m c)) n
  y1 n := by
    rw [exit_keep m c main_v167 (by decide +kernel), entered]
    exact box_1 (fromDense (launchContents m c)) n
  x2 n := by
    rw [exit_keep m c main_v167 (by decide +kernel), entered]
    exact box_2 (fromDense (launchContents m c)) n
  y2 n := by
    rw [exit_keep m c main_v167 (by decide +kernel), entered]
    exact box_3 (fromDense (launchContents m c)) n

/-- The reference's result at an index. -/
theorem reference_value (p : Fin 300) (q : Fin 4) :
    (finalContents condOps preI bodyI postI 6000 m c (Proc.devRef .tc main_v193) : FVec Ideal S300x4 .f32) (ix2 p q)
      = (fieldR (launchContents m c)).out p q :=
  result_eq (fromLoop m c) p q

end Cert.Proof.Val.Ref
-- ==== Proof.Val.Value.lean ====
/- The value claim: from the same arguments both programs return the same boxes. -/
module
public import proofs.«01_k».proof.Defs
public import proofs.«01_k».proof.Proof.Val.KernelValue
public import proofs.«01_k».proof.Proof.Val.RefValue
public import proofs.«01_k».proof.Proof.Gen.KernelIdeal
public import proofs.«01_k».proof.Proof.Gen.ReferenceIdeal

@[expose] public section
set_option maxRecDepth 16384

noncomputable section

namespace Cert.Proof.Val

open Idealize.ShloMosaic Idealize.ShloMosaic.TcCoe Idealize.ShloMosaic.StableHlo

section Kernel
open Cert.KernelIdeal Cert.KernelIdeal.Gen Cert.Proof.KernelIdeal
variable (m : (ℓ : Loc Cert.KernelIdeal.nD Cert.KernelIdeal.τ Cert.KernelIdeal.sig) → Buf (Elt Ideal) ℓ) (ρ : Dev Cert.KernelIdeal.nD → PrngReg)

/-- The kernel's whole run: its result and its arguments. -/
theorem kernel_run : θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
    r.2.mem ((c.tc : Thread Cert.KernelIdeal.nD Cert.KernelIdeal.τ).loc Cert.KernelIdeal.main_v109) = W7 m ρ c (Proc.devRef .tc Cert.KernelIdeal.main_v109)
    ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
    ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
    ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
    ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun _ hh c => ⟨hh.1 c _ (mem_uc Cert.KernelIdeal.main_v109 (by decide)),
    (hh.1 c _ (mem_uc Cert.KernelIdeal.main_arg0 (by decide))).trans (W7_main_arg0 m ρ c),
    (hh.1 c _ (mem_uc Cert.KernelIdeal.main_arg1 (by decide))).trans (W7_main_arg1 m ρ c),
    (hh.1 c _ (mem_uc Cert.KernelIdeal.main_arg2 (by decide))).trans (W7_main_arg2 m ρ c),
    (hh.1 c _ (mem_uc Cert.KernelIdeal.main_arg3 (by decide))).trans (W7_main_arg3 m ρ c),
    (hh.1 c _ (mem_uc Cert.KernelIdeal.main_arg4 (by decide))).trans (W7_main_arg4 m ρ c),
    (hh.1 c _ (mem_uc Cert.KernelIdeal.main_arg5 (by decide))).trans (W7_main_arg5 m ρ c),
    (hh.1 c _ (mem_uc Cert.KernelIdeal.main_arg6 (by decide))).trans (W7_main_arg6 m ρ c),
    (hh.1 c _ (mem_uc Cert.KernelIdeal.main_arg7 (by decide))).trans (W7_main_arg7 m ρ c)⟩) (run_all m ρ)
end Kernel

section Reference
open Cert.ReferenceIdeal Cert.ReferenceIdeal.Gen Cert.ReferenceIdeal.Value Cert.Proof.ReferenceIdeal
variable (m : (ℓ : Loc Cert.ReferenceIdeal.nD Cert.ReferenceIdeal.τ Cert.ReferenceIdeal.sig) → Buf (Elt Ideal) ℓ) (ρ : Dev Cert.ReferenceIdeal.nD → PrngReg)

/-- The reference's whole run: its result and its arguments. -/
theorem reference_run : θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
    r.2.mem ((c.tc : Thread Cert.ReferenceIdeal.nD Cert.ReferenceIdeal.τ).loc Cert.ReferenceIdeal.main_v193) = finalContents condOps preI bodyI postI 6000 m c (Proc.devRef .tc Cert.ReferenceIdeal.main_v193)
    ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
    ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
    ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
    ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
    ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
    ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
    ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
    ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run Cert.ReferenceIdeal.defs _ _).mono (fun _ hh c => ⟨hh c Cert.ReferenceIdeal.main_v193 (by decide),
    (hh c Cert.ReferenceIdeal.main_arg0 (by decide)).trans (final_arg m c Cert.ReferenceIdeal.main_arg0 (by decide)),
    (hh c Cert.ReferenceIdeal.main_arg1 (by decide)).trans (final_arg m c Cert.ReferenceIdeal.main_arg1 (by decide)),
    (hh c Cert.ReferenceIdeal.main_arg2 (by decide)).trans (final_arg m c Cert.ReferenceIdeal.main_arg2 (by decide)),
    (hh c Cert.ReferenceIdeal.main_arg3 (by decide)).trans (final_arg m c Cert.ReferenceIdeal.main_arg3 (by decide)),
    (hh c Cert.ReferenceIdeal.main_arg4 (by decide)).trans (final_arg m c Cert.ReferenceIdeal.main_arg4 (by decide)),
    (hh c Cert.ReferenceIdeal.main_arg5 (by decide)).trans (final_arg m c Cert.ReferenceIdeal.main_arg5 (by decide)),
    (hh c Cert.ReferenceIdeal.main_arg6 (by decide)).trans (final_arg m c Cert.ReferenceIdeal.main_arg6 (by decide)),
    (hh c Cert.ReferenceIdeal.main_arg7 (by decide)).trans (final_arg m c Cert.ReferenceIdeal.main_arg7 (by decide))⟩) (run_fold m ρ)
end Reference

theorem tables : Ref.tw = tw ∧ Ref.th = th ∧ Ref.tx = tx ∧ Ref.ty = ty := by
  have ew : Ref.tw = tw := funext Tab.row_width
  have eh : Ref.th = th := funext Tab.row_height
  refine ⟨ew, eh, funext fun n => ?_, funext fun n => ?_⟩
  · unfold Ref.tx; rw [ew]; exact Tab.row_ctrX n
  · unfold Ref.ty; rw [eh]; exact Tab.row_ctrY n

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- From the same arguments, the same candidates. -/
theorem fields_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    : Ref.fieldR (launchContents m' c) = fieldK m ρ c := by
  have e : Ref.netV (launchContents m' c) = netK (Cert.Proof.KernelIdeal.W0 m ρ c) := by
    unfold Ref.netV netK
    show netOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [h0, h1, h2, h3, h4, h5, h6, h7]
  obtain ⟨e1, e2, e3, e4⟩ := tables
  unfold Ref.fieldR fieldK
  rw [e, e1, e2, e3, e4]

theorem results_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    : (finalContents Cert.ReferenceIdeal.Value.condOps Cert.ReferenceIdeal.Value.preI Cert.ReferenceIdeal.Value.bodyI Cert.ReferenceIdeal.Value.postI 6000 m' c
        (Proc.devRef .tc Cert.ReferenceIdeal.main_v193) : FVec Ideal ⟨2, ![300, 4]⟩ .f32)
      = Cert.Proof.KernelIdeal.W7 m ρ c (Proc.devRef .tc Cert.KernelIdeal.main_v109) := by
  funext i
  obtain ⟨p, q, rfl⟩ : ∃ (p : Fin 300) (q : Fin 4), i = ix2 p q := ⟨i 0, i 1, by funext d; match d with | ⟨0, _⟩ => rfl | ⟨1, _⟩ => rfl⟩
  refine (Ref.reference_value m' c p q).trans ?_
  rw [fields_eq m ρ m' c h0 h1 h2 h3 h4 h5 h6 h7]
  exact (kernel_value m ρ c p q).symm

end Cert.Proof.Val
-- ==== Proof.lean ====
/- The certificate: the programs' facts, the three frames, the idealization and the value claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.RI.Frame
public import proofs.«01_k».proof.Proof.Val.Value
public import Idealize.ShloMosaic.Adequacy
public import Idealize.ShloMosaic.Init

@[expose] public section

noncomputable section

namespace Cert.Proof

open Idealize.ShloMosaic Idealize.ShloMosaic.TcCoe

theorem claim : Cert.Claim :=
  ⟨Cert.Kernel.Gen.facts, Cert.KernelIdeal.Gen.facts, Cert.ReferenceIdeal.Gen.facts,
    fun m ρ _ => Kernel.frame m ρ, fun m ρ _ => KernelIdeal.frame m ρ, fun m ρ _ => ReferenceIdeal.frame m ρ, trivial,
    fun m ρ m' ρ' _ h => ⟨fun c => KernelIdeal.W7 m ρ c (Proc.devRef .tc Cert.KernelIdeal.main_v109), Val.kernel_run m ρ,
      (θ_run Cert.ReferenceIdeal.defs _ _).mono (fun _ hh c => ⟨(hh c).1.trans (by
        obtain ⟨h0, h1, h2, h3, h4, h5, h6, h7⟩ := h c
        exact Val.results_eq m ρ m' c h0 h1 h2 h3 h4 h5 h6 h7), (hh c).2⟩) (Val.reference_run m' ρ')⟩⟩

end Cert.Proof
end
